-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_heads [hPre_finite_heads : Cert.Pre_finite_heads.Facts] (m : (ℓ : Loc Cert.GqaIdeal.nD Cert.GqaIdeal.τ Cert.GqaIdeal.sig) → Buf (Elt Ideal) ℓ) : Prop :=
  ∀ c : Dev Cert.GqaIdeal.nD,
    (Cert.Pre_finite_heads.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_heads [hPre_finite_heads : Cert.Pre_finite_heads.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_heads.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_finite_heads [hGqaIdeal : Cert.GqaIdeal.Facts] [hPre_finite_heads : Cert.Pre_finite_heads.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_heads m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_finite_heads [hGqaRefIdeal : Cert.GqaRefIdeal.Facts] [hPre_finite_heads : Cert.Pre_finite_heads.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_heads m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7)
      ∧ r.2.mem ((c.tc : Thread Cert.Diff.nD Cert.Diff.τ).loc Cert.Diff.main_arg8) = m ((c.tc : Thread Cert.Diff.nD Cert.Diff.τ).loc Cert.Diff.main_arg8))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def preserves_Gqa_GqaIdeal : Prop :=
  True

def algebraic_GqaIdeal_GqaRefIdeal_pre_finite_heads [hGqaIdeal : Cert.GqaIdeal.Facts] [hGqaRefIdeal : Cert.GqaRefIdeal.Facts] [hPre_finite_heads : Cert.Pre_finite_heads.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_heads m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v26)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v26) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v31) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v29) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v48) = v0 c
          ∧ r.2.mem ((c.tc : Thread Cert.OutprojRefIdeal.nD Cert.OutprojRefIdeal.τ).loc Cert.OutprojRefIdeal.main_v50) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v28)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v28) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v29) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Diff_DiffIdeal : Prop :=
  True

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)
      ∧ m' ((c.tc : Thread Cert.DiffRefIdeal.nD Cert.DiffRefIdeal.τ).loc Cert.DiffRefIdeal.main_arg8) = m ((c.tc : Thread Cert.DiffIdeal.nD Cert.DiffIdeal.τ).loc Cert.DiffIdeal.main_arg8)) →
    ∃ (v0 : (c : Dev Cert.DiffIdeal.nD) → Buf (Elt Ideal) ((c.tc : Thread Cert.DiffIdeal.nD Cert.DiffIdeal.τ).loc Cert.DiffIdeal.main_v34)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v34) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
          ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v75) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7)
          ∧ r.2.mem ((c.tc : Thread Cert.DiffRefIdeal.nD Cert.DiffRefIdeal.τ).loc Cert.DiffRefIdeal.main_arg8) = m' ((c.tc : Thread Cert.DiffRefIdeal.nD Cert.DiffRefIdeal.τ).loc Cert.DiffRefIdeal.main_arg8))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hPre_finite_heads : Cert.Pre_finite_heads.Facts) (hPre_finite_mla : Cert.Pre_finite_mla.Facts) (hPre_finite_diff : Cert.Pre_finite_diff.Facts),
    quiescent_Gqa (hGqa := hGqa)
    ∧ quiescent_GqaIdeal (hGqaIdeal := hGqaIdeal)
    ∧ quiescent_GqaIdeal_pre_finite_heads (hGqaIdeal := hGqaIdeal) (hPre_finite_heads := hPre_finite_heads)
    ∧ quiescent_GqaRefIdeal (hGqaRefIdeal := hGqaRefIdeal)
    ∧ quiescent_GqaRefIdeal_pre_finite_heads (hGqaRefIdeal := hGqaRefIdeal) (hPre_finite_heads := hPre_finite_heads)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ preserves_Gqa_GqaIdeal
    ∧ algebraic_GqaIdeal_GqaRefIdeal_pre_finite_heads (hGqaIdeal := hGqaIdeal) (hGqaRefIdeal := hGqaRefIdeal) (hPre_finite_heads := hPre_finite_heads)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Diff_DiffIdeal
    ∧ algebraic_DiffIdeal_DiffRefIdeal_pre_finite_diff (hDiffIdeal := hDiffIdeal) (hDiffRefIdeal := hDiffRefIdeal) (hPre_finite_diff := hPre_finite_diff)
-- ==== Pre_finite_diff.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S64 : Shape := ⟨1, ![64]⟩
abbrev S128 : Shape := ⟨1, ![128]⟩
abbrev S8x32768x128 : Shape := ⟨3, ![8, 32768, 128]⟩
abbrev S4x2x32768x128 : Shape := ⟨4, ![4, 2, 32768, 128]⟩
abbrev S4x1x32768x64 : Shape := ⟨4, ![4, 1, 32768, 64]⟩
abbrev S_ : Shape := ⟨0, ![]⟩
abbrev S4x32768x128 : Shape := ⟨3, ![4, 32768, 128]⟩
abbrev S4x2048x128 : Shape := ⟨3, ![4, 2048, 128]⟩

class Facts : Prop where
  slices_S26x32768x128_S8x32768x128_6_0_0 : S26x32768x128.Slices ![6, 0, 0] S8x32768x128
  shapeCasts_S8x32768x128_S4x2x32768x128 : S8x32768x128.ShapeCasts S4x2x32768x128
  slices_S4x2x32768x128_S4x1x32768x64_0_0_0_0 : S4x2x32768x128.Slices ![0, 0, 0, 0] S4x1x32768x64
  bcast_S_S4x1x32768x64 : S_.BroadcastsInDim S4x1x32768x64 (![] : Fin 0 → Fin S4x1x32768x64.rank)
  reducesTo_S4x1x32768x64_S_d0_1_2_3 : S4x1x32768x64.ReducesTo [0, 1, 2, 3] S_
  h_S_ : 0 < S_.numel
  slices_S4x2x32768x128_S4x1x32768x64_0_1_0_64 : S4x2x32768x128.Slices ![0, 1, 0, 64] S4x1x32768x64
  slices_S26x32768x128_S4x32768x128_14_0_0 : S26x32768x128.Slices ![14, 0, 0] S4x32768x128
  bcast_S_S4x32768x128 : S_.BroadcastsInDim S4x32768x128 (![] : Fin 0 → Fin S4x32768x128.rank)
  reducesTo_S4x32768x128_S_d0_1_2 : S4x32768x128.ReducesTo [0, 1, 2] S_
  slices_S26x2048x128_S4x2048x128_14_0_0 : S26x2048x128.Slices ![14, 0, 0] S4x2048x128
  bcast_S_S4x2048x128 : S_.BroadcastsInDim S4x2048x128 (![] : Fin 0 → Fin S4x2048x128.rank)
  reducesTo_S4x2048x128_S_d0_1_2 : S4x2048x128.ReducesTo [0, 1, 2] S_
  slices_S10x32768x128_S4x32768x128_2_0_0 : S10x32768x128.Slices ![2, 0, 0] S4x32768x128
  slices_S10x2048x128_S4x2048x128_2_0_0 : S10x2048x128.Slices ![2, 0, 0] S4x2048x128
  bcast_S_S64 : S_.BroadcastsInDim S64 (![] : Fin 0 → Fin S64.rank)
  reducesTo_S64_S_d0 : S64.ReducesTo [0] S_

variable [Facts]

def fn_part3 {F : FTy → Type} [FloatOps F] (main_v12 : IVec S_ 1) (main_v23 : IVec S_ 1) (main_v34 : IVec S_ 1) (main_v43 : IVec S_ 1) (main_v47 : IVec S_ 1) (main_v51 : IVec S_ 1) : IVec S_ 1 :=
  let main_v52 : IVec S_ 1 := andi main_v47 main_v51
  let main_v53 : IVec S_ 1 := andi main_v12 main_v23
  let main_v54 : IVec S_ 1 := andi main_v53 main_v34
  let main_v55 : IVec S_ 1 := andi main_v43 main_v52
  let main_v56 : IVec S_ 1 := andi main_v54 main_v55
  main_v56

def fn_part2 {F : FTy → Type} [FloatOps F] (main_arg5 : FVec F S64 .f32) (main_arg6 : FVec F S64 .f32) (main_arg7 : FVec F S64 .f32) (main_v12 : IVec S_ 1) (main_v23 : IVec S_ 1) (main_v34 : IVec S_ 1) (main_v35 : FVec F S64 .f32) : IVec S_ 1 :=
  let main_cst_10 : FVec F S_ .f32 := constant S_ .f32 0x7F800000#32
  let main_v36 : FVec F S64 .f32 := broadcastInDim S64 ![] bcast_S_S64 main_cst_10
  let main_v37 : IVec S64 1 := cmpf .olt main_v35 main_v36
  let main_c_11 : IVec S_ 1 := constantI S_ 1 1#1
  let main_v38 : IVec S_ 1 := (fun x v => Host.reduce IntOp.andi x v reducesTo_S64_S_d0 h_S_) main_v37 main_c_11
  let main_v39 : FVec F S64 .f32 := Host.absf main_arg5
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  let main_c_13 : IVec S_ 1 := constantI S_ 1 1#1
  let main_v42 : IVec S_ 1 := (fun x v => Host.reduce IntOp.andi x v reducesTo_S64_S_d0 h_S_) main_v41 main_c_13
  let main_v43 : IVec S_ 1 := andi main_v38 main_v42
  let main_v44 : FVec F S64 .f32 := Host.absf main_arg6
  let main_cst_14 : FVec F S_ .f32 := constant S_ .f32 0x7F800000#32
  let main_v45 : FVec F S64 .f32 := broadcastInDim S64 ![] bcast_S_S64 main_cst_14
  let main_v46 : IVec S64 1 := cmpf .olt main_v44 main_v45
  let main_c_15 : IVec S_ 1 := constantI S_ 1 1#1
  let main_v47 : IVec S_ 1 := (fun x v => Host.reduce IntOp.andi x v reducesTo_S64_S_d0 h_S_) main_v46 main_c_15
  let main_v48 : FVec F S64 .f32 := Host.absf main_arg7
  let main_cst_16 : FVec F S_ .f32 := constant S_ .f32 0x7F800000#32
  let main_v49 : FVec F S64 .f32 := broadcastInDim S64 ![] bcast_S_S64 main_cst_16
  let main_v50 : IVec S64 1 := cmpf .olt main_v48 main_v49
  let main_c_17 : IVec S_ 1 := constantI S_ 1 1#1
  let main_v51 : IVec S_ 1 := (fun x v => Host.reduce IntOp.andi x v reducesTo_S64_S_d0 h_S_) main_v50 main_c_17
  fn_part3 (F := F) main_v12 main_v23 main_v34 main_v43 main_v47 main_v51

def fn_part1 {F : FTy → Type} [FloatOps F] (main_arg1 : FVec F S26x2048x128 .f32) (main_arg2 : FVec F S10x32768x128 .f32) (main_arg3 : FVec F S10x2048x128 .f32) (main_arg4 : FVec F S64 .f32) (main_arg5 : FVec F S64 .f32) (main_arg6 : FVec F S64 .f32) (main_arg7 : FVec F S64 .f32) (main_v12 : IVec S_ 1) (main_v17 : IVec S_ 1) : IVec S_ 1 :=
  let main_v18 : FVec F S4x2048x128 .f32 := (extractStridedSlice S4x2048x128 ![14, 0, 0] · slices_S26x2048x128_S4x2048x128_14_0_0) main_arg1
  let main_v19 : FVec F S4x2048x128 .f32 := Host.absf main_v18
  let main_cst_4 : FVec F S_ .f32 := constant S_ .f32 0x7F800000#32
  let main_v20 : FVec F S4x2048x128 .f32 := broadcastInDim S4x2048x128 ![] bcast_S_S4x2048x128 main_cst_4
  let main_v21 : IVec S4x2048x128 1 := cmpf .olt main_v19 main_v20
  let main_c_5 : IVec S_ 1 := constantI S_ 1 1#1
  let main_v22 : IVec S_ 1 := (fun x v => Host.reduce IntOp.andi x v reducesTo_S4x2048x128_S_d0_1_2 h_S_) main_v21 main_c_5
  let main_v23 : IVec S_ 1 := andi main_v17 main_v22
  let main_v24 : FVec F S4x32768x128 .f32 := (extractStridedSlice S4x32768x128 ![2, 0, 0] · slices_S10x32768x128_S4x32768x128_2_0_0) main_arg2
  let main_v25 : FVec F S4x32768x128 .f32 := Host.absf main_v24
  let main_cst_6 : FVec F S_ .f32 := constant S_ .f32 0x7F800000#32
  let main_v26 : FVec F S4x32768x128 .f32 := broadcastInDim S4x32768x128 ![] bcast_S_S4x32768x128 main_cst_6
  let main_v27 : IVec S4x32768x128 1 := cmpf .olt main_v25 main_v26
  let main_c_7 : IVec S_ 1 := constantI S_ 1 1#1
  let main_v28 : IVec S_ 1 := (fun x v => Host.reduce IntOp.andi x v reducesTo_S4x32768x128_S_d0_1_2 h_S_) main_v27 main_c_7
  let main_v29 : FVec F S4x2048x128 .f32 := (extractStridedSlice S4x2048x128 ![2, 0, 0] · slices_S10x2048x128_S4x2048x128_2_0_0) main_arg3
  let main_v30 : FVec F S4x2048x128 .f32 := Host.absf main_v29
  let main_cst_8 : FVec F S_ .f32 := constant S_ .f32 0x7F800000#32
  let main_v31 : FVec F S4x2048x128 .f32 := broadcastInDim S4x2048x128 ![] bcast_S_S4x2048x128 main_cst_8
  let main_v32 : IVec S4x2048x128 1 := cmpf .olt main_v30 main_v31
  let main_c_9 : IVec S_ 1 := constantI S_ 1 1#1
  let main_v33 : IVec S_ 1 := (fun x v => Host.reduce IntOp.andi x v reducesTo_S4x2048x128_S_d0_1_2 h_S_) main_v32 main_c_9
  let main_v34 : IVec S_ 1 := andi main_v28 main_v33
  let main_v35 : FVec F S64 .f32 := Host.absf main_arg4
  fn_part2 (F := F) main_arg5 main_arg6 main_arg7 main_v12 main_v23 main_v34 main_v35

def fn {F : FTy → Type} [FloatOps F] (main_arg0 : FVec F S26x32768x128 .f32) (main_arg1 : FVec F S26x2048x128 .f32) (main_arg2 : FVec F S10x32768x128 .f32) (main_arg3 : FVec F S10x2048x128 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S8x32768x128 .f32 := (extractStridedSlice S8x32768x128 ![6, 0, 0] · slices_S26x32768x128_S8x32768x128_6_0_0) main_arg0
  let main_v1 : FVec F S4x2x32768x128 .f32 := shapeCast S4x2x32768x128 main_v0 shapeCasts_S8x32768x128_S4x2x32768x128
  let main_v2 : FVec F S4x1x32768x64 .f32 := (extractStridedSlice S4x1x32768x64 ![0, 0, 0, 0] · slices_S4x2x32768x128_S4x1x32768x64_0_0_0_0) main_v1
  let main_v3 : FVec F S4x1x32768x64 .f32 := Host.absf main_v2
  let main_cst : FVec F S_ .f32 := constant S_ .f32 0x7F800000#32
  let main_v4 : FVec F S4x1x32768x64 .f32 := broadcastInDim S4x1x32768x64 ![] bcast_S_S4x1x32768x64 main_cst
  let main_v5 : IVec S4x1x32768x64 1 := cmpf .olt main_v3 main_v4
  let main_c : IVec S_ 1 := constantI S_ 1 1#1
  let main_v6 : IVec S_ 1 := (fun x v => Host.reduce IntOp.andi x v reducesTo_S4x1x32768x64_S_d0_1_2_3 h_S_) main_v5 main_c
  let main_v7 : FVec F S4x1x32768x64 .f32 := (extractStridedSlice S4x1x32768x64 ![0, 1, 0, 64] · slices_S4x2x32768x128_S4x1x32768x64_0_1_0_64) main_v1
  let main_v8 : FVec F S4x1x32768x64 .f32 := Host.absf main_v7
  let main_cst_0 : FVec F S_ .f32 := constant S_ .f32 0x7F800000#32
  let main_v9 : FVec F S4x1x32768x64 .f32 := broadcastInDim S4x1x32768x64 ![] bcast_S_S4x1x32768x64 main_cst_0
  let main_v10 : IVec S4x1x32768x64 1 := cmpf .olt main_v8 main_v9
  let main_c_1 : IVec S_ 1 := constantI S_ 1 1#1
  let main_v11 : IVec S_ 1 := (fun x v => Host.reduce IntOp.andi x v reducesTo_S4x1x32768x64_S_d0_1_2_3 h_S_) main_v10 main_c_1
  let main_v12 : IVec S_ 1 := andi main_v6 main_v11
  let main_v13 : FVec F S4x32768x128 .f32 := (extractStridedSlice S4x32768x128 ![14, 0, 0] · slices_S26x32768x128_S4x32768x128_14_0_0) main_arg0
  let main_v14 : FVec F S4x32768x128 .f32 := Host.absf main_v13
  let main_cst_2 : FVec F S_ .f32 := constant S_ .f32 0x7F800000#32
  let main_v15 : FVec F S4x32768x128 .f32 := broadcastInDim S4x32768x128 ![] bcast_S_S4x32768x128 main_cst_2
  let main_v16 : IVec S4x32768x128 1 := cmpf .olt main_v14 main_v15
  let main_c_3 : IVec S_ 1 := constantI S_ 1 1#1
  let main_v17 : IVec S_ 1 := (fun x v => Host.reduce IntOp.andi x v reducesTo_S4x32768x128_S_d0_1_2 h_S_) main_v16 main_c_3
  fn_part1 (F := F) main_arg1 main_arg2 main_arg3 main_arg4 main_arg5 main_arg6 main_arg7 main_v12 main_v17
-- ==== Pre_finite_heads.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S6x32768x128 : Shape := ⟨3, ![6, 32768, 128]⟩
abbrev S_ : Shape := ⟨0, ![]⟩
abbrev S2x2048x128 : Shape := ⟨3, ![2, 2048, 128]⟩

class Facts : Prop where
  slices_S26x32768x128_S6x32768x128_0_0_0 : S26x32768x128.Slices ![0, 0, 0] S6x32768x128
  bcast_S_S6x32768x128 : S_.BroadcastsInDim S6x32768x128 (![] : Fin 0 → Fin S6x32768x128.rank)
  reducesTo_S6x32768x128_S_d0_1_2 : S6x32768x128.ReducesTo [0, 1, 2] S_
  h_S_ : 0 < S_.numel
  slices_S26x2048x128_S2x2048x128_4_0_0 : S26x2048x128.Slices ![4, 0, 0] S2x2048x128
  bcast_S_S2x2048x128 : S_.BroadcastsInDim S2x2048x128 (![] : Fin 0 → Fin S2x2048x128.rank)
  reducesTo_S2x2048x128_S_d0_1_2 : S2x2048x128.ReducesTo [0, 1, 2] S_

variable [Facts]

def fn {F : FTy → Type} [FloatOps F] (main_arg0 : FVec F S26x32768x128 .f32) (main_arg1 : FVec F S26x2048x128 .f32) (main_arg2 : FVec F S10x32768x128 .f32) (main_arg3 : FVec F S10x2048x128 .f32) : IVec S_ 1 :=
  let main_v0 : FVec F S6x32768x128 .f32 := (extractStridedSlice S6x32768x128 ![0, 0, 0] · slices_S26x32768x128_S6x32768x128_0_0_0) main_arg0
  let main_v1 : FVec F S6x32768x128 .f32 := Host.absf main_v0
  let main_cst : FVec F S_ .f32 := constant S_ .f32 0x7F800000#32
  let main_v2 : FVec F S6x32768x128 .f32 := broadcastInDim S6x32768x128 ![] bcast_S_S6x32768x128 main_cst
  let main_v3 : IVec S6x32768x128 1 := cmpf .olt main_v1 main_v2
  let main_c : IVec S_ 1 := constantI S_ 1 1#1
  let main_v4 : IVec S_ 1 := (fun x v => Host.reduce IntOp.andi x v reducesTo_S6x32768x128_S_d0_1_2 h_S_) main_v3 main_c
  let main_v5 : FVec F S2x2048x128 .f32 := (extractStridedSlice S2x2048x128 ![4, 0, 0] · slices_S26x2048x128_S2x2048x128_4_0_0) main_arg1
  let main_v6 : FVec F S2x2048x128 .f32 := Host.absf main_v5
  let main_cst_0 : FVec F S_ .f32 := constant S_ .f32 0x7F800000#32
  let main_v7 : FVec F S2x2048x128 .f32 := broadcastInDim S2x2048x128 ![] bcast_S_S2x2048x128 main_cst_0
  let main_v8 : IVec S2x2048x128 1 := cmpf .olt main_v6 main_v7
  let main_c_1 : IVec S_ 1 := constantI S_ 1 1#1
  let main_v9 : IVec S_ 1 := (fun x v => Host.reduce IntOp.andi x v reducesTo_S2x2048x128_S_d0_1_2 h_S_) main_v8 main_c_1
  let main_v10 : IVec S_ 1 := andi main_v4 main_v9
  main_v10
-- ==== Pre_finite_mla.lean ====
abbrev S8x32768x192 : Shape := ⟨3, ![8, 32768, 192]⟩
abbrev S8x2048x192 : Shape := ⟨3, ![8, 2048, 192]⟩
abbrev S10x32768x128 : Shape := ⟨3, ![10, 32768, 128]⟩
abbrev S10x2048x128 : Shape := ⟨3, ![10, 2048, 128]⟩
abbrev S_ : Shape := ⟨0, ![]⟩
abbrev S4x2048x192 : Shape := ⟨3, ![4, 2048, 192]⟩

class Facts : Prop where
  bcast_S_S8x32768x192 : S_.BroadcastsInDim S8x32768x192 (![] : Fin 0 → Fin S8x32768x192.rank)
  reducesTo_S8x32768x192_S_d0_1_2 : S8x32768x192.ReducesTo [0, 1, 2] S_
  h_S_ : 0 < S_.numel
  slices_S8x2048x192_S4x2048x192_4_0_0 : S8x2048x192.Slices ![4, 0, 0] S4x2048x192
  bcast_S_S4x2048x192 : S_.BroadcastsInDim S4x2048x192 (![] : Fin 0 → Fin S4x2048x192.rank)
  reducesTo_S4x2048x192_S_d0_1_2 : S4x2048x192.ReducesTo [0, 1, 2] S_

variable [Facts]

def fn {F : FTy → Type} [FloatOps F] (main_arg0 : FVec F S8x32768x192 .f32) (main_arg1 : FVec F S8x2048x192 .f32) (main_arg2 : FVec F S10x32768x128 .f32) (main_arg3 : FVec F S10x2048x128 .f32) : IVec S_ 1 :=
  let main_v0 : FVec F S8x32768x192 .f32 := Host.absf main_arg0
  let main_cst : FVec F S_ .f32 := constant S_ .f32 0x7F800000#32
  let main_v1 : FVec F S8x32768x192 .f32 := broadcastInDim S8x32768x192 ![] bcast_S_S8x32768x192 main_cst
  let main_v2 : IVec S8x32768x192 1 := cmpf .olt main_v0 main_v1
  let main_c : IVec S_ 1 := constantI S_ 1 1#1
  let main_v3 : IVec S_ 1 := (fun x v => Host.reduce IntOp.andi x v reducesTo_S8x32768x192_S_d0_1_2 h_S_) main_v2 main_c
  let main_v4 : FVec F S4x2048x192 .f32 := (extractStridedSlice S4x2048x192 ![4, 0, 0] · slices_S8x2048x192_S4x2048x192_4_0_0) main_arg1
  let main_v5 : FVec F S4x2048x192 .f32 := Host.absf main_v4
  let main_cst_0 : FVec F S_ .f32 := constant S_ .f32 0x7F800000#32
  let main_v6 : FVec F S4x2048x192 .f32 := broadcastInDim S4x2048x192 ![] bcast_S_S4x2048x192 main_cst_0
  let main_v7 : IVec S4x2048x192 1 := cmpf .olt main_v5 main_v6
  let main_c_1 : IVec S_ 1 := constantI S_ 1 1#1
  let main_v8 : IVec S_ 1 := (fun x v => Host.reduce IntOp.andi x v reducesTo_S4x2048x192_S_d0_1_2 h_S_) main_v7 main_c_1
  let main_v9 : IVec S_ 1 := andi main_v3 main_v8
  main_v9
-- ==== Gqa.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S_ : Shape := ⟨0, ![]⟩
abbrev S4x32768x128 : Shape := ⟨3, ![4, 32768, 128]⟩
abbrev S22x32768x128 : Shape := ⟨3, ![22, 32768, 128]⟩
abbrev S4x2048x128 : Shape := ⟨3, ![4, 2048, 128]⟩
abbrev S22x2048x128 : Shape := ⟨3, ![22, 2048, 128]⟩
abbrev S10x64x512x128 : Shape := ⟨4, ![10, 64, 512, 128]⟩
abbrev S10x64x128x512 : Shape := ⟨4, ![10, 64, 128, 512]⟩
abbrev S10x64x16x512 : Shape := ⟨4, ![10, 64, 16, 512]⟩
abbrev S10x64x144x512 : Shape := ⟨4, ![10, 64, 144, 512]⟩
abbrev S10x8x256x128 : Shape := ⟨4, ![10, 8, 256, 128]⟩
abbrev S10x8x128x256 : Shape := ⟨4, ![10, 8, 128, 256]⟩
abbrev S10x8x16x256 : Shape := ⟨4, ![10, 8, 16, 256]⟩
abbrev S10x8x144x256 : Shape := ⟨4, ![10, 8, 144, 256]⟩
abbrev S32768x512 : Shape := ⟨2, ![32768, 512]⟩
abbrev S2x1024x128 : Shape := ⟨3, ![2, 1024, 128]⟩
abbrev S1x256x128 : Shape := ⟨3, ![1, 256, 128]⟩
abbrev S1x1x144x256 : Shape := ⟨4, ![1, 1, 144, 256]⟩
abbrev S1x4096x128 : Shape := ⟨3, ![1, 4096, 128]⟩
abbrev S1x8x144x512 : Shape := ⟨4, ![1, 8, 144, 512]⟩
abbrev S1024x256 : Shape := ⟨2, ![1024, 256]⟩
abbrev S8x1x256 : Shape := ⟨3, ![8, 1, 256]⟩
abbrev S8x144x256 : Shape := ⟨3, ![8, 144, 256]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S144x256 : Shape := ⟨2, ![144, 256]⟩
abbrev S1x1x256 : Shape := ⟨3, ![1, 1, 256]⟩
abbrev S1x144x256 : Shape := ⟨3, ![1, 144, 256]⟩
abbrev S1x1x144x512 : Shape := ⟨4, ![1, 1, 144, 512]⟩
abbrev S144x512 : Shape := ⟨2, ![144, 512]⟩
abbrev S1x128x256 : Shape := ⟨3, ![1, 128, 256]⟩
abbrev S128x256 : Shape := ⟨2, ![128, 256]⟩

abbrev nBuf : Space → Nat
  | .hbm => 37
  | .vmem => 14
  | .smem => 0
  | _ => 0

abbrev bufTy : (tb : Table) → Fin (tcTables nBuf tb) → BufTy
  | .hbm, ⟨0, _⟩ => ⟨S26x32768x128, .f32⟩
  | .hbm, ⟨1, _⟩ => ⟨S26x2048x128, .f32⟩
  | .hbm, ⟨2, _⟩ => ⟨S10x32768x128, .f32⟩
  | .hbm, ⟨3, _⟩ => ⟨S10x2048x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x32768x128, .f32⟩
  | .hbm, ⟨9, _⟩ => ⟨S4x32768x128, .f32⟩
  | .hbm, ⟨10, _⟩ => ⟨S4x32768x128, .f32⟩
  | .hbm, ⟨11, _⟩ => ⟨S22x32768x128, .f32⟩
  | .hbm, ⟨12, _⟩ => ⟨S26x32768x128, .f32⟩
  | .hbm, ⟨13, _⟩ => ⟨S26x32768x128, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x2048x128, .f32⟩
  | .hbm, ⟨19, _⟩ => ⟨S4x2048x128, .f32⟩
  | .hbm, ⟨20, _⟩ => ⟨S4x2048x128, .f32⟩
  | .hbm, ⟨21, _⟩ => ⟨S22x2048x128, .f32⟩
  | .hbm, ⟨22, _⟩ => ⟨S26x2048x128, .f32⟩
  | .hbm, ⟨23, _⟩ => ⟨S26x2048x128, .bf16⟩
  | .hbm, ⟨24, _⟩ => ⟨S10x32768x128, .bf16⟩
  | .hbm, ⟨25, _⟩ => ⟨S10x64x512x128, .bf16⟩
  | .hbm, ⟨26, _⟩ => ⟨S10x64x128x512, .bf16⟩
  | .hbm, ⟨27, _⟩ => ⟨S_, .bf16⟩
  | .hbm, ⟨28, _⟩ => ⟨S10x64x16x512, .bf16⟩
  | .hbm, ⟨29, _⟩ => ⟨S10x64x144x512, .bf16⟩
  | .hbm, ⟨30, _⟩ => ⟨S10x2048x128, .bf16⟩
  | .hbm, ⟨31, _⟩ => ⟨S10x8x256x128, .bf16⟩
  | .hbm, ⟨32, _⟩ => ⟨S10x8x128x256, .bf16⟩
  | .hbm, ⟨33, _⟩ => ⟨S_, .bf16⟩
  | .hbm, ⟨34, _⟩ => ⟨S10x8x16x256, .bf16⟩
  | .hbm, ⟨35, _⟩ => ⟨S10x8x144x256, .bf16⟩
  | .hbm, ⟨36, _⟩ => ⟨S32768x512, .bf16⟩
  | .local _ .vmem, ⟨0, _⟩ => ⟨S2x1024x128, .bf16⟩
  | .local _ .vmem, ⟨1, _⟩ => ⟨S2x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x1x144x256, .bf16⟩
  | .local _ .vmem, ⟨5, _⟩ => ⟨S1x1x144x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x8x144x512, .bf16⟩
  | .local _ .vmem, ⟨9, _⟩ => ⟨S1x8x144x512, .bf16⟩
  | .local _ .vmem, ⟨10, _⟩ => ⟨S1024x256, .bf16⟩
  | .local _ .vmem, ⟨11, _⟩ => ⟨S1024x256, .bf16⟩
  | .local _ .vmem, ⟨12, _⟩ => ⟨S8x1x256, .f32⟩
  | .local _ .vmem, ⟨13, _⟩ => ⟨S8x144x256, .f32⟩
  | _, _ => ⟨S26x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c4_i32 : BitVec 32 := 4#32
  let v1 : BitVec 32 := Scalar.muli arg0 c4_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S4x32768x128 : Shape := ⟨3, ![4, 32768, 128]⟩
abbrev S4x8x4096x128 : Shape := ⟨4, ![4, 8, 4096, 128]⟩
abbrev S2x2x8x4096x128 : Shape := ⟨5, ![2, 2, 8, 4096, 128]⟩
abbrev S2x2048x128 : Shape := ⟨3, ![2, 2048, 128]⟩
abbrev S2x8x256x128 : Shape := ⟨4, ![2, 8, 256, 128]⟩
abbrev S2x32768x128 : Shape := ⟨3, ![2, 32768, 128]⟩
abbrev S2x8x4096x128 : Shape := ⟨4, ![2, 8, 4096, 128]⟩
abbrev S2x8x4352x128 : Shape := ⟨4, ![2, 8, 4352, 128]⟩
abbrev S2x8x4352x2x4096 : Shape := ⟨5, ![2, 8, 4352, 2, 4096]⟩
abbrev S2x2x8x4096x4352 : Shape := ⟨5, ![2, 2, 8, 4096, 4352]⟩
abbrev S_ : Shape := ⟨0, ![]⟩
abbrev S2x2x8x4096 : Shape := ⟨4, ![2, 2, 8, 4096]⟩
abbrev S2x2x8x4096x1 : Shape := ⟨5, ![2, 2, 8, 4096, 1]⟩
abbrev S8x2x128x2x4096 : Shape := ⟨5, ![8, 2, 128, 2, 4096]⟩
abbrev S8x4096x2x2x128 : Shape := ⟨5, ![8, 4096, 2, 2, 128]⟩
abbrev S32768x512 : Shape := ⟨2, ![32768, 512]⟩

abbrev nBuf : Space → Nat
  | .hbm => 40
  | .vmem => 0
  | .smem => 0
  | _ => 0

abbrev bufTy : (tb : Table) → Fin (tcTables nBuf tb) → BufTy
  | .hbm, ⟨0, _⟩ => ⟨S26x32768x128, .f32⟩
  | .hbm, ⟨1, _⟩ => ⟨S26x2048x128, .f32⟩
  | .hbm, ⟨2, _⟩ => ⟨S10x32768x128, .f32⟩
  | .hbm, ⟨3, _⟩ => ⟨S10x2048x128, .f32⟩
  | .hbm, ⟨4, _⟩ => ⟨S4x32768x128, .f32⟩
  | .hbm, ⟨5, _⟩ => ⟨S4x8x4096x128, .f32⟩
  | .hbm, ⟨6, _⟩ => ⟨S2x2x8x4096x128, .f32⟩
  | .hbm, ⟨7, _⟩ => ⟨S2x2048x128, .f32⟩
  | .hbm, ⟨8, _⟩ => ⟨S2x8x256x128, .f32⟩
  | .hbm, ⟨9, _⟩ => ⟨S2x32768x128, .f32⟩
  | .hbm, ⟨10, _⟩ => ⟨S2x8x4096x128, .f32⟩
  | .hbm, ⟨11, _⟩ => ⟨S2x8x4352x128, .f32⟩
  | .hbm, ⟨12, _⟩ => ⟨S2x2048x128, .f32⟩
  | .hbm, ⟨13, _⟩ => ⟨S2x8x256x128, .f32⟩
  | .hbm, ⟨14, _⟩ => ⟨S2x32768x128, .f32⟩
  | .hbm, ⟨15, _⟩ => ⟨S2x8x4096x128, .f32⟩
  | .hbm, ⟨16, _⟩ => ⟨S2x8x4352x128, .f32⟩
  | .hbm, ⟨17, _⟩ => ⟨S2x8x4352x2x4096, .f32⟩
  | .hbm, ⟨18, _⟩ => ⟨S2x2x8x4096x4352, .f32⟩
  | .hbm, ⟨19, _⟩ => ⟨S_, .f32⟩
  | .hbm, ⟨20, _⟩ => ⟨S2x2x8x4096x4352, .f32⟩
  | .hbm, ⟨21, _⟩ => ⟨S2x2x8x4096x4352, .f32⟩
  | .hbm, ⟨22, _⟩ => ⟨S_, .f32⟩
  | .hbm, ⟨23, _⟩ => ⟨S2x2x8x4096, .f32⟩
  | .hbm, ⟨24, _⟩ => ⟨S_, .f32⟩
  | .hbm, ⟨25, _⟩ => ⟨S2x2x8x4096, .f32⟩
  | .hbm, ⟨26, _⟩ => ⟨S2x2x8x4096, .f32⟩
  | .hbm, ⟨27, _⟩ => ⟨S2x2x8x4096x1, .f32⟩
  | .hbm, ⟨28, _⟩ => ⟨S2x2x8x4096x4352, .f32⟩
  | .hbm, ⟨29, _⟩ => ⟨S2x2x8x4096x4352, .f32⟩
  | .hbm, ⟨30, _⟩ => ⟨S2x2x8x4096x4352, .f32⟩
  | .hbm, ⟨31, _⟩ => ⟨S_, .f32⟩
  | .hbm, ⟨32, _⟩ => ⟨S2x2x8x4096, .f32⟩
  | .hbm, ⟨33, _⟩ => ⟨S2x2x8x4096x1, .f32⟩
  | .hbm, ⟨34, _⟩ => ⟨S2x2x8x4096x4352, .f32⟩
  | .hbm, ⟨35, _⟩ => ⟨S2x2x8x4096x4352, .f32⟩
  | .hbm, ⟨36, _⟩ => ⟨S8x2x128x2x4096, .f32⟩
  | .hbm, ⟨37, _⟩ => ⟨S8x4096x2x2x128, .f32⟩
  | .hbm, ⟨38, _⟩ => ⟨S32768x512, .f32⟩
  | .hbm, ⟨39, _⟩ => ⟨S32768x512, .bf16⟩
  | _, _ => ⟨S26x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Ffn.lean ====
abbrev S32768x2048 : Shape := ⟨2, ![32768, 2048]⟩
abbrev S2048x5632 : Shape := ⟨2, ![2048, 5632]⟩
abbrev S5632x2048 : Shape := ⟨2, ![5632, 2048]⟩
abbrev S16x6x2048 : Shape := ⟨3, ![16, 6, 2048]⟩
abbrev S2048 : Shape := ⟨1, ![2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1x6x2048 : Shape := ⟨3, ![1, 6, 2048]⟩
abbrev S256x256 : Shape := ⟨2, ![256, 256]⟩
abbrev S1x1x2048 : Shape := ⟨3, ![1, 1, 2048]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S16x6x2048, .f32⟩
  | .hbm, ⟨6, _⟩ => ⟨S2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .f32⟩
  | .local _ .vmem, ⟨9, _⟩ => ⟨S1024x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S32768x2048 : Shape := ⟨2, ![32768, 2048]⟩
abbrev S2048x5632 : Shape := ⟨2, ![2048, 5632]⟩
abbrev S5632x2048 : Shape := ⟨2, ![5632, 2048]⟩
abbrev S16x6x2048 : Shape := ⟨3, ![16, 6, 2048]⟩
abbrev S2048 : Shape := ⟨1, ![2048]⟩
abbrev S8x4096x2048 : Shape := ⟨3, ![8, 4096, 2048]⟩
abbrev S8x1x2048 : Shape := ⟨3, ![8, 1, 2048]⟩
abbrev S8x2048 : Shape := ⟨2, ![8, 2048]⟩
abbrev S8x4096x5632 : Shape := ⟨3, ![8, 4096, 5632]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S16x6x2048, .f32⟩
  | .hbm, ⟨6, _⟩ => ⟨S2048, .f32⟩
  | .hbm, ⟨7, _⟩ => ⟨S32768x2048, .f32⟩
  | .hbm, ⟨8, _⟩ => ⟨S8x4096x2048, .f32⟩
  | .hbm, ⟨9, _⟩ => ⟨S8x4096x2048, .f32⟩
  | .hbm, ⟨10, _⟩ => ⟨S8x1x2048, .f32⟩
  | .hbm, ⟨11, _⟩ => ⟨S8x2048, .f32⟩
  | .hbm, ⟨12, _⟩ => ⟨S8x1x2048, .f32⟩
  | .hbm, ⟨13, _⟩ => ⟨S8x4096x5632, .f32⟩
  | .hbm, ⟨14, _⟩ => ⟨S8x4096x5632, .f32⟩
  | .hbm, ⟨15, _⟩ => ⟨S8x4096x5632, .f32⟩
  | .hbm, ⟨16, _⟩ => ⟨S_, .f32⟩
  | .hbm, ⟨17, _⟩ => ⟨S8x4096x5632, .f32⟩
  | .hbm, ⟨18, _⟩ => ⟨S8x4096x5632, .f32⟩
  | .hbm, ⟨19, _⟩ => ⟨S_, .f32⟩
  | .hbm, ⟨20, _⟩ => ⟨S8x4096x5632, .f32⟩
  | .hbm, ⟨21, _⟩ => ⟨S8x4096x5632, .f32⟩
  | .hbm, ⟨22, _⟩ => ⟨S8x4096x5632, .f32⟩
  | .hbm, ⟨23, _⟩ => ⟨S8x4096x5632, .f32⟩
  | .hbm, ⟨24, _⟩ => ⟨S8x4096x5632, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x2048, .f32⟩
  | .hbm, ⟨38, _⟩ => ⟨S8x4096x2048, .f32⟩
  | .hbm, ⟨39, _⟩ => ⟨S1x1x2048, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Inproj.lean ====
abbrev S32768x2048 : Shape := ⟨2, ![32768, 2048]⟩
abbrev S16x6x2048 : Shape := ⟨3, ![16, 6, 2048]⟩
abbrev S2048 : Shape := ⟨1, ![2048]⟩
abbrev S2048x4416 : Shape := ⟨2, ![2048, 4416]⟩
abbrev S_ : Shape := ⟨0, ![]⟩
abbrev S2048x4608 : Shape := ⟨2, ![2048, 4608]⟩
abbrev S1x2048 : Shape := ⟨2, ![1, 2048]⟩
abbrev S32768x4608 : Shape := ⟨2, ![32768, 4608]⟩
abbrev S1024x2048 : Shape := ⟨2, ![1024, 2048]⟩
abbrev S1x6x2048 : Shape := ⟨3, ![1, 6, 2048]⟩
abbrev S2048x1536 : Shape := ⟨2, ![2048, 1536]⟩
abbrev S1024x1536 : Shape := ⟨2, ![1024, 1536]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1536 : Shape := ⟨2, ![256, 1536]⟩

abbrev nBuf : Space → Nat
  | .hbm => 10
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S2048, .f32⟩
  | .hbm, ⟨3, _⟩ => ⟨S2048x4416, .f32⟩
  | .hbm, ⟨4, _⟩ => ⟨S_, .i32⟩
  | .hbm, ⟨5, _⟩ => ⟨S_, .f32⟩
  | .hbm, ⟨6, _⟩ => ⟨S2048x4608, .f32⟩
  | .hbm, ⟨7, _⟩ => ⟨S2048x4608, .bf16⟩
  | .hbm, ⟨8, _⟩ => ⟨S1x2048, .f32⟩
  | .hbm, ⟨9, _⟩ => ⟨S32768x4608, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1536, .bf16⟩
  | .local _ .vmem, ⟨6, _⟩ => ⟨S2048x1536, .bf16⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S32768x2048 : Shape := ⟨2, ![32768, 2048]⟩
abbrev S16x6x2048 : Shape := ⟨3, ![16, 6, 2048]⟩
abbrev S2048 : Shape := ⟨1, ![2048]⟩
abbrev S2048x4416 : Shape := ⟨2, ![2048, 4416]⟩
abbrev S8x6x2048 : Shape := ⟨3, ![8, 6, 2048]⟩
abbrev S8x6x1x2048 : Shape := ⟨4, ![8, 6, 1, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x1x2048 : Shape := ⟨4, ![8, 1, 1, 2048]⟩
abbrev S8x1x2048 : Shape := ⟨3, ![8, 1, 2048]⟩
abbrev S8x4096x4416 : Shape := ⟨3, ![8, 4096, 4416]⟩
abbrev S32768x4416 : Shape := ⟨2, ![32768, 4416]⟩
abbrev S32768x4608 : Shape := ⟨2, ![32768, 4608]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S2048, .f32⟩
  | .hbm, ⟨3, _⟩ => ⟨S2048x4416, .f32⟩
  | .hbm, ⟨4, _⟩ => ⟨S8x6x2048, .f32⟩
  | .hbm, ⟨5, _⟩ => ⟨S8x6x1x2048, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x1x1x2048, .f32⟩
  | .hbm, ⟨24, _⟩ => ⟨S8x1x2048, .f32⟩
  | .hbm, ⟨25, _⟩ => ⟨S8x1x1x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x4416, .f32⟩
  | .hbm, ⟨35, _⟩ => ⟨S32768x4416, .f32⟩
  | .hbm, ⟨36, _⟩ => ⟨S_, .i32⟩
  | .hbm, ⟨37, _⟩ => ⟨S_, .f32⟩
  | .hbm, ⟨38, _⟩ => ⟨S32768x4608, .f32⟩
  | .hbm, ⟨39, _⟩ => ⟨S32768x4608, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Outproj.lean ====
abbrev S32768x512 : Shape := ⟨2, ![32768, 512]⟩
abbrev S2048x2048 : Shape := ⟨2, ![2048, 2048]⟩
abbrev S32768x2048 : Shape := ⟨2, ![32768, 2048]⟩
abbrev S16x6x2048 : Shape := ⟨3, ![16, 6, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S1x6x2048 : Shape := ⟨3, ![1, 6, 2048]⟩
abbrev S256x512 : Shape := ⟨2, ![256, 512]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S2048x2048, .f32⟩
  | .hbm, ⟨5, _⟩ => ⟨S32768x2048, .f32⟩
  | .hbm, ⟨6, _⟩ => ⟨S16x6x2048, .f32⟩
  | .hbm, ⟨7, _⟩ => ⟨S2048, .f32⟩
  | .hbm, ⟨8, _⟩ => ⟨S2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S1x6x2048, .f32⟩
  | .local _ .vmem, ⟨12, _⟩ => ⟨S1x6x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S32768x512 : Shape := ⟨2, ![32768, 512]⟩
abbrev S2048x2048 : Shape := ⟨2, ![2048, 2048]⟩
abbrev S32768x2048 : Shape := ⟨2, ![32768, 2048]⟩
abbrev S16x6x2048 : Shape := ⟨3, ![16, 6, 2048]⟩
abbrev S2048 : Shape := ⟨1, ![2048]⟩
abbrev S8x6x2048 : Shape := ⟨3, ![8, 6, 2048]⟩
abbrev S8x6x1x2048 : Shape := ⟨4, ![8, 6, 1, 2048]⟩
abbrev S8x4096x2048 : Shape := ⟨3, ![8, 4096, 2048]⟩
abbrev S8x1x1x2048 : Shape := ⟨4, ![8, 1, 1, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S2048x2048, .f32⟩
  | .hbm, ⟨5, _⟩ => ⟨S32768x2048, .f32⟩
  | .hbm, ⟨6, _⟩ => ⟨S16x6x2048, .f32⟩
  | .hbm, ⟨7, _⟩ => ⟨S2048, .f32⟩
  | .hbm, ⟨8, _⟩ => ⟨S2048, .f32⟩
  | .hbm, ⟨9, _⟩ => ⟨S8x6x2048, .f32⟩
  | .hbm, ⟨10, _⟩ => ⟨S8x6x1x2048, .f32⟩
  | .hbm, ⟨11, _⟩ => ⟨S32768x2048, .bf16⟩
  | .hbm, ⟨12, _⟩ => ⟨S32768x2048, .f32⟩
  | .hbm, ⟨13, _⟩ => ⟨S8x4096x2048, .f32⟩
  | .hbm, ⟨14, _⟩ => ⟨S8x4096x2048, .f32⟩
  | .hbm, ⟨15, _⟩ => ⟨S8x1x1x2048, .f32⟩
  | .hbm, ⟨16, _⟩ => ⟨S8x1x2048, .f32⟩
  | .hbm, ⟨17, _⟩ => ⟨S8x4096x2048, .f32⟩
  | .hbm, ⟨18, _⟩ => ⟨S8x4096x2048, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x2048, .f32⟩
  | .hbm, ⟨30, _⟩ => ⟨S8x4096x2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x2048, .f32⟩
  | .hbm, ⟨49, _⟩ => ⟨S8x4096x2048, .f32⟩
  | .hbm, ⟨50, _⟩ => ⟨S1x1x2048, .f32⟩
  | .hbm, ⟨51, _⟩ => ⟨S8x4096x2048, .f32⟩
  | .hbm, ⟨52, _⟩ => ⟨S8x4096x2048, .f32⟩
  | .hbm, ⟨53, _⟩ => ⟨S8x1x1x2048, .f32⟩
  | .hbm, ⟨54, _⟩ => ⟨S8x1x2048, .f32⟩
  | .hbm, ⟨55, _⟩ => ⟨S8x1x1x2048, .f32⟩
  | .hbm, ⟨56, _⟩ => ⟨S8x1x2048, .f32⟩
  | .hbm, ⟨57, _⟩ => ⟨S_, .f32⟩
  | .hbm, ⟨58, _⟩ => ⟨S8x1x2048, .f32⟩
  | .hbm, ⟨59, _⟩ => ⟨S8x1x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S8x4096x2048, .f32⟩
  | .hbm, ⟨64, _⟩ => ⟨S32768x2048, .f32⟩
  | .hbm, ⟨65, _⟩ => ⟨S32768x2048, .f32⟩
  | .hbm, ⟨66, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Mla.lean ====
abbrev S8x32768x192 : Shape := ⟨3, ![8, 32768, 192]⟩
abbrev S8x2048x192 : Shape := ⟨3, ![8, 2048, 192]⟩
abbrev S10x32768x128 : Shape := ⟨3, ![10, 32768, 128]⟩
abbrev S10x2048x128 : Shape := ⟨3, ![10, 2048, 128]⟩
abbrev S_ : Shape := ⟨0, ![]⟩
abbrev S8x32768x256 : Shape := ⟨3, ![8, 32768, 256]⟩
abbrev S4x32768x256 : Shape := ⟨3, ![4, 32768, 256]⟩
abbrev S8x2048x256 : Shape := ⟨3, ![8, 2048, 256]⟩
abbrev S4x2048x256 : Shape := ⟨3, ![4, 2048, 256]⟩
abbrev S10x64x512x128 : Shape := ⟨4, ![10, 64, 512, 128]⟩
abbrev S10x64x128x512 : Shape := ⟨4, ![10, 64, 128, 512]⟩
abbrev S10x64x16x512 : Shape := ⟨4, ![10, 64, 16, 512]⟩
abbrev S10x64x144x512 : Shape := ⟨4, ![10, 64, 144, 512]⟩
abbrev S10x8x256x128 : Shape := ⟨4, ![10, 8, 256, 128]⟩
abbrev S10x8x128x256 : Shape := ⟨4, ![10, 8, 128, 256]⟩
abbrev S10x8x16x256 : Shape := ⟨4, ![10, 8, 16, 256]⟩
abbrev S10x8x144x256 : Shape := ⟨4, ![10, 8, 144, 256]⟩
abbrev S32768x512 : Shape := ⟨2, ![32768, 512]⟩
abbrev S1x2048x256 : Shape := ⟨3, ![1, 2048, 256]⟩
abbrev S1x256x256 : Shape := ⟨3, ![1, 256, 256]⟩
abbrev S1x1x144x256 : Shape := ⟨4, ![1, 1, 144, 256]⟩
abbrev S1x4096x256 : Shape := ⟨3, ![1, 4096, 256]⟩
abbrev S1x8x144x512 : Shape := ⟨4, ![1, 8, 144, 512]⟩
abbrev S2048x128 : Shape := ⟨2, ![2048, 128]⟩
abbrev S8x1x256 : Shape := ⟨3, ![8, 1, 256]⟩
abbrev S8x144x256 : Shape := ⟨3, ![8, 144, 256]⟩
abbrev S256x256 : Shape := ⟨2, ![256, 256]⟩
abbrev S1x512x256 : Shape := ⟨3, ![1, 512, 256]⟩
abbrev S512x256 : Shape := ⟨2, ![512, 256]⟩
abbrev S256 : Shape := ⟨1, ![256]⟩
abbrev S1x256 : Shape := ⟨2, ![1, 256]⟩
abbrev S144x256 : Shape := ⟨2, ![144, 256]⟩
abbrev S1x1x256 : Shape := ⟨3, ![1, 1, 256]⟩
abbrev S1x144x256 : Shape := ⟨3, ![1, 144, 256]⟩
abbrev S1x1x144x512 : Shape := ⟨4, ![1, 1, 144, 512]⟩
abbrev S144x512 : Shape := ⟨2, ![144, 512]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 43
  | .vmem => 14
  | .smem => 0
  | _ => 0

abbrev bufTy : (tb : Table) → Fin (tcTables nBuf tb) → BufTy
  | .hbm, ⟨0, _⟩ => ⟨S8x32768x192, .f32⟩
  | .hbm, ⟨1, _⟩ => ⟨S8x2048x192, .f32⟩
  | .hbm, ⟨2, _⟩ => ⟨S10x32768x128, .f32⟩
  | .hbm, ⟨3, _⟩ => ⟨S10x2048x128, .f32⟩
  | .hbm, ⟨4, _⟩ => ⟨S_, .i32⟩
  | .hbm, ⟨5, _⟩ => ⟨S_, .f32⟩
  | .hbm, ⟨6, _⟩ => ⟨S8x32768x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x32768x256, .f32⟩
  | .hbm, ⟨12, _⟩ => ⟨S4x32768x256, .f32⟩
  | .hbm, ⟨13, _⟩ => ⟨S4x32768x256, .f32⟩
  | .hbm, ⟨14, _⟩ => ⟨S4x32768x256, .f32⟩
  | .hbm, ⟨15, _⟩ => ⟨S8x32768x256, .f32⟩
  | .hbm, ⟨16, _⟩ => ⟨S8x32768x256, .bf16⟩
  | .hbm, ⟨17, _⟩ => ⟨S_, .i32⟩
  | .hbm, ⟨18, _⟩ => ⟨S_, .f32⟩
  | .hbm, ⟨19, _⟩ => ⟨S8x2048x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x2048x256, .f32⟩
  | .hbm, ⟨25, _⟩ => ⟨S4x2048x256, .f32⟩
  | .hbm, ⟨26, _⟩ => ⟨S4x2048x256, .f32⟩
  | .hbm, ⟨27, _⟩ => ⟨S4x2048x256, .f32⟩
  | .hbm, ⟨28, _⟩ => ⟨S8x2048x256, .f32⟩
  | .hbm, ⟨29, _⟩ => ⟨S8x2048x256, .bf16⟩
  | .hbm, ⟨30, _⟩ => ⟨S10x32768x128, .bf16⟩
  | .hbm, ⟨31, _⟩ => ⟨S10x64x512x128, .bf16⟩
  | .hbm, ⟨32, _⟩ => ⟨S10x64x128x512, .bf16⟩
  | .hbm, ⟨33, _⟩ => ⟨S_, .bf16⟩
  | .hbm, ⟨34, _⟩ => ⟨S10x64x16x512, .bf16⟩
  | .hbm, ⟨35, _⟩ => ⟨S10x64x144x512, .bf16⟩
  | .hbm, ⟨36, _⟩ => ⟨S10x2048x128, .bf16⟩
  | .hbm, ⟨37, _⟩ => ⟨S10x8x256x128, .bf16⟩
  | .hbm, ⟨38, _⟩ => ⟨S10x8x128x256, .bf16⟩
  | .hbm, ⟨39, _⟩ => ⟨S_, .bf16⟩
  | .hbm, ⟨40, _⟩ => ⟨S10x8x16x256, .bf16⟩
  | .hbm, ⟨41, _⟩ => ⟨S10x8x144x256, .bf16⟩
  | .hbm, ⟨42, _⟩ => ⟨S32768x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x1x144x256, .bf16⟩
  | .local _ .vmem, ⟨5, _⟩ => ⟨S1x1x144x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x8x144x512, .bf16⟩
  | .local _ .vmem, ⟨9, _⟩ => ⟨S1x8x144x512, .bf16⟩
  | .local _ .vmem, ⟨10, _⟩ => ⟨S2048x128, .bf16⟩
  | .local _ .vmem, ⟨11, _⟩ => ⟨S2048x128, .bf16⟩
  | .local _ .vmem, ⟨12, _⟩ => ⟨S8x1x256, .f32⟩
  | .local _ .vmem, ⟨13, _⟩ => ⟨S8x144x256, .f32⟩
  | _, _ => ⟨S8x32768x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call1_v0 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2_i32 : BitVec 32 := 2#32
  let v1 : BitVec 32 := Scalar.muli arg0 c2_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaRefIdeal.lean ====
abbrev S8x32768x192 : Shape := ⟨3, ![8, 32768, 192]⟩
abbrev S8x2048x192 : Shape := ⟨3, ![8, 2048, 192]⟩
abbrev S10x32768x128 : Shape := ⟨3, ![10, 32768, 128]⟩
abbrev S10x2048x128 : Shape := ⟨3, ![10, 2048, 128]⟩
abbrev S4x32768x192 : Shape := ⟨3, ![4, 32768, 192]⟩
abbrev S4x8x4096x192 : Shape := ⟨4, ![4, 8, 4096, 192]⟩
abbrev S4x2048x192 : Shape := ⟨3, ![4, 2048, 192]⟩
abbrev S4x8x256x192 : Shape := ⟨4, ![4, 8, 256, 192]⟩
abbrev S4x8x4352x192 : Shape := ⟨4, ![4, 8, 4352, 192]⟩
abbrev S4x2048x128 : Shape := ⟨3, ![4, 2048, 128]⟩
abbrev S4x8x256x128 : Shape := ⟨4, ![4, 8, 256, 128]⟩
abbrev S4x32768x128 : Shape := ⟨3, ![4, 32768, 128]⟩
abbrev S4x8x4096x128 : Shape := ⟨4, ![4, 8, 4096, 128]⟩
abbrev S4x8x4352x128 : Shape := ⟨4, ![4, 8, 4352, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S8x4x128x4096 : Shape := ⟨4, ![8, 4, 128, 4096]⟩
abbrev S8x4096x4x128 : Shape := ⟨4, ![8, 4096, 4, 128]⟩
abbrev S32768x512 : Shape := ⟨2, ![32768, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x32768x192, .f32⟩
  | .hbm, ⟨1, _⟩ => ⟨S8x2048x192, .f32⟩
  | .hbm, ⟨2, _⟩ => ⟨S10x32768x128, .f32⟩
  | .hbm, ⟨3, _⟩ => ⟨S10x2048x128, .f32⟩
  | .hbm, ⟨4, _⟩ => ⟨S4x32768x192, .f32⟩
  | .hbm, ⟨5, _⟩ => ⟨S4x8x4096x192, .f32⟩
  | .hbm, ⟨6, _⟩ => ⟨S4x2048x192, .f32⟩
  | .hbm, ⟨7, _⟩ => ⟨S4x8x256x192, .f32⟩
  | .hbm, ⟨8, _⟩ => ⟨S4x32768x192, .f32⟩
  | .hbm, ⟨9, _⟩ => ⟨S4x8x4096x192, .f32⟩
  | .hbm, ⟨10, _⟩ => ⟨S4x8x4352x192, .f32⟩
  | .hbm, ⟨11, _⟩ => ⟨S4x2048x128, .f32⟩
  | .hbm, ⟨12, _⟩ => ⟨S4x8x256x128, .f32⟩
  | .hbm, ⟨13, _⟩ => ⟨S4x32768x128, .f32⟩
  | .hbm, ⟨14, _⟩ => ⟨S4x8x4096x128, .f32⟩
  | .hbm, ⟨15, _⟩ => ⟨S4x8x4352x128, .f32⟩
  | .hbm, ⟨16, _⟩ => ⟨S4x8x4096x4352, .f32⟩
  | .hbm, ⟨17, _⟩ => ⟨S_, .f32⟩
  | .hbm, ⟨18, _⟩ => ⟨S4x8x4096x4352, .f32⟩
  | .hbm, ⟨19, _⟩ => ⟨S4x8x4096x4352, .f32⟩
  | .hbm, ⟨20, _⟩ => ⟨S_, .f32⟩
  | .hbm, ⟨21, _⟩ => ⟨S4x8x4096, .f32⟩
  | .hbm, ⟨22, _⟩ => ⟨S_, .f32⟩
  | .hbm, ⟨23, _⟩ => ⟨S4x8x4096, .f32⟩
  | .hbm, ⟨24, _⟩ => ⟨S4x8x4096, .f32⟩
  | .hbm, ⟨25, _⟩ => ⟨S4x8x4096x1, .f32⟩
  | .hbm, ⟨26, _⟩ => ⟨S4x8x4096x4352, .f32⟩
  | .hbm, ⟨27, _⟩ => ⟨S4x8x4096x4352, .f32⟩
  | .hbm, ⟨28, _⟩ => ⟨S4x8x4096x4352, .f32⟩
  | .hbm, ⟨29, _⟩ => ⟨S_, .f32⟩
  | .hbm, ⟨30, _⟩ => ⟨S4x8x4096, .f32⟩
  | .hbm, ⟨31, _⟩ => ⟨S4x8x4096x1, .f32⟩
  | .hbm, ⟨32, _⟩ => ⟨S4x8x4096x4352, .f32⟩
  | .hbm, ⟨33, _⟩ => ⟨S4x8x4096x4352, .f32⟩
  | .hbm, ⟨34, _⟩ => ⟨S8x4x128x4096, .f32⟩
  | .hbm, ⟨35, _⟩ => ⟨S8x4096x4x128, .f32⟩
  | .hbm, ⟨36, _⟩ => ⟨S32768x512, .f32⟩
  | .hbm, ⟨37, _⟩ => ⟨S32768x512, .bf16⟩
  | _, _ => ⟨S8x32768x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Diff.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S64 : Shape := ⟨1, ![64]⟩
abbrev S128 : Shape := ⟨1, ![128]⟩
abbrev S8x32768x128 : Shape := ⟨3, ![8, 32768, 128]⟩
abbrev S_ : Shape := ⟨0, ![]⟩
abbrev S4x2x32768x128 : Shape := ⟨4, ![4, 2, 32768, 128]⟩
abbrev S4x1x32768x64 : Shape := ⟨4, ![4, 1, 32768, 64]⟩
abbrev S4x1x32768x128 : Shape := ⟨4, ![4, 1, 32768, 128]⟩
abbrev S6x32768x128 : Shape := ⟨3, ![6, 32768, 128]⟩
abbrev S14x32768x128 : Shape := ⟨3, ![14, 32768, 128]⟩
abbrev S12x32768x128 : Shape := ⟨3, ![12, 32768, 128]⟩
abbrev S1x64 : Shape := ⟨2, ![1, 64]⟩
abbrev S1x128 : Shape := ⟨2, ![1, 128]⟩
abbrev S10x64x512x128 : Shape := ⟨4, ![10, 64, 512, 128]⟩
abbrev S10x64x128x512 : Shape := ⟨4, ![10, 64, 128, 512]⟩
abbrev S10x64x16x512 : Shape := ⟨4, ![10, 64, 16, 512]⟩
abbrev S10x64x144x512 : Shape := ⟨4, ![10, 64, 144, 512]⟩
abbrev S10x8x256x128 : Shape := ⟨4, ![10, 8, 256, 128]⟩
abbrev S10x8x128x256 : Shape := ⟨4, ![10, 8, 128, 256]⟩
abbrev S10x8x16x256 : Shape := ⟨4, ![10, 8, 16, 256]⟩
abbrev S10x8x144x256 : Shape := ⟨4, ![10, 8, 144, 256]⟩
abbrev S32768x512 : Shape := ⟨2, ![32768, 512]⟩
abbrev S2x1024x128 : Shape := ⟨3, ![2, 1024, 128]⟩
abbrev S1x256x128 : Shape := ⟨3, ![1, 256, 128]⟩
abbrev S1x1x144x256 : Shape := ⟨4, ![1, 1, 144, 256]⟩
abbrev S1x4096x128 : Shape := ⟨3, ![1, 4096, 128]⟩
abbrev S1x8x144x512 : Shape := ⟨4, ![1, 8, 144, 512]⟩
abbrev S1024x128 : Shape := ⟨2, ![1024, 128]⟩
abbrev S8x1x256 : Shape := ⟨3, ![8, 1, 256]⟩
abbrev S8x144x256 : Shape := ⟨3, ![8, 144, 256]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S144x256 : Shape := ⟨2, ![144, 256]⟩
abbrev S1x1x256 : Shape := ⟨3, ![1, 1, 256]⟩
abbrev S1x144x256 : Shape := ⟨3, ![1, 144, 256]⟩
abbrev S1x1x144x512 : Shape := ⟨4, ![1, 1, 144, 512]⟩
abbrev S144x512 : Shape := ⟨2, ![144, 512]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S1x128x256 : Shape := ⟨3, ![1, 128, 256]⟩
abbrev S128x256 : Shape := ⟨2, ![128, 256]⟩
abbrev S256x1 : Shape := ⟨2, ![256, 1]⟩

abbrev nBuf : Space → Nat
  | .hbm => 49
  | .vmem => 19
  | .smem => 0
  | _ => 0

abbrev bufTy : (tb : Table) → Fin (tcTables nBuf tb) → BufTy
  | .hbm, ⟨0, _⟩ => ⟨S26x32768x128, .f32⟩
  | .hbm, ⟨1, _⟩ => ⟨S26x2048x128, .f32⟩
  | .hbm, ⟨2, _⟩ => ⟨S10x32768x128, .f32⟩
  | .hbm, ⟨3, _⟩ => ⟨S10x2048x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S8x32768x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x32768x128, .f32⟩
  | .hbm, ⟨15, _⟩ => ⟨S8x32768x128, .f32⟩
  | .hbm, ⟨16, _⟩ => ⟨S4x2x32768x128, .f32⟩
  | .hbm, ⟨17, _⟩ => ⟨S_, .f32⟩
  | .hbm, ⟨18, _⟩ => ⟨S4x1x32768x64, .f32⟩
  | .hbm, ⟨19, _⟩ => ⟨S4x1x32768x64, .f32⟩
  | .hbm, ⟨20, _⟩ => ⟨S4x1x32768x128, .f32⟩
  | .hbm, ⟨21, _⟩ => ⟨S4x1x32768x64, .f32⟩
  | .hbm, ⟨22, _⟩ => ⟨S4x1x32768x128, .f32⟩
  | .hbm, ⟨23, _⟩ => ⟨S4x2x32768x128, .f32⟩
  | .hbm, ⟨24, _⟩ => ⟨S6x32768x128, .f32⟩
  | .hbm, ⟨25, _⟩ => ⟨S8x32768x128, .f32⟩
  | .hbm, ⟨26, _⟩ => ⟨S14x32768x128, .f32⟩
  | .hbm, ⟨27, _⟩ => ⟨S12x32768x128, .f32⟩
  | .hbm, ⟨28, _⟩ => ⟨S26x32768x128, .f32⟩
  | .hbm, ⟨29, _⟩ => ⟨S26x32768x128, .bf16⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x128, .f32⟩
  | .hbm, ⟨35, _⟩ => ⟨S26x2048x128, .bf16⟩
  | .hbm, ⟨36, _⟩ => ⟨S10x32768x128, .bf16⟩
  | .hbm, ⟨37, _⟩ => ⟨S10x64x512x128, .bf16⟩
  | .hbm, ⟨38, _⟩ => ⟨S10x64x128x512, .bf16⟩
  | .hbm, ⟨39, _⟩ => ⟨S_, .bf16⟩
  | .hbm, ⟨40, _⟩ => ⟨S10x64x16x512, .bf16⟩
  | .hbm, ⟨41, _⟩ => ⟨S10x64x144x512, .bf16⟩
  | .hbm, ⟨42, _⟩ => ⟨S10x2048x128, .bf16⟩
  | .hbm, ⟨43, _⟩ => ⟨S10x8x256x128, .bf16⟩
  | .hbm, ⟨44, _⟩ => ⟨S10x8x128x256, .bf16⟩
  | .hbm, ⟨45, _⟩ => ⟨S_, .bf16⟩
  | .hbm, ⟨46, _⟩ => ⟨S10x8x16x256, .bf16⟩
  | .hbm, ⟨47, _⟩ => ⟨S10x8x144x256, .bf16⟩
  | .hbm, ⟨48, _⟩ => ⟨S32768x512, .bf16⟩
  | .local _ .vmem, ⟨0, _⟩ => ⟨S2x1024x128, .bf16⟩
  | .local _ .vmem, ⟨1, _⟩ => ⟨S2x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x1x144x256, .bf16⟩
  | .local _ .vmem, ⟨5, _⟩ => ⟨S1x1x144x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x8x144x512, .bf16⟩
  | .local _ .vmem, ⟨9, _⟩ => ⟨S1x8x144x512, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1024x128, .bf16⟩
  | .local _ .vmem, ⟨16, _⟩ => ⟨S1024x128, .bf16⟩
  | .local _ .vmem, ⟨17, _⟩ => ⟨S8x1x256, .f32⟩
  | .local _ .vmem, ⟨18, _⟩ => ⟨S8x144x256, .f32⟩
  | _, _ => ⟨S26x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![v0.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== DiffRefIdeal.lean ====
abbrev S26x32768x128 : Shape := ⟨3, ![26, 32768, 128]⟩
abbrev S26x2048x128 : Shape := ⟨3, ![26, 2048, 128]⟩
abbrev S10x32768x128 : Shape := ⟨3, ![10, 32768, 128]⟩
abbrev S10x2048x128 : Shape := ⟨3, ![10, 2048, 128]⟩
abbrev S64 : Shape := ⟨1, ![64]⟩
abbrev S128 : Shape := ⟨1, ![128]⟩
abbrev S_ : Shape := ⟨0, ![]⟩
abbrev S8x32768x128 : Shape := ⟨3, ![8, 32768, 128]⟩
abbrev S4x2x8x4096x128 : Shape := ⟨5, ![4, 2, 8, 4096, 128]⟩
abbrev S4x2048x128 : Shape := ⟨3, ![4, 2048, 128]⟩
abbrev S4x8x256x128 : Shape := ⟨4, ![4, 8, 256, 128]⟩
abbrev S4x32768x128 : Shape := ⟨3, ![4, 32768, 128]⟩
abbrev S4x8x4096x128 : Shape := ⟨4, ![4, 8, 4096, 128]⟩
abbrev S4x8x4352x128 : Shape := ⟨4, ![4, 8, 4352, 128]⟩
abbrev S4x1x8x4096x64 : Shape := ⟨5, ![4, 1, 8, 4096, 64]⟩
abbrev S4x8x4096x64 : Shape := ⟨4, ![4, 8, 4096, 64]⟩
abbrev S4x8x4352x64 : Shape := ⟨4, ![4, 8, 4352, 64]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S8x4x128x4096 : Shape := ⟨4, ![8, 4, 128, 4096]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 100
  | .vmem => 0
  | .smem => 0
  | _ => 0

abbrev bufTy : (tb : Table) → Fin (tcTables nBuf tb) → BufTy
  | .hbm, ⟨0, _⟩ => ⟨S26x32768x128, .f32⟩
  | .hbm, ⟨1, _⟩ => ⟨S26x2048x128, .f32⟩
  | .hbm, ⟨2, _⟩ => ⟨S10x32768x128, .f32⟩
  | .hbm, ⟨3, _⟩ => ⟨S10x2048x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x32768x128, .f32⟩
  | .hbm, ⟨21, _⟩ => ⟨S4x2x8x4096x128, .f32⟩
  | .hbm, ⟨22, _⟩ => ⟨S4x2048x128, .f32⟩
  | .hbm, ⟨23, _⟩ => ⟨S4x8x256x128, .f32⟩
  | .hbm, ⟨24, _⟩ => ⟨S4x32768x128, .f32⟩
  | .hbm, ⟨25, _⟩ => ⟨S4x8x4096x128, .f32⟩
  | .hbm, ⟨26, _⟩ => ⟨S4x8x4352x128, .f32⟩
  | .hbm, ⟨27, _⟩ => ⟨S4x2048x128, .f32⟩
  | .hbm, ⟨28, _⟩ => ⟨S4x8x256x128, .f32⟩
  | .hbm, ⟨29, _⟩ => ⟨S4x32768x128, .f32⟩
  | .hbm, ⟨30, _⟩ => ⟨S4x8x4096x128, .f32⟩
  | .hbm, ⟨31, _⟩ => ⟨S4x8x4352x128, .f32⟩
  | .hbm, ⟨32, _⟩ => ⟨S4x1x8x4096x64, .f32⟩
  | .hbm, ⟨33, _⟩ => ⟨S4x8x4096x64, .f32⟩
  | .hbm, ⟨34, _⟩ => ⟨S4x8x4352x64, .f32⟩
  | .hbm, ⟨35, _⟩ => ⟨S4x8x4096x4352, .f32⟩
  | .hbm, ⟨36, _⟩ => ⟨S_, .f32⟩
  | .hbm, ⟨37, _⟩ => ⟨S4x8x4096x4352, .f32⟩
  | .hbm, ⟨38, _⟩ => ⟨S4x8x4096x4352, .f32⟩
  | .hbm, ⟨39, _⟩ => ⟨S_, .f32⟩
  | .hbm, ⟨40, _⟩ => ⟨S4x8x4096, .f32⟩
  | .hbm, ⟨41, _⟩ => ⟨S_, .f32⟩
  | .hbm, ⟨42, _⟩ => ⟨S4x8x4096, .f32⟩
  | .hbm, ⟨43, _⟩ => ⟨S4x8x4096, .f32⟩
  | .hbm, ⟨44, _⟩ => ⟨S4x8x4096x1, .f32⟩
  | .hbm, ⟨45, _⟩ => ⟨S4x8x4096x4352, .f32⟩
  | .hbm, ⟨46, _⟩ => ⟨S4x8x4096x4352, .f32⟩
  | .hbm, ⟨47, _⟩ => ⟨S4x8x4096x4352, .f32⟩
  | .hbm, ⟨48, _⟩ => ⟨S_, .f32⟩
  | .hbm, ⟨49, _⟩ => ⟨S4x8x4096, .f32⟩
  | .hbm, ⟨50, _⟩ => ⟨S4x8x4096x1, .f32⟩
  | .hbm, ⟨51, _⟩ => ⟨S4x8x4096x4352, .f32⟩
  | .hbm, ⟨52, _⟩ => ⟨S4x8x4096x4352, .f32⟩
  | .hbm, ⟨53, _⟩ => ⟨S4x1x8x4096x64, .f32⟩
  | .hbm, ⟨54, _⟩ => ⟨S4x8x4096x64, .f32⟩
  | .hbm, ⟨55, _⟩ => ⟨S4x8x4352x64, .f32⟩
  | .hbm, ⟨56, _⟩ => ⟨S4x8x4096x4352, .f32⟩
  | .hbm, ⟨57, _⟩ => ⟨S_, .f32⟩
  | .hbm, ⟨58, _⟩ => ⟨S4x8x4096x4352, .f32⟩
  | .hbm, ⟨59, _⟩ => ⟨S4x8x4096x4352, .f32⟩
  | .hbm, ⟨60, _⟩ => ⟨S_, .f32⟩
  | .hbm, ⟨61, _⟩ => ⟨S4x8x4096, .f32⟩
  | .hbm, ⟨62, _⟩ => ⟨S_, .f32⟩
  | .hbm, ⟨63, _⟩ => ⟨S4x8x4096, .f32⟩
  | .hbm, ⟨64, _⟩ => ⟨S4x8x4096, .f32⟩
  | .hbm, ⟨65, _⟩ => ⟨S4x8x4096x1, .f32⟩
  | .hbm, ⟨66, _⟩ => ⟨S4x8x4096x4352, .f32⟩
  | .hbm, ⟨67, _⟩ => ⟨S4x8x4096x4352, .f32⟩
  | .hbm, ⟨68, _⟩ => ⟨S4x8x4096x4352, .f32⟩
  | .hbm, ⟨69, _⟩ => ⟨S_, .f32⟩
  | .hbm, ⟨70, _⟩ => ⟨S4x8x4096, .f32⟩
  | .hbm, ⟨71, _⟩ => ⟨S4x8x4096x1, .f32⟩
  | .hbm, ⟨72, _⟩ => ⟨S4x8x4096x4352, .f32⟩
  | .hbm, ⟨73, _⟩ => ⟨S4x8x4096x4352, .f32⟩
  | .hbm, ⟨74, _⟩ => ⟨S4x8x4096x4352, .f32⟩
  | .hbm, ⟨75, _⟩ => ⟨S4x8x4096x4352, .f32⟩
  | .hbm, ⟨76, _⟩ => ⟨S4x8x4096x4352, .f32⟩
  | .hbm, ⟨77, _⟩ => ⟨S8x4x128x4096, .f32⟩
  | .hbm, ⟨78, _⟩ => ⟨S8x4096x4x128, .f32⟩
  | .hbm, ⟨79, _⟩ => ⟨S8x4096x4x128, .f32⟩
  | .hbm, ⟨80, _⟩ => ⟨S_, .f32⟩
  | .hbm, ⟨81, _⟩ => ⟨S8x4096x4, .f32⟩
  | .hbm, ⟨82, _⟩ => ⟨S8x4096x4x1, .f32⟩
  | .hbm, ⟨83, _⟩ => ⟨S_, .f32⟩
  | .hbm, ⟨84, _⟩ => ⟨S8x4096x4x1, .f32⟩
  | .hbm, ⟨85, _⟩ => ⟨S8x4096x4x1, .f32⟩
  | .hbm, ⟨86, _⟩ => ⟨S_, .f32⟩
  | .hbm, ⟨87, _⟩ => ⟨S8x4096x4x1, .f32⟩
  | .hbm, ⟨88, _⟩ => ⟨S8x4096x4x1, .f32⟩
  | .hbm, ⟨89, _⟩ => ⟨S8x4096x4x1, .f32⟩
  | .hbm, ⟨90, _⟩ => ⟨S8x4096x4x128, .f32⟩
  | .hbm, ⟨91, _⟩ => ⟨S8x4096x4x128, .f32⟩
  | .hbm, ⟨92, _⟩ => ⟨S1x1x1x128, .f32⟩
  | .hbm, ⟨93, _⟩ => ⟨S8x4096x4x128, .f32⟩
  | .hbm, ⟨94, _⟩ => ⟨S8x4096x4x128, .f32⟩
  | .hbm, ⟨95, _⟩ => ⟨S_, .f32⟩
  | .hbm, ⟨96, _⟩ => ⟨S8x4096x4x128, .f32⟩
  | .hbm, ⟨97, _⟩ => ⟨S8x4096x4x128, .f32⟩
  | .hbm, ⟨98, _⟩ => ⟨S32768x512, .f32⟩
  | .hbm, ⟨99, _⟩ => ⟨S32768x512, .bf16⟩
  | _, _ => ⟨S26x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Proof.Online.lean ====
/- The running softmax: a maximum and a weighted sum carried from one tile of keys to the next, rescaled when
   the maximum grows, is the softmax over all keys at once. Stated for one query and one column of the values,
   over the extended reals: the scores are finite, the values are any extended reals. -/
module

public import Idealize.ShloMosaic.PureOps.Ideal.Laws
public import Idealize.ShloMosaic.Lib.Pointwise

@[expose] public section

noncomputable section

namespace Cert.Online

open Idealize.ShloMosaic
open scoped BigOperators

/-- A nonnegative real factor goes into a finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of real numbers, read among the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest entry of a finite family, `⊥` of an empty one. -/
def top {n : ℕ} (s : Fin n → EReal) : EReal := Finset.univ.fold max ⊥ s

/-- The fold of `max` from `⊥` is `⊥` or an entry. -/
theorem fold_max_mem {ι : Type} (s : Finset ι) (f : ι → EReal) :
    s.fold max ⊥ f = ⊥ ∧ s = ∅ ∨ ∃ i ∈ s, s.fold max ⊥ f = f i := by
  classical
  induction s using Finset.induction_on with
  | empty => left; simp
  | insert a s ha ih =>
    right
    rw [Finset.fold_insert ha]
    rcases ih with ⟨h, rfl⟩ | ⟨i, hi, h⟩
    · exact ⟨a, by simp, by rw [h]; simp⟩
    · rcases max_choice (f a) (f i) with h' | h'
      · exact ⟨a, by simp, by rw [h, h']⟩
      · exact ⟨i, by simp [hi], by rw [h, h']⟩

/-- The largest of finitely many real numbers is a real number. -/
theorem top_coe {n : ℕ} (hn : 0 < n) (x : Fin n → ℝ) : ∃ r : ℝ, top (fun k => ((x k : ℝ) : EReal)) = r := by
  rcases fold_max_mem Finset.univ (fun k => ((x k : ℝ) : EReal)) with ⟨_, h⟩ | ⟨i, _, h⟩
  · exact absurd (Finset.mem_univ (⟨0, hn⟩ : Fin n)) (by rw [h]; simp)
  · exact ⟨x i, h⟩

section

variable {a b : ℕ} (s0 : Fin a → EReal) (s : ℕ → Fin b → EReal)

/-- The maximum carried: of the first tile's scores, then of one further tile after another. -/
def runMax : ℕ → EReal
  | 0 => top s0
  | n + 1 => max (runMax n) (top (s n))

/-- The weighted sum carried, rescaled to the maximum that the new tile leaves. -/
def runSum (w0 : Fin a → EReal) (w : ℕ → Fin b → EReal) : ℕ → EReal
  | 0 => ∑ k, w0 k * Ideal.exp2 (s0 k - runMax s0 s 0)
  | n + 1 => Ideal.exp2 (runMax s0 s n - runMax s0 s (n + 1)) * runSum w0 w n
      + ∑ k, w n k * Ideal.exp2 (s n k - runMax s0 s (n + 1))

end

section

variable {a b : ℕ} (x0 : Fin a → ℝ) (x : ℕ → Fin b → ℝ)

/-- The scores of the tiles, as extended reals. -/
abbrev up {n : ℕ} (x : Fin n → ℝ) : Fin n → EReal := fun k => ((x k : ℝ) : EReal)

theorem runMax_coe (ha : 0 < a) (hb : 0 < b) (n : ℕ) :
    ∃ r : ℝ, runMax (up x0) (fun c => up (x c)) n = r := by
  induction n with
  | zero => exact top_coe ha x0
  | succ n ih =>
    obtain ⟨r, hr⟩ := ih
    obtain ⟨q, hq⟩ := top_coe hb (x n)
    exact ⟨max r q, by
      rw [runMax, hr]
      exact (congrArg (max (r : EReal)) hq).trans (Monotone.map_max (fun _ _ h => EReal.coe_le_coe_iff.mpr h)).symm⟩

theorem exp2_coe_sub (x y : ℝ) : Ideal.exp2 ((x : EReal) - (y : EReal)) = (((2 : ℝ) ^ (x - y) : ℝ) : EReal) := by
  rw [← EReal.coe_sub, Ideal.exp2_coe]; rfl

/-- After `n` tiles the carried sum is the sum over all keys so far, at the maximum so far. -/
theorem runSum_eq (ha : 0 < a) (hb : 0 < b) (w0 : Fin a → EReal) (w : ℕ → Fin b → EReal) (n : ℕ) (r : ℝ)
    (hr : runMax (up x0) (fun c => up (x c)) n = r) :
    runSum (up x0) (fun c => up (x c)) w0 w n
      = (∑ k, w0 k * (((2 : ℝ) ^ (x0 k - r) : ℝ) : EReal))
        + ∑ c ∈ Finset.range n, ∑ k, w c k * (((2 : ℝ) ^ (x c k - r) : ℝ) : EReal) := by
  induction n generalizing r with
  | zero =>
    rw [runSum, hr, Finset.range_zero, Finset.sum_empty, add_zero]
    exact Finset.sum_congr rfl fun k _ => by rw [exp2_coe_sub]
  | succ n ih =>
    obtain ⟨q, hq⟩ := runMax_coe x0 x ha hb n
    have step : ∀ (z : EReal) (y : ℝ),
        (((2 : ℝ) ^ (q - r) : ℝ) : EReal) * (z * (((2 : ℝ) ^ (y - q) : ℝ) : EReal))
          = z * (((2 : ℝ) ^ (y - r) : ℝ) : EReal) := by
      intro z y
      rw [mul_left_comm, ← EReal.coe_mul, ← Real.rpow_add (by norm_num)]
      rw [show q - r + (y - q) = y - r by ring]
    have hpos : (0 : ℝ) ≤ (2 : ℝ) ^ (q - r) := (Real.rpow_pos_of_pos (by norm_num) _).le
    rw [runSum, hr, hq, ih q hq, exp2_coe_sub,
      EReal.left_distrib_of_nonneg_of_ne_top (by exact_mod_cast hpos) (EReal.coe_ne_top _),
      coe_mul_sum _ _ hpos, coe_mul_sum _ _ hpos, Finset.sum_range_succ, add_assoc]
    congr 1
    · exact Finset.sum_congr rfl fun k _ => step _ _
    · congr 1
      · refine Finset.sum_congr rfl fun c _ => ?_
        rw [coe_mul_sum _ _ hpos]
        exact Finset.sum_congr rfl fun k _ => step _ _

end

/-- A weighted mean does not change when all weights are multiplied by one positive number, and may be taken weight
    by weight. -/
theorem mean_eq {ι : Type} [Fintype ι] [Nonempty ι] (e : ι → ℝ) (he : ∀ k, 0 < e k) (w : ι → EReal)
    (c d : ℝ) (hc : 0 < c) (hd : 0 < d) :
    Ideal.div (∑ k, w k * ((e k * c : ℝ) : EReal)) (∑ k, (1 : EReal) * ((e k * c : ℝ) : EReal))
      = ∑ k, Ideal.div ((e k * d : ℝ) : EReal) (∑ j, ((e j * d : ℝ) : EReal)) * w k := by
  have hE : 0 < ∑ k, e k := Finset.sum_pos (fun k _ => he k) Finset.univ_nonempty
  have hl : ∑ k, (1 : EReal) * ((e k * c : ℝ) : EReal) = (((∑ k, e k) * c : ℝ) : EReal) := by
    rw [Finset.sum_mul, ← coe_sum]; exact Finset.sum_congr rfl fun k _ => one_mul _
  have hr : ∑ k, ((e k * d : ℝ) : EReal) = (((∑ k, e k) * d : ℝ) : EReal) := by
    rw [Finset.sum_mul, ← coe_sum]
  rw [hl, hr, Ideal.div_coe (mul_pos hE hc).ne', mul_comm, coe_mul_sum _ _ (by positivity)]
  refine Finset.sum_congr rfl fun k _ => ?_
  rw [Ideal.div_coe (mul_pos hE hd).ne', mul_left_comm, ← EReal.coe_mul, ← EReal.coe_mul, mul_comm (w k)]
  congr 2
  field_simp

/-- Two to the power of a score in base 2 is a multiple of the exponential of the score. -/
theorem two_rpow (y r : ℝ) : (2 : ℝ) ^ (y * (Real.log 2)⁻¹ - r) = Real.exp y * (2 : ℝ) ^ (-r) := by
  have h2 : Real.log 2 ≠ 0 := (Real.log_pos (by norm_num)).ne'
  rw [sub_eq_add_neg, Real.rpow_add (by norm_num), Real.rpow_def_of_pos (by norm_num)]
  congr 2
  field_simp

/-- A sum over `a + n * b` keys is the sum over the first `a` and over `n` tiles of `b`. -/
theorem sum_tiles {M : Type} [AddCommMonoid M] (a b n N : ℕ) (hN : N = a + n * b) (f : Fin N → M) (g : ℕ → Fin b → M)
    (hg : ∀ (c : ℕ) (k : Fin b) (h : a + (c * b + k) < N), g c k = f ⟨a + (c * b + k), h⟩) (g0 : Fin a → M)
    (hg0 : ∀ (k : Fin a) (h : (k : ℕ) < N), g0 k = f ⟨k, h⟩) :
    ∑ k, f k = (∑ k, g0 k) + ∑ c ∈ Finset.range n, ∑ k, g c k := by
  subst hN
  rw [Fin.sum_univ_add]
  congr 1
  · exact Finset.sum_congr rfl fun k _ => (hg0 k (by omega)).symm
  · rw [Finset.sum_range]
    rw [← Fintype.sum_prod_type' (f := fun (c : Fin n) k => g c k)]
    rw [← Equiv.sum_comp finProdFinEquiv]
    refine Finset.sum_congr rfl fun p _ => ?_
    have hp : a + (p.1.val * b + p.2.val) < a + n * b := by
      have := (finProdFinEquiv p).isLt
      simp only [finProdFinEquiv, Equiv.coe_fn_mk] at this
      rw [mul_comm]; omega
    rw [hg p.1 p.2 hp]
    congr 1
    ext
    simp [finProdFinEquiv, Fin.natAdd]
    ring

section

variable {a b : ℕ} {s0 s0' : Fin a → EReal} {s s' : ℕ → Fin b → EReal}

/-- The carried maximum after `n` tiles depends on the first `n` tiles only. -/
theorem runMax_congr {n : ℕ} (h0 : s0 = s0') (h : ∀ c < n, s c = s' c) : runMax s0 s n = runMax s0' s' n := by
  induction n with
  | zero => rw [runMax, runMax, h0]
  | succ n ih => rw [runMax, runMax, ih fun c hc => h c (by omega), h n (by omega)]

/-- The carried sum after `n` tiles depends on the first `n` tiles only. -/
theorem runSum_congr {n : ℕ} {w0 w0' : Fin a → EReal} {w w' : ℕ → Fin b → EReal} (h0 : s0 = s0')
    (h : ∀ c < n, s c = s' c) (k0 : w0 = w0') (k : ∀ c < n, w c = w' c) :
    runSum s0 s w0 w n = runSum s0' s' w0' w' n := by
  induction n with
  | zero => rw [runSum, runSum, runMax_congr h0 h, h0, k0]
  | succ n ih =>
    rw [runSum, runSum, ih (fun c hc => h c (by omega)) (fun c hc => k c (by omega)), runMax_congr h0 h,
      runMax_congr (n := n) h0 (fun c hc => h c (by omega)), h n (by omega), k n (by omega)]

end

/-- THE RUNNING SOFTMAX IS THE SOFTMAX: with real scores `x`, carried in base 2, the quotient of the carried sums is
    the mean of the values under the softmax of `x`, whatever real `M` the reference subtracts. -/
theorem running_softmax {a b n N : ℕ} (hN : N = a + n * b) (ha : 0 < a) (hb : 0 < b)
    (x : Fin N → ℝ) (w : Fin N → EReal) (M : ℝ)
    (s0 w0 : Fin a → EReal) (s v : ℕ → Fin b → EReal)
    (hs0 : ∀ (k : Fin a) (h : (k : ℕ) < N), s0 k = ((x ⟨k, h⟩ * (Real.log 2)⁻¹ : ℝ) : EReal))
    (hw0 : ∀ (k : Fin a) (h : (k : ℕ) < N), w0 k = w ⟨k, h⟩)
    (hs : ∀ c < n, ∀ (k : Fin b) (h : a + (c * b + k) < N),
      s c k = ((x ⟨a + (c * b + k), h⟩ * (Real.log 2)⁻¹ : ℝ) : EReal))
    (hv : ∀ c < n, ∀ (k : Fin b) (h : a + (c * b + k) < N), v c k = w ⟨a + (c * b + k), h⟩) :
    Ideal.div (runSum s0 s w0 v n) (runSum s0 s (fun _ => 1) (fun _ _ => 1) n)
      = ∑ k, Ideal.div (Ideal.exp (((x k : ℝ) : EReal) - ((M : ℝ) : EReal)))
          (∑ j, Ideal.exp (((x j : ℝ) : EReal) - ((M : ℝ) : EReal))) * w k := by
  have hlt : ∀ c < n, ∀ k : Fin b, a + (c * b + k) < N := by
    intro c hc k
    have h1 : (c + 1) * b ≤ n * b := Nat.mul_le_mul_right b hc
    have h2 := k.isLt
    rw [Nat.add_mul, one_mul] at h1
    omega
  have hle : ∀ k : Fin a, (k : ℕ) < N := fun k => by have := k.isLt; omega
  let y0 : Fin a → ℝ := fun k => x ⟨k, hle k⟩ * (Real.log 2)⁻¹
  let y : ℕ → Fin b → ℝ := fun c k => if h : a + (c * b + k) < N then x ⟨a + (c * b + k), h⟩ * (Real.log 2)⁻¹ else 0
  let u : ℕ → Fin b → EReal := fun c k => if h : a + (c * b + k) < N then w ⟨a + (c * b + k), h⟩ else 0
  have e0 : s0 = up y0 := funext fun k => hs0 k (hle k)
  have e1 : ∀ c < n, s c = up (y c) := fun c hc => funext fun k => by
    rw [hs c hc k (hlt c hc k)]; simp only [up, y, dif_pos (hlt c hc k)]
  have e2 : w0 = fun k : Fin a => w ⟨k, hle k⟩ := funext fun k => hw0 k (hle k)
  have e3 : ∀ c < n, v c = u c := fun c hc => funext fun k => by
    rw [hv c hc k (hlt c hc k)]; simp only [u, dif_pos (hlt c hc k)]
  obtain ⟨r, hr⟩ := runMax_coe y0 y ha hb n
  haveI : Nonempty (Fin N) := ⟨⟨0, by omega⟩⟩
  have key : ∀ f : Fin N → EReal, (∑ k, f k * ((Real.exp (x k) * (2 : ℝ) ^ (-r) : ℝ) : EReal))
      = (∑ k : Fin a, f ⟨k, hle k⟩ * (((2 : ℝ) ^ (y0 k - r) : ℝ) : EReal))
        + ∑ c ∈ Finset.range n, ∑ k : Fin b, (if h : a + (c * b + k) < N then f ⟨a + (c * b + k), h⟩ else 0)
            * (((2 : ℝ) ^ (y c k - r) : ℝ) : EReal) := by
    intro f
    rw [sum_tiles a b n N hN _ (fun c k => (if h : a + (c * b + k) < N then f ⟨a + (c * b + k), h⟩ else 0)
            * (((2 : ℝ) ^ (y c k - r) : ℝ) : EReal)) ?_
          (fun k : Fin a => f ⟨k, hle k⟩ * (((2 : ℝ) ^ (y0 k - r) : ℝ) : EReal)) ?_]
    · intro c k h
      simp only [y, dif_pos h, two_rpow]
    · intro k h
      simp only [y0, two_rpow]
  rw [runSum_congr (w0' := fun k : Fin a => w ⟨k, hle k⟩) (w' := u) e0 e1 e2 e3,
    runSum_congr (w0' := fun _ => 1) (w' := fun _ _ => 1) e0 e1 rfl (fun _ _ => rfl),
    runSum_eq y0 y ha hb _ _ n r hr, runSum_eq y0 y ha hb _ _ n r hr]
  have k1 := key w
  have k2 := key fun _ => 1
  rw [show (∑ c ∈ Finset.range n, ∑ k : Fin b, (if h : a + (c * b + k) < N then (1 : EReal) else 0)
            * (((2 : ℝ) ^ (y c k - r) : ℝ) : EReal))
        = ∑ c ∈ Finset.range n, ∑ k : Fin b, (1 : EReal) * (((2 : ℝ) ^ (y c k - r) : ℝ) : EReal) from
      Finset.sum_congr rfl fun c hc => Finset.sum_congr rfl fun k _ => by
        rw [dif_pos (hlt c (Finset.mem_range.mp hc) k)]] at k2
  have k1' : _ = (∑ k : Fin a, w ⟨k, hle k⟩ * (((2 : ℝ) ^ (y0 k - r) : ℝ) : EReal))
        + ∑ c ∈ Finset.range n, ∑ k : Fin b, u c k * (((2 : ℝ) ^ (y c k - r) : ℝ) : EReal) := k1
  rw [← k1', ← k2, mean_eq (fun k => Real.exp (x k)) (fun k => Real.exp_pos _) w _ (Real.exp (-M))
    (Real.rpow_pos_of_pos (by norm_num) _) (Real.exp_pos _)]
  have he : ∀ k, Ideal.exp (((x k : ℝ) : EReal) - ((M : ℝ) : EReal))
      = ((Real.exp (x k) * Real.exp (-M) : ℝ) : EReal) := fun k => by
    rw [← EReal.coe_sub, Ideal.exp_coe, ← Real.exp_add, sub_eq_add_neg]
  simp only [he]

end Cert.Online

end
-- ==== Proof.AttentionReals.lean ====
/- The attention's scores as real numbers: the scale, the products, the largest one. -/
module

public import Idealize.ShloMosaic.Lib.Pipeline.ValueKit
public import Idealize.ShloMosaic.Lib.Pointwise
public import Idealize.ShloMosaic.Lib.Claim
public import proofs.«01_k».proof.Proof.Online

@[expose] public section

set_option maxRecDepth 16384

noncomputable section

namespace Cert.Attention

open Idealize.ShloMosaic Idealize.ShloMosaic.TcCoe

theorem two_eq : Ideal.ofBits .f32 0x40000000#32 = ((2 : ℝ) : EReal) := by
  simp [Ideal.ofBits, Ideal.ieee]
  rw [← EReal.coe_mul]
  norm_num

/-- A real scale over the logarithm of two. -/
theorem rate_real (s : ℝ) : Ideal.div ((s : ℝ) : EReal) (Ideal.log (Ideal.ofBits .f32 0x40000000#32)) = ((s * (Real.log 2)⁻¹ : ℝ) : EReal) := by
  have h2 : Real.log 2 ≠ 0 := (Real.log_pos (by norm_num)).ne'
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_eq, hl, Ideal.div_coe h2, ← EReal.coe_mul, one_div]

/-- One product of real query and key, the scale over log 2 on the query. -/
theorem dot_real {n : ℕ} (s : ℝ) (K Q : Fin n → ℝ) :
    (∑ e : Fin n, (show EReal from ((K e : ℝ) : EReal)) * (((Q e : ℝ) : EReal) * ((s * (Real.log 2)⁻¹ : ℝ) : EReal)))
      = (((∑ e : Fin n, K e * Q e) * s * (Real.log 2)⁻¹ : ℝ) : EReal) := by
  simp only [← EReal.coe_mul]
  rw [Online.coe_sum, Finset.sum_mul, Finset.sum_mul]
  congr 1
  exact Finset.sum_congr rfl fun e _ => by ring

/-- Folding the maximum over real numbers, from −∞, gives a real number. -/
theorem fold_real {ι : Type} (op : EReal → EReal → EReal) [Std.Commutative op] [Std.Associative op] (hop : ∀ x y, op x y = max x y)
    (b : EReal) (hb : b = ⊥) (f : ι → EReal) (hf : ∀ i, ∃ y : ℝ, f i = y) (S : Finset ι) (hS : S.Nonempty) :
    ∃ y : ℝ, S.fold op b f = y := by
  induction hS using Finset.Nonempty.cons_induction with
  | singleton x => obtain ⟨y, hy⟩ := hf x; exact ⟨y, by rw [Finset.fold_singleton, hy, hop, hb]; exact sup_bot_eq _⟩
  | cons x S hx _ ih =>
    obtain ⟨y, hy⟩ := hf x
    obtain ⟨z, hz⟩ := ih
    exact ⟨max y z, by rw [Finset.fold_cons, hz, hy, hop]; exact (Monotone.map_max EReal.coe_strictMono.monotone).symm⟩

theorem negInf : Ideal.ofBits .f32 0xFF800000#32 = (⊥ : EReal) := by simp [Ideal.ofBits, Ideal.ieee]

/-- A number whose size is below +∞ is real. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ y : ℝ, x = y := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => exact absurd h' (by simp [Ideal.cmp])
  | top => exact absurd h' (by simp [Ideal.cmp])
  | coe y => exact ⟨y, rfl⟩

end Cert.Attention

end
-- ==== Proof.AttentionRows.lean ====
/- The attention's scratch of running sums: a load of rows of the piece stored last. -/
module

public import Idealize.ShloMosaic.Lib.Pipeline.ReadBack
public import Idealize.ShloMosaic.Lib.Pointwise

@[expose] public section

set_option maxRecDepth 16384

noncomputable section

namespace Cert.Attention

open Idealize.ShloMosaic Idealize.ShloMosaic.TcCoe

/-- The shape of the scratch: eight tiles of queries, 128 sums, 16 rows of weights. -/
abbrev Sums : Shape := ⟨3, ![8, 144, 256]⟩

/-- A load of some rows of the piece stored last reads those rows of its payload. -/
theorem readCov_rows {sig : RefSig} {κ : Kind} {sp : Space} (v : View sig κ sp Sums .f32) (j d n : ℕ)
    (inb : ∀ a, (![j, 0, 0] : Fin 3 → ℕ) a + (![1, 144, 256] : Fin 3 → ℕ) a ≤ Sums.size a)
    (inb' : ∀ a, (![j, d, 0] : Fin 3 → ℕ) a + (![1, n, 256] : Fin 3 → ℕ) a ≤ Sums.size a)
    (w : (Rect.unit (s := Sums) ![j, 0, 0] ![1, 144, 256] inb).shape.Idx → Elt Ideal .f32)
    (L : List (View.Piece (Elt Ideal) Sums .f32)) :
    v.readCov (⟨Rect.unit (s := Sums) ![j, 0, 0] ![1, 144, 256] inb, w⟩ :: L)
      (Rect.unit (s := Sums) ![j, d, 0] ![1, n, 256] inb').toLoadRect
      = fun x => w (ix3 (n0 := 1) (n1 := 144) (n2 := 256) 0 ⟨d + (x 1).val, by
          have h1 : d + n ≤ 144 := inb' 1
          have h2 : (x 1).val < n := (x 1).isLt
          omega⟩ (x 2)) := by
  rw [View.readCov_eq_canon']
  funext x
  refine Eq.trans (congrArg _ ?_) (View.canon_cons_emb (Rect.unit (s := Sums) ![j, 0, 0] ![1, 144, 256] inb) w L _)
  funext a
  refine Fin.ext ?_
  have hx : (x 0).val = 0 := by
    have h2 : (x 0).val < 1 := (x 0).isLt
    omega
  match a with
  | ⟨0, _⟩ => show j + 1 * (x 0).val = j + 1 * 0; omega
  | ⟨1, _⟩ => show d + 1 * (x 1).val = 0 + 1 * (d + (x 1).val); omega
  | ⟨2, _⟩ => show 0 + 1 * (x 2).val = 0 + 1 * (x 2).val; rfl

end Cert.Attention

end
-- ==== Proof.GqaBlock.lean ====
/- The grouped-query attention: what a grid point leaves in its block, entry by entry. -/
module

public import proofs.«01_k».proof.Proof.Gen.GqaIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.AttentionReals
public import proofs.«01_k».proof.Proof.AttentionRows

@[expose] public section

set_option maxRecDepth 16384

noncomputable section

namespace Cert.GqaIdeal.Mine

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The score of query row `r` of head `a` against key `k` of the context block. -/
def scoreCtx (x1 : Vec Ideal S1x256x128 .bf16) (x0 : Vec Ideal S2x1024x128 .bf16) (a : Fin 2) (r : Fin 1024) (k : Fin 256) : EReal :=
  ∑ e : Fin 128, x1 (ix3 0 k e) * x0 (ix3 a r e)

/-- The score of query row `r` of head `a` against key `k` of chunk `n` of the latent keys. -/
def scoreLat (x3 : Vec Ideal S1x4096x128 .bf16) (x0 : Vec Ideal S2x1024x128 .bf16) (a : Fin 2) (r : Fin 1024) (n : ℕ) (k : Fin 512) : EReal :=
  if h : n < 8 then ∑ e : Fin 128, x3 (ix3 0 ⟨512 * n + k.val, by omega⟩ e) * x0 (ix3 a r e) else 0

/-- Row `d` of chunk `n` of the latent values, keys along the chunk. -/
def valLat (x4 : Vec Ideal S1x8x144x512 .bf16) (d : Fin 144) (n : ℕ) (k : Fin 512) : EReal :=
  if h : n < 8 then x4 (ix4 0 ⟨n, h⟩ d k) else 0

/-- The block's entry as the quotient of two running sums. -/
def entry (x0 : Vec Ideal S2x1024x128 .bf16) (x1 : Vec Ideal S1x256x128 .bf16) (x2 : Vec Ideal S1x1x144x256 .bf16)
    (x3 : Vec Ideal S1x4096x128 .bf16) (x4 : Vec Ideal S1x8x144x512 .bf16) (a : Fin 2) (r : Fin 1024) (d : Fin 128) : EReal :=
  Ideal.div (Online.runSum (scoreCtx x1 x0 a r) (scoreLat x3 x0 a r) (fun k => x2 (ix4 0 0 ⟨d.val, by omega⟩ k)) (valLat x4 ⟨d.val, by omega⟩) 8)
    (Online.runSum (scoreCtx x1 x0 a r) (scoreLat x3 x0 a r) (fun k => x2 (ix4 0 0 128 k)) (valLat x4 128) 8)

set_option maxHeartbeats 4000000 in
/-- What a grid point leaves in its block: at query row `r`, column `d` of head `a`, the quotient of the two running sums. -/
theorem out_A (c : Dev nD) (t : Fin cfg0.N) (r : Fin 1024) (q : Fin 256) (a : Fin 2) (d : Fin 128) (hq : q.val = 128 * a.val + d.val) :
    outsAt0 m c t (ix2 r q) = entry (iblk m c 0 t) (iblk m c 1 t) (iblk m c 2 t) (iblk m c 3 t) (iblk m c 4 t) a r d := by
  unfold outsAt0
  frame_open
  simp (disch := decide) only [↓ View.readCov_skip, ↓ View.readCov_cons_toLoadRect, ↓ View.readCov_fill, ↓ Attention.readCov_rows]
  frame_out
  canon_tiles x h
  all_goals
    open_payloads
    pointwise [entry, Online.runSum, Online.runMax, Online.top, scoreCtx, scoreLat, valLat, Attention.negInf]
    have er : r = (⟨_, h0 ▸ r.isLt⟩ : Fin 1024) := Fin.ext h0
    have h2 : q.val = _ := h1
    first
      | have ea : a = 0 := Fin.ext (by have := a.isLt; have := d.isLt; show a.val = 0; omega)
        subst ea
        have ed : d = x 1 := Fin.ext (by simp at hq h2; omega)
        rw [er, ed]; rfl
      | have ea : a = 1 := Fin.ext (by have := a.isLt; have := d.isLt; show a.val = 1; omega)
        subst ea
        have ed : d = x 1 := Fin.ext (by simp at hq h2; omega)
        rw [er, ed]; rfl

end Cert.GqaIdeal.Mine

end
-- ==== Proof.GqaPrep.lean ====
/- The grouped-query attention: what the blocks hold, over the argument arrays. -/
module

public import proofs.«01_k».proof.Proof.Gen.GqaIdeal.Value
public import Idealize.ShloMosaic.Lib.Pipeline.ValueKit
public import Idealize.ShloMosaic.Lib.Pointwise
public import Idealize.ShloMosaic.Lib.Claim

@[expose] public section

set_option maxRecDepth 16384

noncomputable section

namespace Cert.GqaIdeal.Mine

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of its array each window holds at a grid point. -/
theorem idx : ∀ t : Fin cfg0.N, win0_0.index t = ![t.val / 4 % 2, t.val / 8 * 4 + t.val % 4, 0] ∧ win0_1.index t = ![4 + t.val / 4 % 2, t.val / 8, 0]
    ∧ win0_2.index t = ![t.val / 4 % 2, t.val / 8, 0, 0] ∧ win0_3.index t = ![4 + t.val / 4 % 2, t.val / 8, 0]
    ∧ win0_4.index t = ![t.val / 4 % 2, t.val / 8, 0, 0] ∧ win0_5.index t = ![t.val / 8 * 4 + t.val % 4, t.val / 4 % 2] :=
  (by decide +kernel : ∀ t : Fin grid0.N, _)

/-- The scale over the natural logarithm of two. -/
def rate : EReal := Ideal.div (Ideal.ofBits .f32 0x3DB504F3#32) (Ideal.log (Ideal.ofBits .f32 0x40000000#32))

/-- The latent queries and keys as the kernel takes them: the query slots scaled. -/
def lat (A : FVec Ideal S26x32768x128 .f32) : FVec Ideal S26x32768x128 .bf16 :=
  truncf .bf16 (concatenate S26x32768x128 0 [⟨S4x32768x128, mulf (extractStridedSlice S4x32768x128 ![0, 0, 0] A slices_S26x32768x128_S4x32768x128_0_0_0)
      (broadcastInDim S4x32768x128 ![] bcast_S_S4x32768x128 (Host.divf (constant S_ .f32 0x3DB504F3#32) (Host.log (constant S_ .f32 0x40000000#32))))⟩,
    ⟨S22x32768x128, extractStridedSlice S22x32768x128 ![4, 0, 0] A slices_S26x32768x128_S22x32768x128_4_0_0⟩]
    concatenates_S4x32768x128_S22x32768x128_S26x32768x128_d0) bitsLt_bf16_f32

/-- The context's queries and keys likewise. -/
def ctx (A : FVec Ideal S26x2048x128 .f32) : FVec Ideal S26x2048x128 .bf16 :=
  truncf .bf16 (concatenate S26x2048x128 0 [⟨S4x2048x128, mulf (extractStridedSlice S4x2048x128 ![0, 0, 0] A slices_S26x2048x128_S4x2048x128_0_0_0)
      (broadcastInDim S4x2048x128 ![] bcast_S_S4x2048x128 (Host.divf (constant S_ .f32 0x3DB504F3#32) (Host.log (constant S_ .f32 0x40000000#32))))⟩,
    ⟨S22x2048x128, extractStridedSlice S22x2048x128 ![4, 0, 0] A slices_S26x2048x128_S22x2048x128_4_0_0⟩]
    concatenates_S4x2048x128_S22x2048x128_S26x2048x128_d0) bitsLt_bf16_f32

/-- The latent values, transposed chunk by chunk, with rows of ones below. -/
def vlat (V : FVec Ideal S10x32768x128 .f32) : FVec Ideal S10x64x144x512 .bf16 :=
  concatenate S10x64x144x512 2 [⟨S10x64x128x512, transpose S10x64x128x512 [0, 1, 3, 2] (shapeCast S10x64x512x128 (truncf .bf16 V bitsLt_bf16_f32)
      shapeCasts_S10x32768x128_S10x64x512x128) transposes_S10x64x512x128_S10x64x128x512_0_1_3_2⟩,
    ⟨S10x64x16x512, broadcastInDim S10x64x16x512 ![] bcast_S_S10x64x16x512 (constant S_ .bf16 0x3F80#16)⟩]
    concatenates_S10x64x128x512_S10x64x16x512_S10x64x144x512_d2

/-- The context's values likewise. -/
def vctx (V : FVec Ideal S10x2048x128 .f32) : FVec Ideal S10x8x144x256 .bf16 :=
  concatenate S10x8x144x256 2 [⟨S10x8x128x256, transpose S10x8x128x256 [0, 1, 3, 2] (shapeCast S10x8x256x128 (truncf .bf16 V bitsLt_bf16_f32)
      shapeCasts_S10x2048x128_S10x8x256x128) transposes_S10x8x256x128_S10x8x128x256_0_1_3_2⟩,
    ⟨S10x8x16x256, broadcastInDim S10x8x16x256 ![] bcast_S_S10x8x16x256 (constant S_ .bf16 0x3F80#16)⟩]
    concatenates_S10x8x128x256_S10x8x16x256_S10x8x144x256_d2

theorem lat_query (A : FVec Ideal S26x32768x128 .f32) (h : Fin 26) (hh : h.val < 4) (R : Fin 32768) (e : Fin 128) :
    (show EReal from lat A (ix3 h R e)) = (show EReal from A (ix3 h R e)) * rate := by
  pointwise [lat, rate]
  simp only [hh, dite_true]
  try rfl

theorem lat_key (A : FVec Ideal S26x32768x128 .f32) (h : Fin 26) (hh : 4 ≤ h.val) (R : Fin 32768) (e : Fin 128) :
    (show EReal from lat A (ix3 h R e)) = (show EReal from A (ix3 h R e)) := by
  pointwise [lat]
  rw [dif_neg (by omega)]
  blk_ext

theorem ctx_key (A : FVec Ideal S26x2048x128 .f32) (h : Fin 26) (hh : 4 ≤ h.val) (R : Fin 2048) (e : Fin 128) :
    (show EReal from ctx A (ix3 h R e)) = (show EReal from A (ix3 h R e)) := by
  pointwise [ctx]
  rw [dif_neg (by omega)]
  blk_ext

theorem vlat_apply (V : FVec Ideal S10x32768x128 .f32) (h : Fin 10) (n : Fin 64) (d : Fin 144) (k : Fin 512) (R : Fin 32768)
    (hR : R.val = 512 * n.val + k.val) :
    (show EReal from vlat V (ix4 h n d k)) = if hd : d.val < 128 then V (ix3 h R ⟨d.val, hd⟩) else 1 := by
  pointwise [vlat]
  split
  · blk_ext
  · rfl

theorem vctx_apply (V : FVec Ideal S10x2048x128 .f32) (h : Fin 10) (n : Fin 8) (d : Fin 144) (k : Fin 256) (R : Fin 2048)
    (hR : R.val = 256 * n.val + k.val) :
    (show EReal from vctx V (ix4 h n d k)) = if hd : d.val < 128 then V (ix3 h R ⟨d.val, hd⟩) else 1 := by
  pointwise [vctx]
  split
  · blk_ext
  · rfl

theorem block0 (c : Dev nD) (t : Fin cfg0.N) (a : Fin 2) (r : Fin 1024) (e : Fin 128) (h : Fin 26) (hh : h.val = 2 * (t.val / 4 % 2) + a.val)
    (R : Fin 32768) (hR : R.val = 1024 * (t.val / 8 * 4 + t.val % 4) + r.val) :
    (show EReal from iblk m c 0 t (ix3 a r e)) = (show Vec Ideal S26x32768x128 .f32 from m ((c.tc : Thread nD τ).loc main_arg0)) (ix3 h R e) * rate := by
  have ht : t.val < 64 := lt_of_lt_of_eq t.isLt N_0
  unfold iblk
  entry_read
  have e : (win0_0.blk t).view.emb (ix3 a r e) = ix3 h R e := by blk_ext [idx t]
  show lat _ ((win0_0.blk t).view.emb (ix3 a r _)) = _
  rw [e]
  exact lat_query _ h (by omega) R _

theorem block1 (c : Dev nD) (t : Fin cfg0.N) (k : Fin 256) (e : Fin 128) (h : Fin 26) (hh : h.val = 4 + t.val / 4 % 2)
    (R : Fin 2048) (hR : R.val = 256 * (t.val / 8) + k.val) :
    (show EReal from iblk m c 1 t (ix3 0 k e)) = (show Vec Ideal S26x2048x128 .f32 from m ((c.tc : Thread nD τ).loc main_arg1)) (ix3 h R e) := by
  have ht : t.val < 64 := lt_of_lt_of_eq t.isLt N_0
  unfold iblk
  entry_read
  have e1 : (win0_1.blk t).view.emb (ix3 0 k e) = ix3 h R e := by blk_ext [idx t]
  show ctx _ ((win0_1.blk t).view.emb (ix3 0 k e)) = _
  rw [e1]
  exact ctx_key _ h (by omega) R _

theorem block3 (c : Dev nD) (t : Fin cfg0.N) (k : Fin 4096) (e : Fin 128) (h : Fin 26) (hh : h.val = 4 + t.val / 4 % 2)
    (R : Fin 32768) (hR : R.val = 4096 * (t.val / 8) + k.val) :
    (show EReal from iblk m c 3 t (ix3 0 k e)) = (show Vec Ideal S26x32768x128 .f32 from m ((c.tc : Thread nD τ).loc main_arg0)) (ix3 h R e) := by
  have ht : t.val < 64 := lt_of_lt_of_eq t.isLt N_0
  unfold iblk
  entry_read
  have e1 : (win0_3.blk t).view.emb (ix3 0 k e) = ix3 h R e := by blk_ext [idx t]
  show lat _ ((win0_3.blk t).view.emb (ix3 0 k e)) = _
  rw [e1]
  exact lat_key _ h (by omega) R _

theorem block2 (c : Dev nD) (t : Fin cfg0.N) (k : Fin 256) (d : Fin 144) (h : Fin 10) (hh : h.val = t.val / 4 % 2)
    (R : Fin 2048) (hR : R.val = 256 * (t.val / 8) + k.val) :
    (show EReal from iblk m c 2 t (ix4 0 0 d k)) = if hd : d.val < 128 then (show Vec Ideal S10x2048x128 .f32 from m ((c.tc : Thread nD τ).loc main_arg3)) (ix3 h R ⟨d.val, hd⟩) else 1 := by
  have ht : t.val < 64 := lt_of_lt_of_eq t.isLt N_0
  unfold iblk
  entry_read
  have e1 : (win0_2.blk t).view.emb (ix4 0 0 d k) = ix4 h ⟨t.val / 8, by omega⟩ d k := by blk_ext [idx t]
  show vctx _ ((win0_2.blk t).view.emb (ix4 0 0 d k)) = _
  rw [e1]
  exact vctx_apply _ h _ d k R hR

theorem block4 (c : Dev nD) (t : Fin cfg0.N) (n : Fin 8) (k : Fin 512) (d : Fin 144) (h : Fin 10) (hh : h.val = t.val / 4 % 2)
    (R : Fin 32768) (hR : R.val = 4096 * (t.val / 8) + (512 * n.val + k.val)) :
    (show EReal from iblk m c 4 t (ix4 0 n d k)) = if hd : d.val < 128 then (show Vec Ideal S10x32768x128 .f32 from m ((c.tc : Thread nD τ).loc main_arg2)) (ix3 h R ⟨d.val, hd⟩) else 1 := by
  have ht : t.val < 64 := lt_of_lt_of_eq t.isLt N_0
  unfold iblk
  entry_read
  have e1 : (win0_4.blk t).view.emb (ix4 0 n d k) = ix4 h ⟨8 * (t.val / 8) + n.val, by omega⟩ d k := by blk_ext [idx t]
  show vlat _ ((win0_4.blk t).view.emb (ix4 0 n d k)) = _
  rw [e1]
  exact vlat_apply _ h _ d k R (by show R.val = 512 * (8 * (t.val / 8) + n.val) + k.val; omega)

end Cert.GqaIdeal.Mine

end
-- ==== Proof.GqaCore.lean ====
/- The grouped-query attention: the quotient of running sums is the softmax-weighted mean. -/
module

public import proofs.«01_k».proof.Proof.GqaBlock
public import proofs.«01_k».proof.Proof.GqaPrep

@[expose] public section

set_option maxRecDepth 16384

noncomputable section

namespace Cert.GqaIdeal.Mine

open Cert.GqaIdeal Cert.GqaIdeal.Gen Idealize.ShloMosaic Idealize.ShloMosaic.TcCoe Idealize.SL.Sem

/-- The scale as a real number. -/
def scale : ℝ := 11863283 / 134217728

theorem scale_eq : Ideal.ofBits .f32 0x3DB504F3#32 = ((scale : ℝ) : EReal) := by
  unfold scale
  simp [Ideal.ofBits, Ideal.ieee]
  rw [← EReal.coe_mul]
  norm_num

theorem rate_eq : rate = ((scale * (Real.log 2)⁻¹ : ℝ) : EReal) := by
  unfold rate
  rw [scale_eq, Attention.rate_real]

/-- The block's entry over real queries `Q` and keys `K`, a real scale, any values `w` and any real number `M`. -/
theorem entry_scaled (s : ℝ) (x0 : Vec Ideal S2x1024x128 .bf16) (x1 : Vec Ideal S1x256x128 .bf16) (x2 : Vec Ideal S1x1x144x256 .bf16)
    (x3 : Vec Ideal S1x4096x128 .bf16) (x4 : Vec Ideal S1x8x144x512 .bf16) (a : Fin 2) (r : Fin 1024) (d : Fin 128)
    (Q : Fin 128 → ℝ) (K : Fin 4352 → Fin 128 → ℝ) (w : Fin 4352 → EReal) (M : ℝ)
    (h0 : ∀ e, (show EReal from x0 (ix3 a r e)) = ((Q e : ℝ) : EReal) * ((s * (Real.log 2)⁻¹ : ℝ) : EReal))
    (h1 : ∀ (k : Fin 256) e, (show EReal from x1 (ix3 0 k e)) = ((K ⟨k.val, by omega⟩ e : ℝ) : EReal))
    (h3 : ∀ (k : Fin 4096) e, (show EReal from x3 (ix3 0 k e)) = ((K ⟨256 + k.val, by omega⟩ e : ℝ) : EReal))
    (h2 : ∀ k : Fin 256, (show EReal from x2 (ix4 0 0 ⟨d.val, by omega⟩ k)) = w ⟨k.val, by omega⟩)
    (h2' : ∀ k : Fin 256, (show EReal from x2 (ix4 0 0 128 k)) = 1)
    (h4 : ∀ (n : Fin 8) (k : Fin 512), (show EReal from x4 (ix4 0 n ⟨d.val, by omega⟩ k)) = w ⟨256 + (n.val * 512 + k.val), by omega⟩)
    (h4' : ∀ (n : Fin 8) (k : Fin 512), (show EReal from x4 (ix4 0 n 128 k)) = 1) :
    entry x0 x1 x2 x3 x4 a r d
      = ∑ k : Fin 4352, Ideal.div (Ideal.exp ((((∑ e, K k e * Q e) * s : ℝ) : EReal) - (M : EReal)))
          (∑ j : Fin 4352, Ideal.exp ((((∑ e, K j e * Q e) * s : ℝ) : EReal) - (M : EReal))) * w k := by
  unfold entry
  have ones : Online.runSum (scoreCtx x1 x0 a r) (scoreLat x3 x0 a r) (fun k => x2 (ix4 0 0 128 k)) (valLat x4 128) 8
      = Online.runSum (scoreCtx x1 x0 a r) (scoreLat x3 x0 a r) (fun _ => 1) (fun _ _ => 1) 8 := by
    refine Online.runSum_congr rfl (fun _ _ => rfl) (funext fun k => h2' k) fun c hc => funext fun k => ?_
    unfold valLat
    rw [dif_pos hc]
    exact h4' ⟨c, hc⟩ k
  rw [ones]
  refine Online.running_softmax (a := 256) (b := 512) (n := 8) (N := 4352) (by norm_num) (by norm_num) (by norm_num)
    (fun k => (∑ e, K k e * Q e) * s) w M _ _ _ _ ?_ ?_ ?_ ?_
  · intro k h
    unfold scoreCtx
    simp only [h0, h1]
    exact Attention.dot_real s _ _
  · intro k h
    exact h2 k
  · intro c hc k h
    unfold scoreLat
    rw [dif_pos hc]
    simp only [h0, h3]
    refine (Attention.dot_real s _ _).trans ?_
    have e : (⟨256 + (512 * c + k.val), by omega⟩ : Fin 4352) = ⟨256 + (c * 512 + k.val), h⟩ := Fin.ext (by show 256 + (512 * c + k.val) = 256 + (c * 512 + k.val); ring)
    rw [e]
  · intro c hc k h
    unfold valLat
    rw [dif_pos hc]
    exact h4 ⟨c, hc⟩ k

/-- The same at the attention's own scale. -/
theorem entry_eq (x0 : Vec Ideal S2x1024x128 .bf16) (x1 : Vec Ideal S1x256x128 .bf16) (x2 : Vec Ideal S1x1x144x256 .bf16)
    (x3 : Vec Ideal S1x4096x128 .bf16) (x4 : Vec Ideal S1x8x144x512 .bf16) (a : Fin 2) (r : Fin 1024) (d : Fin 128)
    (Q : Fin 128 → ℝ) (K : Fin 4352 → Fin 128 → ℝ) (w : Fin 4352 → EReal) (M : ℝ)
    (h0 : ∀ e, (show EReal from x0 (ix3 a r e)) = ((Q e : ℝ) : EReal) * rate)
    (h1 : ∀ (k : Fin 256) e, (show EReal from x1 (ix3 0 k e)) = ((K ⟨k.val, by omega⟩ e : ℝ) : EReal))
    (h3 : ∀ (k : Fin 4096) e, (show EReal from x3 (ix3 0 k e)) = ((K ⟨256 + k.val, by omega⟩ e : ℝ) : EReal))
    (h2 : ∀ k : Fin 256, (show EReal from x2 (ix4 0 0 ⟨d.val, by omega⟩ k)) = w ⟨k.val, by omega⟩)
    (h2' : ∀ k : Fin 256, (show EReal from x2 (ix4 0 0 128 k)) = 1)
    (h4 : ∀ (n : Fin 8) (k : Fin 512), (show EReal from x4 (ix4 0 n ⟨d.val, by omega⟩ k)) = w ⟨256 + (n.val * 512 + k.val), by omega⟩)
    (h4' : ∀ (n : Fin 8) (k : Fin 512), (show EReal from x4 (ix4 0 n 128 k)) = 1) :
    entry x0 x1 x2 x3 x4 a r d
      = ∑ k : Fin 4352, Ideal.div (Ideal.exp ((((∑ e, K k e * Q e) * scale : ℝ) : EReal) - (M : EReal)))
          (∑ j : Fin 4352, Ideal.exp ((((∑ e, K j e * Q e) * scale : ℝ) : EReal) - (M : EReal))) * w k := by
  exact entry_scaled scale x0 x1 x2 x3 x4 a r d Q K w M (fun e => (h0 e).trans (by rw [rate_eq])) h1 h3 h2 h2' h4 h4'

end Cert.GqaIdeal.Mine

end
-- ==== Proof.GqaRef.lean ====
/- The reference of the grouped-query attention, read at an entry. -/
module

public import proofs.«01_k».proof.Proof.Gen.GqaRefIdeal.Run
public import Idealize.ShloMosaic.Lib.Pipeline.ValueKit
public import Idealize.ShloMosaic.Lib.Pointwise
public import Idealize.ShloMosaic.Lib.Claim
public import proofs.«01_k».proof.Proof.AttentionReals

@[expose] public section

set_option maxRecDepth 16384

noncomputable section

namespace Cert.GqaRefIdeal.Mine

open Cert.GqaRefIdeal Cert.GqaRefIdeal.Gen Cert.GqaRefIdeal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The keys of every batch: the context's, then the latent ones. -/
def keys (C : FVec Ideal S26x2048x128 .f32) (A : FVec Ideal S26x32768x128 .f32) : FVec Ideal S2x8x4352x128 .f32 :=
  concatenate S2x8x4352x128 2 [⟨S2x8x256x128, (shapeCast _ (extractStridedSlice S2x2048x128 ![4, 0, 0] C slices_S26x2048x128_S2x2048x128_4_0_0) shapeCasts_S2x2048x128_S2x8x256x128)⟩, ⟨S2x8x4096x128, (shapeCast _ (extractStridedSlice S2x32768x128 ![4, 0, 0] A slices_S26x32768x128_S2x32768x128_4_0_0) shapeCasts_S2x32768x128_S2x8x4096x128)⟩] concatenates_S2x8x256x128_S2x8x4096x128_S2x8x4352x128_d2

/-- The values of every batch: the context's, then the latent ones. -/
def vals (C : FVec Ideal S10x2048x128 .f32) (A : FVec Ideal S10x32768x128 .f32) : FVec Ideal S2x8x4352x128 .f32 :=
  concatenate S2x8x4352x128 2 [⟨S2x8x256x128, (shapeCast _ (extractStridedSlice S2x2048x128 ![0, 0, 0] C slices_S10x2048x128_S2x2048x128_0_0_0) shapeCasts_S2x2048x128_S2x8x256x128)⟩, ⟨S2x8x4096x128, (shapeCast _ (extractStridedSlice S2x32768x128 ![0, 0, 0] A slices_S10x32768x128_S2x32768x128_0_0_0) shapeCasts_S2x32768x128_S2x8x4096x128)⟩] concatenates_S2x8x256x128_S2x8x4096x128_S2x8x4352x128_d2

/-- The scaled scores. -/
def scores (KK : FVec Ideal S2x8x4352x128 .f32) (A : FVec Ideal S26x32768x128 .f32) : FVec Ideal S2x2x8x4096x4352 .f32 :=
  mulf (transpose S2x2x8x4096x4352 [0, 3, 1, 4, 2] (Host.dotGeneral dot_S2x8x4352x128_S2x2x8x4096x128_S2x8x4352x2x4096_3_4_2_13_01_02 none KK (shapeCast _ (shapeCast _ (extractStridedSlice S4x32768x128 ![0, 0, 0] A slices_S26x32768x128_S4x32768x128_0_0_0) shapeCasts_S4x32768x128_S4x8x4096x128) shapeCasts_S4x8x4096x128_S2x2x8x4096x128)) transposes_S2x8x4352x2x4096_S2x2x8x4096x4352_0_3_1_4_2) (broadcastInDim S2x2x8x4096x4352 ![] bcast_S_S2x2x8x4096x4352 (constant S_ .f32 0x3DB504F3#32))

/-- The largest score of every query. -/
def rmax (s : FVec Ideal S2x2x8x4096x4352 .f32) : FVec Ideal S2x2x8x4096 .f32 :=
  Host.reduce FloatOps.maximumf s (constant S_ .f32 0xFF800000#32) reducesTo_S2x2x8x4096x4352_S2x2x8x4096_d4 h_S_

/-- At least −∞. -/
def capped (w : FVec Ideal S2x2x8x4096 .f32) : FVec Ideal S2x2x8x4096 .f32 :=
  maximumf (broadcastInDim S2x2x8x4096 ![] bcast_S_S2x2x8x4096 (constant S_ .f32 0xFF800000#32)) w

/-- The largest score of every query, or −∞. -/
def tops (s : FVec Ideal S2x2x8x4096x4352 .f32) : FVec Ideal S2x2x8x4096 .f32 := capped (rmax s)

/-- The exponentials of the scores, `w` taken off every query's. -/
def weights (s : FVec Ideal S2x2x8x4096x4352 .f32) (w : FVec Ideal S2x2x8x4096 .f32) : FVec Ideal S2x2x8x4096x4352 .f32 :=
  Host.exp (subf s (broadcastInDim S2x2x8x4096x4352 ![0, 1, 2, 3, 4] bcast_S2x2x8x4096x1_S2x2x8x4096x4352_0_1_2_3_4 (broadcastInDim S2x2x8x4096x1 ![0, 1, 2, 3] bcast_S2x2x8x4096_S2x2x8x4096x1_0_1_2_3 w)))

/-- The exponentials, the largest score taken off. -/
def expd (s : FVec Ideal S2x2x8x4096x4352 .f32) : FVec Ideal S2x2x8x4096x4352 .f32 := weights s (tops s)

/-- The weights over their sum. -/
def probs (e : FVec Ideal S2x2x8x4096x4352 .f32) : FVec Ideal S2x2x8x4096x4352 .f32 :=
  Host.divf e (broadcastInDim S2x2x8x4096x4352 ![0, 1, 2, 3, 4] bcast_S2x2x8x4096x1_S2x2x8x4096x4352_0_1_2_3_4 (broadcastInDim S2x2x8x4096x1 ![0, 1, 2, 3] bcast_S2x2x8x4096_S2x2x8x4096x1_0_1_2_3 (Host.reduceAdd e (constant S_ .f32 0x00000000#32) reducesTo_S2x2x8x4096x4352_S2x2x8x4096_d4 h_S_)))

/-- The values mixed by the probabilities, heads side by side. -/
def mix (VV : FVec Ideal S2x8x4352x128 .f32) (p : FVec Ideal S2x2x8x4096x4352 .f32) : FVec Ideal S32768x512 .bf16 :=
  truncf .bf16 (shapeCast _ (transpose S8x4096x2x2x128 [0, 4, 1, 3, 2] (Host.dotGeneral dot_S2x8x4352x128_S2x2x8x4096x4352_S8x2x128x2x4096_2_4_3_13_10_20 none VV p) transposes_S8x2x128x2x4096_S8x4096x2x2x128_0_4_1_3_2) shapeCasts_S8x4096x2x2x128_S32768x512) bitsLt_bf16_f32

theorem res_eq (c : Dev nD) : res_out0 m c
    = mix (vals (m ((c.tc : Thread nD τ).loc main_arg3)) (m ((c.tc : Thread nD τ).loc main_arg2)))
        (probs (expd (scores (keys (m ((c.tc : Thread nD τ).loc main_arg1)) (m ((c.tc : Thread nD τ).loc main_arg0)))
          (m ((c.tc : Thread nD τ).loc main_arg0))))) := by
  unfold res_out0 res_main_v31 mix vals probs expd weights tops capped rmax scores keys
  rfl

/-- An entry of the result: head `a` of group `g`, query `n` of batch `b`, column `d`. -/
theorem mix_apply (VV : FVec Ideal S2x8x4352x128 .f32) (p : FVec Ideal S2x2x8x4096x4352 .f32) (b : Fin 8) (n : Fin 4096) (g a : Fin 2)
    (d : Fin 128) (R : Fin 32768) (q : Fin 512) (hR : R.val = 4096 * b.val + n.val) (hq : q.val = 256 * g.val + 128 * a.val + d.val) :
    (show EReal from mix VV p (ix2 R q)) = ∑ j : Fin 4352, (show EReal from VV (ix4 g b j d)) * p (ix5 g a b n j) := by
  pointwise [mix]

  refine Fin.sum_fin_congr fun j => ?_
  congr 1 <;> blk_ext

theorem probs_apply (e : FVec Ideal S2x2x8x4096x4352 .f32) (g a : Fin 2) (b : Fin 8) (n : Fin 4096) (j : Fin 4352) :
    (show EReal from probs e (ix5 g a b n j)) = Ideal.div (e (ix5 g a b n j)) (∑ k : Fin 4352, (show EReal from e (ix5 g a b n k))) := by
  pointwise [probs]

theorem weights_apply (s : FVec Ideal S2x2x8x4096x4352 .f32) (w : FVec Ideal S2x2x8x4096 .f32) (g a : Fin 2) (b : Fin 8) (n : Fin 4096) (j : Fin 4352) :
    (show EReal from weights s w (ix5 g a b n j)) = Ideal.exp ((show EReal from s (ix5 g a b n j)) - w (ix4 g a b n)) := by
  pointwise [weights]

theorem capped_apply (w : FVec Ideal S2x2x8x4096 .f32) (i : S2x2x8x4096.Idx) :
    (show EReal from capped w i) = max (Ideal.ofBits .f32 0xFF800000#32) (show EReal from w i) := rfl

theorem rmax_real (s : FVec Ideal S2x2x8x4096x4352 .f32) (i : S2x2x8x4096.Idx) (hs : ∀ j, ∃ y : ℝ, (show EReal from s j) = y)
    (j0 : S2x2x8x4096x4352.Idx) (hj : (reducesTo_S2x2x8x4096x4352_S2x2x8x4096_d4).drop j0 = i) :
    ∃ y : ℝ, (show EReal from rmax s i) = y := by
  unfold rmax
  rw [Host.reduce_eq_fold]
  refine Attention.fold_real _ (fun _ _ => rfl) _ Attention.negInf _ hs _ ⟨j0, ?_⟩
  rw [Finset.mem_filter]
  exact ⟨Finset.mem_univ _, hj⟩

/-- The largest score of a query is a real number where all its scores are. -/
theorem tops_real (s : FVec Ideal S2x2x8x4096x4352 .f32) (i : S2x2x8x4096.Idx) (hs : ∀ j, ∃ y : ℝ, (show EReal from s j) = y)
    (j0 : S2x2x8x4096x4352.Idx) (hj : (reducesTo_S2x2x8x4096x4352_S2x2x8x4096_d4).drop j0 = i) :
    ∃ y : ℝ, (show EReal from tops s i) = y := by
  obtain ⟨y, hy⟩ := rmax_real s i hs j0 hj
  unfold tops
  rw [capped_apply, hy, Attention.negInf]
  exact ⟨y, bot_sup_eq _⟩

theorem scores_apply (KK : FVec Ideal S2x8x4352x128 .f32) (A : FVec Ideal S26x32768x128 .f32) (g a : Fin 2) (b : Fin 8) (n : Fin 4096) (j : Fin 4352)
    (h : Fin 26) (hh : h.val = 2 * g.val + a.val) (R : Fin 32768) (hR : R.val = 4096 * b.val + n.val) :
    (show EReal from scores KK A (ix5 g a b n j))
      = (∑ e : Fin 128, (show EReal from KK (ix4 g b j e)) * A (ix3 h R e)) * Ideal.ofBits .f32 0x3DB504F3#32 := by
  pointwise [scores]

  congr 1
  refine Fin.sum_fin_congr fun j => ?_
  congr 1
  blk_ext

theorem keys_apply (C : FVec Ideal S26x2048x128 .f32) (A : FVec Ideal S26x32768x128 .f32) (g : Fin 2) (b : Fin 8) (j : Fin 4352) (e : Fin 128)
    (h : Fin 26) (hh : h.val = 4 + g.val) :
    (show EReal from keys C A (ix4 g b j e)) = if hj : j.val < 256 then C (ix3 h ⟨256 * b.val + j.val, by omega⟩ e)
      else A (ix3 h ⟨4096 * b.val + (j.val - 256), by omega⟩ e) := by
  pointwise [keys]

  split <;> blk_ext

theorem vals_apply (C : FVec Ideal S10x2048x128 .f32) (A : FVec Ideal S10x32768x128 .f32) (g : Fin 2) (b : Fin 8) (j : Fin 4352) (e : Fin 128)
    (h : Fin 10) (hh : h.val = g.val) :
    (show EReal from vals C A (ix4 g b j e)) = if hj : j.val < 256 then C (ix3 h ⟨256 * b.val + j.val, by omega⟩ e)
      else A (ix3 h ⟨4096 * b.val + (j.val - 256), by omega⟩ e) := by
  pointwise [vals]
  split <;> blk_ext

end Cert.GqaRefIdeal.Mine

end
-- ==== Proof.GqaValue.lean ====
/- The grouped-query attention: the kernel's result is the reference's where the queries and keys are finite. -/
module

public import proofs.«01_k».proof.Proof.GqaCore
public import proofs.«01_k».proof.Proof.GqaRef

@[expose] public section

set_option maxRecDepth 16384

noncomputable section

namespace Cert.GqaIdeal.Mine

open Cert.GqaIdeal Cert.GqaIdeal.Gen Idealize.ShloMosaic Idealize.ShloMosaic.TcCoe Idealize.SL.Sem
open Idealize.ShloMosaic.Pipeline (Dat)
open Cert.GqaRefIdeal.Mine (mix vals probs expd scores keys tops weights)

variable (m : (ℓ : Loc nD τ sig) → Buf (Elt Ideal) ℓ) (ρ : Dev nD → PrngReg)

/-- The reference's result of the four arrays. -/
def attention (A : FVec Ideal S26x32768x128 .f32) (C : FVec Ideal S26x2048x128 .f32) (V : FVec Ideal S10x32768x128 .f32)
    (W : FVec Ideal S10x2048x128 .f32) : FVec Ideal S32768x512 .bf16 :=
  mix (vals W V) (probs (expd (scores (keys C A) A)))

/-- The real part of a key. -/
def key (A : FVec Ideal S26x32768x128 .f32) (C : FVec Ideal S26x2048x128 .f32) (g : Fin 2) (b : Fin 8) (j : Fin 4352) (e : Fin 128) : ℝ :=
  EReal.toReal (keys C A (ix4 g b j e))

/-- The queries and keys the attention reads are real numbers. -/
def Real4 (A : FVec Ideal S26x32768x128 .f32) (C : FVec Ideal S26x2048x128 .f32) : Prop :=
  (∀ (h : Fin 26) (R : Fin 32768) (e : Fin 128), h.val < 6 → ∃ y : ℝ, (show EReal from A (ix3 h R e)) = y)
  ∧ ∀ (h : Fin 26) (R : Fin 2048) (e : Fin 128), 4 ≤ h.val → h.val < 6 → ∃ y : ℝ, (show EReal from C (ix3 h R e)) = y

theorem key_eq (A : FVec Ideal S26x32768x128 .f32) (C : FVec Ideal S26x2048x128 .f32) (hf : Real4 A C) (g : Fin 2) (b : Fin 8)
    (j : Fin 4352) (e : Fin 128) : (show EReal from keys C A (ix4 g b j e)) = ((key A C g b j e : ℝ) : EReal) := by
  have : ∃ y : ℝ, (show EReal from keys C A (ix4 g b j e)) = y := by
    rw [Cert.GqaRefIdeal.Mine.keys_apply C A g b j e ⟨4 + g.val, by omega⟩ rfl]
    split
    · exact hf.2 _ _ _ (by show 4 ≤ 4 + g.val; omega) (by show 4 + g.val < 6; omega)
    · exact hf.1 _ _ _ (by show 4 + g.val < 6; omega)
  obtain ⟨y, hy⟩ := this
  unfold key
  exact hy.trans (congrArg _ ((congrArg EReal.toReal hy).trans (EReal.toReal_coe y)).symm)

theorem query_eq (A : FVec Ideal S26x32768x128 .f32) (C : FVec Ideal S26x2048x128 .f32) (hf : Real4 A C) (h : Fin 26) (hh : h.val < 6)
    (R : Fin 32768) (e : Fin 128) : (show EReal from A (ix3 h R e)) = ((EReal.toReal (A (ix3 h R e)) : ℝ) : EReal) := by
  obtain ⟨y, hy⟩ := hf.1 h R e hh
  exact hy.trans (congrArg _ ((congrArg EReal.toReal hy).trans (EReal.toReal_coe y)).symm)

/-- A score is a real number. -/
theorem score_eq (A : FVec Ideal S26x32768x128 .f32) (C : FVec Ideal S26x2048x128 .f32) (hf : Real4 A C) (g a : Fin 2) (b : Fin 8)
    (n : Fin 4096) (j : Fin 4352) (h : Fin 26) (hh : h.val = 2 * g.val + a.val) (R : Fin 32768) (hR : R.val = 4096 * b.val + n.val) :
    (show EReal from scores (keys C A) A (ix5 g a b n j))
      = (((∑ e, key A C g b j e * EReal.toReal (A (ix3 h R e))) * scale : ℝ) : EReal) := by
  rw [Cert.GqaRefIdeal.Mine.scores_apply _ A g a b n j h hh R hR, scale_eq, EReal.coe_mul, ← Online.coe_sum]
  congr 1
  refine Fin.sum_fin_congr fun e => ?_
  rw [EReal.coe_mul, ← query_eq A C hf h (by omega) R e]
  exact congrArg (· * _) (key_eq A C hf g b j e)

theorem drop_eq (g a : Fin 2) (b : Fin 8) (n : Fin 4096) (j : Fin 4352) :
    (Cert.GqaRefIdeal.Gen.reducesTo_S2x2x8x4096x4352_S2x2x8x4096_d4).drop (ix5 g a b n j) = ix4 g a b n := by
  funext x
  match x with
  | ⟨0, _⟩ => rfl
  | ⟨1, _⟩ => rfl
  | ⟨2, _⟩ => rfl
  | ⟨3, _⟩ => rfl

/-- The largest score of a query is a real number. -/
theorem top_eq (A : FVec Ideal S26x32768x128 .f32) (C : FVec Ideal S26x2048x128 .f32) (hf : Real4 A C) (g a : Fin 2) (b : Fin 8) (n : Fin 4096) :
    ∃ y : ℝ, (show EReal from tops (scores (keys C A) A) (ix4 g a b n)) = y := by
  refine Cert.GqaRefIdeal.Mine.tops_real _ _ (fun i => ?_) (ix5 g a b n 0) (drop_eq g a b n 0)
  obtain ⟨g', a', b', n', j', rfl⟩ : ∃ (g' a' : Fin 2) (b' : Fin 8) (n' : Fin 4096) (j' : Fin 4352), i = ix5 g' a' b' n' j' :=
    ⟨i 0, i 1, i 2, i 3, i 4, by idx_vars i⟩
  exact ⟨_, score_eq A C hf g' a' b' n' j' ⟨2 * g'.val + a'.val, by omega⟩ rfl ⟨4096 * b'.val + n'.val, by omega⟩ rfl⟩

/-- An entry of the reference's result over real scores, for some real number. -/
theorem attention_apply (A : FVec Ideal S26x32768x128 .f32) (C : FVec Ideal S26x2048x128 .f32) (V : FVec Ideal S10x32768x128 .f32)
    (W : FVec Ideal S10x2048x128 .f32) (hf : Real4 A C) (g a : Fin 2) (b : Fin 8) (n : Fin 4096) (d : Fin 128) (h : Fin 26)
    (hh : h.val = 2 * g.val + a.val) (R : Fin 32768) (hR : R.val = 4096 * b.val + n.val) (q : Fin 512)
    (hq : q.val = 256 * g.val + 128 * a.val + d.val) :
    ∃ M : ℝ, (show EReal from attention A C V W (ix2 R q))
      = ∑ k : Fin 4352, Ideal.div (Ideal.exp ((((∑ e, key A C g b k e * EReal.toReal (A (ix3 h R e))) * scale : ℝ) : EReal) - (M : EReal)))
          (∑ j : Fin 4352, Ideal.exp ((((∑ e, key A C g b j e * EReal.toReal (A (ix3 h R e))) * scale : ℝ) : EReal) - (M : EReal)))
          * (show EReal from vals W V (ix4 g b k d)) := by
  obtain ⟨M, hM⟩ := top_eq A C hf g a b n
  refine ⟨M, ?_⟩
  unfold attention
  rw [Cert.GqaRefIdeal.Mine.mix_apply _ _ b n g a d R q hR hq]
  have hw : ∀ j : Fin 4352, (show EReal from expd (scores (keys C A) A) (ix5 g a b n j))
      = Ideal.exp ((((∑ e, key A C g b j e * EReal.toReal (A (ix3 h R e))) * scale : ℝ) : EReal) - (M : EReal)) := by
    intro j
    unfold expd
    refine (Cert.GqaRefIdeal.Mine.weights_apply _ _ g a b n j).trans (congrArg Ideal.exp ?_)
    exact congr (congrArg (fun x y : EReal => x - y) (score_eq A C hf g a b n j h hh R hR)) hM
  refine Finset.sum_congr rfl fun k _ => ?_
  refine (mul_comm _ _).trans (congrArg (fun x : EReal => x * (show EReal from vals W V (ix4 g b k d))) ?_)
  refine (Cert.GqaRefIdeal.Mine.probs_apply _ g a b n k).trans ?_
  exact congr (congrArg Ideal.div (hw k)) (Finset.sum_congr rfl fun j _ => hw j)

/-- The array the kernel leaves. -/
theorem final (c : Dev nD) (hf : Real4 (m ((c.tc : Thread nD τ).loc main_arg0)) (m ((c.tc : Thread nD τ).loc main_arg1))) :
    (dats m 0 c).arrAt 5 (cfgs 0).N
    = attention (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 5 _ (by decide +kernel) fun t hfl y => ?_
  have ht : t.val < 64 := lt_of_lt_of_eq t.isLt N_0
  blk_simp
  rw [after0_5]
  obtain ⟨r, q, rfl⟩ : ∃ (r : Fin 1024) (q : Fin 256), y = ix2 r q := ⟨y 0, y 1, by idx_vars y⟩
  obtain ⟨R, Q, hj⟩ : ∃ (R : Fin 32768) (Q : Fin 512), (win0_5.blk t).view.emb (ix2 r q) = ix2 R Q := by
    generalize (win0_5.blk t).view.emb (ix2 r q) = j
    exact ⟨j 0, j 1, by idx_vars j⟩
  have hR : R.val = 1024 * (t.val / 8 * 4 + t.val % 4) + r.val := by
    have : ((win0_5.blk t).view.emb (ix2 r q) 0).val = R.val := by rw [hj]; rfl
    blk_simp [idx t] at this
    omega
  have hQ : Q.val = 256 * (t.val / 4 % 2) + q.val := by
    have : ((win0_5.blk t).view.emb (ix2 r q) 1).val = Q.val := by rw [hj]; rfl
    blk_simp [idx t] at this
    omega
  rw [hj]
  obtain ⟨a, ha⟩ : ∃ a : Fin 2, a.val = q.val / 128 := ⟨⟨q.val / 128, by omega⟩, rfl⟩
  obtain ⟨d, hd⟩ : ∃ d : Fin 128, d.val = q.val % 128 := ⟨⟨q.val % 128, by omega⟩, rfl⟩
  obtain ⟨g, hg⟩ : ∃ g : Fin 2, g.val = t.val / 4 % 2 := ⟨⟨t.val / 4 % 2, by omega⟩, rfl⟩
  obtain ⟨b, hb⟩ : ∃ b : Fin 8, b.val = t.val / 8 := ⟨⟨t.val / 8, by omega⟩, rfl⟩
  obtain ⟨n, hn⟩ : ∃ n : Fin 4096, n.val = 1024 * (t.val % 4) + r.val := ⟨⟨1024 * (t.val % 4) + r.val, by omega⟩, rfl⟩
  obtain ⟨h, hh⟩ : ∃ h : Fin 26, h.val = 2 * g.val + a.val := ⟨⟨2 * g.val + a.val, by omega⟩, rfl⟩
  obtain ⟨M, hM⟩ := attention_apply _ _ (m ((c.tc : Thread nD τ).loc main_arg2)) (m ((c.tc : Thread nD τ).loc main_arg3)) hf g a b n d h hh R
    (by omega) Q (by omega)
  refine Eq.trans ?_ hM.symm
  refine (out_A m c t r q a d (by omega)).trans ?_
  refine entry_eq _ _ _ _ _ a r d (fun e => EReal.toReal ((show FVec Ideal S26x32768x128 .f32 from m ((c.tc : Thread nD τ).loc main_arg0)) (ix3 h R e)))
    (fun k e => key (m ((c.tc : Thread nD τ).loc main_arg0)) (m ((c.tc : Thread nD τ).loc main_arg1)) g b k e)
    (fun k => vals (m ((c.tc : Thread nD τ).loc main_arg3)) (m ((c.tc : Thread nD τ).loc main_arg2)) (ix4 g b k d)) M
    ?_ ?_ ?_ ?_ ?_ ?_ ?_
  · intro e
    refine (block0 m c t a r e h (by omega) R (by omega)).trans (congrArg (· * rate) ?_)
    exact query_eq _ _ hf h (by omega) R e
  · intro k e
    refine (block1 m c t k e ⟨4 + g.val, by omega⟩ (by show 4 + g.val = _; omega) ⟨256 * b.val + k.val, by omega⟩ (by show 256 * b.val + k.val = _; omega)).trans ?_
    rw [← key_eq _ _ hf, Cert.GqaRefIdeal.Mine.keys_apply _ _ g b _ e ⟨4 + g.val, by omega⟩ rfl, dif_pos (by show k.val < 256; omega)]
  · intro k e
    refine (block3 m c t k e ⟨4 + g.val, by omega⟩ (by show 4 + g.val = _; omega) ⟨4096 * b.val + k.val, by omega⟩ (by show 4096 * b.val + k.val = _; omega)).trans ?_
    rw [← key_eq _ _ hf, Cert.GqaRefIdeal.Mine.keys_apply _ _ g b _ e ⟨4 + g.val, by omega⟩ rfl, dif_neg (by show ¬ 256 + k.val < 256; omega)]
    have e1 : (⟨4096 * b.val + k.val, by omega⟩ : Fin 32768) = ⟨4096 * b.val + (256 + k.val - 256), by omega⟩ := Fin.ext (by show 4096 * b.val + k.val = 4096 * b.val + (256 + k.val - 256); omega)
    rw [e1]
  · intro k
    refine (block2 m c t k ⟨d.val, by omega⟩ ⟨g.val, by omega⟩ (by show g.val = _; omega) ⟨256 * b.val + k.val, by omega⟩ (by show 256 * b.val + k.val = _; omega)).trans ?_
    refine Eq.trans ?_ (Cert.GqaRefIdeal.Mine.vals_apply _ _ g b _ d ⟨g.val, by omega⟩ rfl).symm
    rw [dif_pos (by show d.val < 128; omega), dif_pos (by show k.val < 256; omega)]
  · intro k
    refine (block2 m c t k 128 ⟨g.val, by omega⟩ (by show g.val = _; omega) ⟨256 * b.val + k.val, by omega⟩ (by show 256 * b.val + k.val = _; omega)).trans ?_
    exact dif_neg (by decide)
  · intro n' k
    refine (block4 m c t n' k ⟨d.val, by omega⟩ ⟨g.val, by omega⟩ (by show g.val = _; omega) ⟨4096 * b.val + (512 * n'.val + k.val), by omega⟩ (by show 4096 * b.val + (512 * n'.val + k.val) = _; omega)).trans ?_
    refine Eq.trans ?_ (Cert.GqaRefIdeal.Mine.vals_apply _ _ g b _ d ⟨g.val, by omega⟩ rfl).symm
    rw [dif_pos (by show d.val < 128; omega), dif_neg (by show ¬ 256 + (n'.val * 512 + k.val) < 256; omega)]
    have e1 : (⟨4096 * b.val + (512 * n'.val + k.val), by omega⟩ : Fin 32768) = ⟨4096 * b.val + (256 + (n'.val * 512 + k.val) - 256), by omega⟩ :=
      Fin.ext (by show 4096 * b.val + (512 * n'.val + k.val) = 4096 * b.val + (256 + (n'.val * 512 + k.val) - 256); omega)
    rw [e1]
  · intro n' k
    refine (block4 m c t n' k 128 ⟨g.val, by omega⟩ (by show g.val = _; omega) ⟨4096 * b.val + (512 * n'.val + k.val), by omega⟩ (by show 4096 * b.val + (512 * n'.val + k.val) = _; omega)).trans ?_
    exact dif_neg (by decide)

end Cert.GqaIdeal.Mine

end
-- ==== Proof.GqaClaims.lean ====
/- The grouped-query attention's claims. -/
module

public import proofs.«01_k».proof.Proof.GqaValue
public import proofs.«01_k».proof.Defs
public import proofs.«01_k».proof.Proof.Gen.Gqa.Frame
public import proofs.«01_k».proof.Proof.Gen.GqaIdeal.Frame
public import proofs.«01_k».proof.Proof.Gen.Pre_finite_heads
public import Idealize.ShloMosaic.Lib.ReduceAll

@[expose] public section

set_option maxRecDepth 16384

noncomputable section

namespace Cert.Proof

open Idealize.ShloMosaic Idealize.SL.Sem

/-- The predicate says the queries and keys are real numbers. -/
theorem real4 (A : FVec Ideal Cert.Pre_finite_heads.S26x32768x128 .f32) (C : FVec Ideal Cert.Pre_finite_heads.S26x2048x128 .f32)
    (V : FVec Ideal Cert.Pre_finite_heads.S10x32768x128 .f32) (W : FVec Ideal Cert.Pre_finite_heads.S10x2048x128 .f32)
    (h : Cert.Pre_finite_heads.fn (F := Ideal) A C V W = fun _ => 1#1) : Cert.GqaIdeal.Mine.Real4 A C := by
  have e := congrFun h (Shape.Idx.first Cert.Pre_finite_heads.Gen.h_S_)
  unfold Cert.Pre_finite_heads.fn at e
  dsimp only at e
  obtain ⟨e1, e2⟩ := IntOp.andi_eq_one.1 e
  have : Subsingleton Cert.Pre_finite_heads.S_.Idx := ⟨fun a b => funext fun x => x.elim0⟩
  refine ⟨fun s R d hs => ?_, fun s R d h4 hs => ?_⟩
  · have := Host.reduce_andi_all _ _ _ _ _ e1 (ix3 ⟨s.val, hs⟩ R d)
    obtain ⟨y, hy⟩ := Attention.real_of_lt _ this
    refine ⟨y, Eq.trans ?_ hy⟩
    pointwise
  · have := Host.reduce_andi_all _ _ _ _ _ e2 (ix3 ⟨s.val - 4, by omega⟩ R d)
    obtain ⟨y, hy⟩ := Attention.real_of_lt _ this
    refine ⟨y, Eq.trans ?_ hy⟩
    pointwise
    blk_ext

/-- The reference runs, leaves its arguments as they were and every semaphore at zero. -/
theorem gqa_ref_frame : Cert.quiescent_GqaRefIdeal (hGqaRefIdeal := Cert.GqaRefIdeal.Gen.facts) := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- The attention's result is the reference's where the queries and keys are finite. -/
theorem gqa_algebraic : Cert.algebraic_GqaIdeal_GqaRefIdeal_pre_finite_heads (hGqaIdeal := Cert.GqaIdeal.Gen.facts)
    (hGqaRefIdeal := Cert.GqaRefIdeal.Gen.facts) (hPre_finite_heads := Cert.Pre_finite_heads.Gen.facts) := by
  pair_intro
  · run_from Cert.GqaIdeal.Value.run_blocks m g
  · run_from Cert.GqaRefIdeal.Value.run m' g'
    refine (Cert.GqaRefIdeal.Mine.res_eq m' c).trans ?_
    obtain ⟨h0, h1, h2, h3⟩ := hagree c
    rw [h0, h1, h2, h3]
    exact (Cert.GqaIdeal.Mine.final m c (real4 _ _ _ _ (hpre c))).symm

end Cert.Proof

end
-- ==== Proof.Ffn.lean ====
/- The feed-forward: what a grid point's body leaves in its block, point by point. -/
module

public import proofs.«01_k».proof.Proof.Gen.FfnIdeal.Value
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Mine

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gated activation of one hidden unit: the gate's logistic-weighted value times the up projection. -/
def act (g u : EReal) : EReal := Ideal.div g (1 + Ideal.exp (0 - g)) * u

/-- One sweep's share of the down projection: 256 hidden units of row `r`, onto output column `q`. -/
def part (x0 : Vec Ideal S1024x2048 .bf16) (x1 x2 : Vec Ideal S2048x256 .bf16) (x3 : Vec Ideal S256x2048 .bf16)
    (r : Fin 1024) (q : Fin 2048) : EReal :=
  ∑ k : Fin 256, act (∑ d : Fin 2048, x0 (ix2 r d) * x1 (ix2 d k)) (∑ d : Fin 2048, x0 (ix2 r d) * x2 (ix2 d k))
    * x3 (ix2 k q)

set_option maxHeartbeats 2000000 in
/-- The first sweep leaves its share. -/
theorem out_A (c : Dev nD) (t : Fin cfg0.N) (a0 : t.val % 22 = 0) (a1 : ¬(1 ≤ t.val % 22 ∧ t.val % 22 ≤ 20)) (a2 : ¬t.val % 22 = 21)
    (r : Fin 1024) (q : Fin 2048) :
    outsAt0 m c t.val t.isLt (ix2 r q) = part (iblk m c 0 t) (iblk m c 1 t) (iblk m c 2 t) (iblk m c 3 t) r q := by
  rw [outsAt0_A m c t a0 a1 a2]
  frame_out
  canon_tiles x h
  all_goals
    open_payloads
    pointwise [part, act]
    have e0 : r = (⟨_, h0 ▸ r.isLt⟩ : Fin 1024) := Fin.ext h0
    have e1 : q = x 1 := Fin.ext h1
    rw [e0, e1]

set_option maxHeartbeats 2000000 in
/-- A later sweep adds its share. -/
theorem out_B (c : Dev nD) (t : Fin cfg0.N) (a0 : ¬t.val % 22 = 0) (a1 : (1 ≤ t.val % 22 ∧ t.val % 22 ≤ 20)) (a2 : ¬t.val % 22 = 21)
    (r : Fin 1024) (q : Fin 2048) (hp : t.val - 1 < cfg0.N) :
    outsAt0 m c t.val t.isLt (ix2 r q) = (show EReal from outsAt0 m c (t.val - 1) hp (ix2 r q))
      + part (iblk m c 0 t) (iblk m c 1 t) (iblk m c 2 t) (iblk m c 3 t) r q := by
  rw [outsAt0_B m c t a0 a1 a2]
  frame_out
  canon_tiles x h
  all_goals
    open_payloads
    pointwise [part, act]
    have e0 : r = (⟨_, h0 ▸ r.isLt⟩ : Fin 1024) := Fin.ext h0
    have e1 : q = x 1 := Fin.ext h1
    rw [e0, e1]

/-- The gated post-norm and residual of one entry: `z` the row of the down projection. -/
def post (x : EReal) (gate : EReal) (z : Fin 2048 → EReal) (g : EReal) (q : Fin 2048) : EReal :=
  x + gate * (z q * Ideal.rsqrt (Ideal.div (∑ d, z d * z d) (Ideal.ofBits .f32 0x45000000#32)
    + Ideal.ofBits .f32 0x358637BD#32) * g)

set_option maxHeartbeats 2000000 in
/-- The last sweep adds its share and writes the gated post-norm over the residual. -/
theorem out_C (c : Dev nD) (t : Fin cfg0.N) (a0 : ¬t.val % 22 = 0) (a1 : ¬(1 ≤ t.val % 22 ∧ t.val % 22 ≤ 20)) (a2 : t.val % 22 = 21)
    (r : Fin 1024) (q : Fin 2048) (hp : t.val - 1 < cfg0.N) :
    outsAt0 m c t.val t.isLt (ix2 r q) = post (iblk m c 4 t (ix2 r q)) (iblk m c 5 t (ix3 0 5 q))
      (fun d => (show EReal from outsAt0 m c (t.val - 1) hp (ix2 r d))
        + part (iblk m c 0 t) (iblk m c 1 t) (iblk m c 2 t) (iblk m c 3 t) r d)
      (iblk m c 6 t (ix2 0 q)) q := by
  rw [outsAt0_C m c t a0 a1 a2]
  frame_out
  canon_tiles x h
  all_goals
    open_payloads
    pointwise [part, act, post]
    have e0 : r = (⟨_, h0 ▸ r.isLt⟩ : Fin 1024) := Fin.ext h0
    have e1 : q = x 1 := Fin.ext h1
    rw [e0, e1]

end Cert.FfnIdeal.Mine

end
-- ==== Proof.FfnValue.lean ====
/- The feed-forward: the sweeps' shares added up, and the result against the reference. -/
module

public import proofs.«01_k».proof.Proof.Ffn
public import proofs.«01_k».proof.Proof.Gen.FfnRefIdeal.Run

@[expose] public section

set_option maxRecDepth 16384

noncomputable section

namespace Cert.FfnIdeal.Mine

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of its array each window holds at a grid point. -/
theorem idx : ∀ t : Fin cfg0.N, win0_0.index t = ![t.val / 22, 0] ∧ win0_1.index t = ![0, t.val % 22]
    ∧ win0_2.index t = ![0, t.val % 22] ∧ win0_3.index t = ![t.val % 22, 0] ∧ win0_4.index t = ![t.val / 22, 0]
    ∧ win0_5.index t = ![t.val / 88, 0, 0] ∧ win0_6.index t = ![0, 0] ∧ win0_7.index t = ![t.val / 22, 0] :=
  (by decide +kernel : ∀ t : Fin grid0.N, _)

/-- The gated activation of hidden unit `u` in row `R`. -/
def hid (x : Vec Ideal S32768x2048 .bf16) (wg wu : Vec Ideal S2048x5632 .f32) (R : Fin 32768) (u : Fin 5632) : EReal :=
  act (∑ d : Fin 2048, x (ix2 R d) * wg (ix2 d u)) (∑ d : Fin 2048, x (ix2 R d) * wu (ix2 d u))

/-- The down projection of row `R` onto column `q`. -/
def down (x : Vec Ideal S32768x2048 .bf16) (wg wu : Vec Ideal S2048x5632 .f32) (wd : Vec Ideal S5632x2048 .f32)
    (R : Fin 32768) (q : Fin 2048) : EReal :=
  ∑ u : Fin 5632, hid x wg wu R u * wd (ix2 u q)

/-- The share a grid point adds, over the argument arrays. -/
theorem part_eq (c : Dev nD) (t : Fin cfg0.N) (r : Fin 1024) (q : Fin 2048) (R : Fin 32768) (hR : R.val = 1024 * (t.val / 22) + r.val)
    (s : Fin 22) (hs : s.val = t.val % 22) :
    part (iblk m c 0 t) (iblk m c 1 t) (iblk m c 2 t) (iblk m c 3 t) r q
      = ∑ k : Fin 256, hid (m ((c.tc : Thread nD τ).loc main_arg0)) (m ((c.tc : Thread nD τ).loc main_arg1)) (m ((c.tc : Thread nD τ).loc main_arg2)) R ⟨s.val * 256 + k.val, by omega⟩
          * (show Vec Ideal S5632x2048 .f32 from m ((c.tc : Thread nD τ).loc main_arg3)) (ix2 ⟨s.val * 256 + k.val, by omega⟩ q) := by
  have ht : t.val < 704 := lt_of_lt_of_eq t.isLt N_0
  unfold part hid act iblk
  entry_read
  blk_point [idx t]

/-- The share of grid point `n`; zero past the grid. -/
def share (c : Dev nD) (r : Fin 1024) (q : Fin 2048) (n : ℕ) : EReal :=
  if h : n < cfg0.N then part (iblk m c 0 ⟨n, h⟩) (iblk m c 1 ⟨n, h⟩) (iblk m c 2 ⟨n, h⟩) (iblk m c 3 ⟨n, h⟩) r q else 0

theorem share_eq (c : Dev nD) (r : Fin 1024) (q : Fin 2048) (t : Fin cfg0.N) :
    part (iblk m c 0 t) (iblk m c 1 t) (iblk m c 2 t) (iblk m c 3 t) r q = share m c r q t.val := by
  unfold share; rw [dif_pos t.isLt]

/-- Before the last sweep a block holds the shares added so far. -/
theorem sweeps (c : Dev nD) (b : ℕ) (r : Fin 1024) (q : Fin 2048) : ∀ n : ℕ, n ≤ 20 → ∀ h : 22 * b + n < cfg0.N,
    (show EReal from outsAt0 m c (22 * b + n) h (ix2 r q)) = ∑ s ∈ Finset.range (n + 1), share m c r q (22 * b + s)
  | 0, _, h => by
    have e := out_A m c ⟨22 * b + 0, h⟩ (by show (22 * b + 0) % 22 = 0; omega) (by show ¬(1 ≤ (22 * b + 0) % 22 ∧ _); omega)
      (by show ¬(22 * b + 0) % 22 = 21; omega) r q
    rw [share_eq] at e
    rw [Finset.sum_range_one]
    exact e
  | n + 1, hn, h => by
    have e := out_B m c ⟨22 * b + (n + 1), h⟩ (by show ¬(22 * b + (n + 1)) % 22 = 0; omega)
      (by show 1 ≤ (22 * b + (n + 1)) % 22 ∧ (22 * b + (n + 1)) % 22 ≤ 20; omega)
      (by show ¬(22 * b + (n + 1)) % 22 = 21; omega) r q (by show 22 * b + n < cfg0.N; omega)
    rw [share_eq] at e
    rw [Finset.sum_range_succ, ← sweeps c b r q n (by omega) (by omega)]
    exact e

/-- Twenty-two shares are the whole down projection. -/
theorem shares_eq (c : Dev nD) (b : ℕ) (hb : b < 32) (r : Fin 1024) (q : Fin 2048) (R : Fin 32768) (hR : R.val = 1024 * b + r.val) :
    ∑ s ∈ Finset.range 22, share m c r q (22 * b + s)
      = down (m ((c.tc : Thread nD τ).loc main_arg0)) (m ((c.tc : Thread nD τ).loc main_arg1)) (m ((c.tc : Thread nD τ).loc main_arg2))
          (m ((c.tc : Thread nD τ).loc main_arg3)) R q := by
  rw [Finset.sum_range]
  unfold down
  refine Eq.trans (Finset.sum_congr rfl fun s _ => ?_) (Fin.sum_mul_add_fin (S := 22) (n := 256) (L := 5632) (fun u =>
    hid (m ((c.tc : Thread nD τ).loc main_arg0)) (m ((c.tc : Thread nD τ).loc main_arg1)) (m ((c.tc : Thread nD τ).loc main_arg2)) R u
      * (show Vec Ideal S5632x2048 .f32 from m ((c.tc : Thread nD τ).loc main_arg3)) (ix2 u q)) rfl)
  have hN : 22 * b + s.val < cfg0.N := lt_of_lt_of_eq (b := 704) (by omega) N_0.symm
  rw [← share_eq m c r q ⟨22 * b + s.val, hN⟩]
  exact part_eq m c ⟨22 * b + s.val, hN⟩ r q R (by show R.val = 1024 * ((22 * b + s.val) / 22) + r.val; omega) s
    (by show s.val = (22 * b + s.val) % 22; omega)

/-- The whole result over the argument arrays. -/
def result (x : Vec Ideal S32768x2048 .bf16) (wg wu : Vec Ideal S2048x5632 .f32) (wd : Vec Ideal S5632x2048 .f32)
    (y : Vec Ideal S32768x2048 .f32) (md : Vec Ideal S16x6x2048 .f32) (g : Vec Ideal S2048 .f32) : Vec Ideal S32768x2048 .f32 :=
  fun i => post (y i) (md (ix3 ⟨(i 0).val / 4096, by have h : (i 0).val < 32768 := (i 0).isLt; omega⟩ 5 (i 1)))
    (down x wg wu wd (i 0)) (g (ix1 (i 1))) (i 1)

/-- The array the kernel leaves. -/
theorem final (c : Dev nD) : (dats m 0 c).arrAt 7 (cfgs 0).N
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (dats m 0 c).arrAt_eq_of_covers 7 _ (by decide +kernel) fun t hf y => ?_
  have ht : t.val < 704 := lt_of_lt_of_eq t.isLt N_0
  have h21 : t.val % 22 = 21 := (flush0_7 t).mp hf
  blk_simp
  rw [after0_7]
  obtain ⟨r, q, rfl⟩ : ∃ (r : Fin 1024) (q : Fin 2048), y = ix2 r q := ⟨y 0, y 1, by idx_vars y⟩
  have hp : t.val - 1 < cfg0.N := lt_of_lt_of_eq (b := 704) (by omega) N_0.symm
  refine (out_C m c t (by omega) (by omega) h21 r q hp).trans ?_
  obtain ⟨R, Q, hj⟩ : ∃ (R : Fin 32768) (Q : Fin 2048), (win0_7.blk t).view.emb (ix2 r q) = ix2 R Q := by
    generalize (win0_7.blk t).view.emb (ix2 r q) = j
    exact ⟨j 0, j 1, by idx_vars j⟩
  have hR : R.val = 1024 * (t.val / 22) + r.val := by
    have : ((win0_7.blk t).view.emb (ix2 r q) 0).val = R.val := by rw [hj]; rfl
    blk_simp [idx t] at this
    omega
  have hQ : q = Q := by
    have : ((win0_7.blk t).view.emb (ix2 r q) 1).val = Q.val := by rw [hj]; rfl
    blk_simp [idx t] at this
    exact Fin.ext (by omega)
  subst hQ
  have hz : (fun d => (show EReal from outsAt0 m c (t.val - 1) hp (ix2 r d))
      + part (iblk m c 0 t) (iblk m c 1 t) (iblk m c 2 t) (iblk m c 3 t) r d)
      = down (m ((c.tc : Thread nD τ).loc main_arg0)) (m ((c.tc : Thread nD τ).loc main_arg1)) (m ((c.tc : Thread nD τ).loc main_arg2))
          (m ((c.tc : Thread nD τ).loc main_arg3)) R := by
    funext d
    have e1 : t.val - 1 = 22 * (t.val / 22) + 20 := by omega
    have e2 : t.val = 22 * (t.val / 22) + 21 := by omega
    rw [← shares_eq m c (t.val / 22) (by omega) r d R hR, Finset.sum_range_succ, ← e2, share_eq]
    have := sweeps m c (t.val / 22) r d 20 le_rfl (by rw [← e1]; exact hp)
    rw [← this]
    simp only [e1]
  rw [hz, hj]
  unfold result
  have h5 : (show EReal from iblk m c 5 t (ix3 0 5 q)) = (show Vec Ideal S16x6x2048 .f32 from m ((c.tc : Thread nD τ).loc main_arg5)) (ix3 ⟨R.val / 4096, by omega⟩ 5 q) := by
    blk_point [iblk, V, idx t]
  have h4 : (show EReal from iblk m c 4 t (ix2 r q)) = (show Vec Ideal S32768x2048 .f32 from m ((c.tc : Thread nD τ).loc main_arg4)) (ix2 R q) := by
    blk_point [iblk, V, idx t]
  have h6 : (show EReal from iblk m c 6 t (ix2 0 q)) = (show Vec Ideal S2048 .f32 from m ((c.tc : Thread nD τ).loc main_arg6)) (ix1 q) := by
    unfold iblk
    entry_read
    have e : (win0_6.blk t).view.emb (ix2 0 q) = ix2 0 q := by blk_ext [idx t]
    show shapeCast S1x2048 _ _ ((win0_6.blk t).view.emb (ix2 0 q)) = _
    rw [e]
    pointwise
  exact congr (congr (congr (congr (congr rfl h4) h5) rfl) h6) rfl

end Cert.FfnIdeal.Mine

end
-- ==== Proof.FfnRef.lean ====
/- The reference of the feed-forward, read at an entry, and its agreement with the kernel's result. -/
module

public import proofs.«01_k».proof.Proof.FfnValue

@[expose] public section

set_option maxRecDepth 16384

noncomputable section

namespace Cert.FfnRefIdeal.Mine

open Cert.FfnRefIdeal Cert.FfnRefIdeal.Gen Cert.FfnRefIdeal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The rows against a projection's weights. -/
def proj (x : FVec Ideal S32768x2048 .bf16) (w : FVec Ideal S2048x5632 .f32) : FVec Ideal S8x4096x5632 .f32 :=
  Host.dotGeneral dot_S8x4096x2048_S2048x5632_S8x4096x5632_2_0_01_1_n_n none (shapeCast _ (extf .f32 x bitsLt_bf16_f32) shapeCasts_S32768x2048_S8x4096x2048) w

/-- The gate's logistic-weighted value times the up projection. -/
def gated (g u : FVec Ideal S8x4096x5632 .f32) : FVec Ideal S8x4096x5632 .f32 :=
  mulf (mulf g (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf g))))) u

/-- The down projection. -/
def downp (h : FVec Ideal S8x4096x5632 .f32) (w : FVec Ideal S5632x2048 .f32) : FVec Ideal S8x4096x2048 .f32 :=
  Host.dotGeneral dot_S8x4096x5632_S5632x2048_S8x4096x2048_2_0_01_1_n_n none h w

/-- The reciprocal root mean square of every row. -/
def rrms (z : FVec Ideal S8x4096x2048 .f32) : FVec Ideal S8x4096x1 .f32 :=
  Host.rsqrt (addf (Host.divf (broadcastInDim S8x4096x1 ![0, 1] bcast_S8x4096_S8x4096x1_0_1 (Host.reduceAdd (mulf z z) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))

/-- The gated post-norm over the residual. -/
def closed (y : FVec Ideal S32768x2048 .f32) (md : FVec Ideal S16x6x2048 .f32) (g : FVec Ideal S2048 .f32) (z : FVec Ideal S8x4096x2048 .f32)
    (s : FVec Ideal S8x4096x1 .f32) : FVec Ideal S32768x2048 .f32 :=
  shapeCast _ (addf (shapeCast _ y shapeCasts_S32768x2048_S8x4096x2048) (mulf (broadcastInDim S8x4096x2048 ![0, 1, 2] bcast_S8x1x2048_S8x4096x2048_0_1_2 (broadcastInDim S8x1x2048 ![0, 2] bcast_S8x2048_S8x1x2048_0_2 (shapeCast _ (extractStridedSlice S8x1x2048 ![0, 5, 0] md slices_S16x6x2048_S8x1x2048_0_5_0) shapeCasts_S8x1x2048_S8x2048))) (mulf (mulf z (broadcastInDim S8x4096x2048 ![0, 1, 2] bcast_S8x4096x1_S8x4096x2048_0_1_2 s)) (broadcastInDim S8x4096x2048 ![0, 1, 2] bcast_S1x1x2048_S8x4096x2048_0_1_2 (broadcastInDim S1x1x2048 ![2] bcast_S2048_S1x1x2048_2 g))))) shapeCasts_S8x4096x2048_S32768x2048

/-- The reference's rows of the down projection, from its arguments. -/
def rows (x : FVec Ideal S32768x2048 .bf16) (wg wu : FVec Ideal S2048x5632 .f32) (wd : FVec Ideal S5632x2048 .f32) : FVec Ideal S8x4096x2048 .f32 :=
  downp (gated (proj x wg) (proj x wu)) wd

theorem res_eq (c : Dev nD) : res_out0 m c
    = closed (m ((c.tc : Thread nD τ).loc main_arg4)) (m ((c.tc : Thread nD τ).loc main_arg5)) (m ((c.tc : Thread nD τ).loc main_arg6))
        (rows (m ((c.tc : Thread nD τ).loc main_arg0)) (m ((c.tc : Thread nD τ).loc main_arg1)) (m ((c.tc : Thread nD τ).loc main_arg2)) (m ((c.tc : Thread nD τ).loc main_arg3)))
        (rrms (rows (m ((c.tc : Thread nD τ).loc main_arg0)) (m ((c.tc : Thread nD τ).loc main_arg1)) (m ((c.tc : Thread nD τ).loc main_arg2)) (m ((c.tc : Thread nD τ).loc main_arg3)))) := by
  unfold res_out0 res_main_v27 closed rrms rows downp gated proj
  rfl

theorem proj_apply (x : FVec Ideal S32768x2048 .bf16) (w : FVec Ideal S2048x5632 .f32) (b : Fin 8) (n : Fin 4096) (u : Fin 5632)
    (R : Fin 32768) (hR : R.val = 4096 * b.val + n.val) :
    (show EReal from proj x w (ix3 b n u)) = ∑ d : Fin 2048, (show EReal from x (ix2 R d)) * w (ix2 d u) := by
  pointwise [proj]
  refine Fin.sum_fin_congr fun j => ?_
  congr 1
  blk_ext

theorem gated_apply (g u : FVec Ideal S8x4096x5632 .f32) (i : S8x4096x5632.Idx) :
    (show EReal from gated g u i) = (show EReal from g i) * Ideal.div (Ideal.ofBits .f32 0x3F800000#32) (Ideal.ofBits .f32 0x3F800000#32 + Ideal.exp (-(show EReal from g i))) * (show EReal from u i) := rfl

theorem downp_apply (h : FVec Ideal S8x4096x5632 .f32) (w : FVec Ideal S5632x2048 .f32) (b : Fin 8) (n : Fin 4096) (q : Fin 2048) :
    (show EReal from downp h w (ix3 b n q)) = ∑ u : Fin 5632, (show EReal from h (ix3 b n u)) * w (ix2 u q) := by
  pointwise [downp]

theorem rrms_apply (z : FVec Ideal S8x4096x2048 .f32) (b : Fin 8) (n : Fin 4096) :
    (show EReal from rrms z (ix3 b n 0)) = Ideal.rsqrt (Ideal.div (∑ d : Fin 2048, (show EReal from z (ix3 b n d)) * z (ix3 b n d)) (Ideal.ofBits .f32 0x45000000#32)
      + Ideal.ofBits .f32 0x358637BD#32) := by
  pointwise [rrms]

theorem closed_apply (y : FVec Ideal S32768x2048 .f32) (md : FVec Ideal S16x6x2048 .f32) (g : FVec Ideal S2048 .f32) (z : FVec Ideal S8x4096x2048 .f32)
    (s : FVec Ideal S8x4096x1 .f32) (b : Fin 8) (n : Fin 4096) (q : Fin 2048) (R : Fin 32768) (hR : R.val = 4096 * b.val + n.val)
    (b' : Fin 16) (hb : b'.val = b.val) :
    (show EReal from closed y md g z s (ix2 R q)) = (show EReal from y (ix2 R q)) + (show EReal from md (ix3 b' 5 q))
      * ((show EReal from z (ix3 b n q)) * (show EReal from s (ix3 b n 0)) * (show EReal from g (ix1 q))) := by
  pointwise [closed]
  have e1 : (⟨R.val / 4096, by omega⟩ : Fin 8) = b := Fin.ext (by show R.val / 4096 = b.val; omega)
  have e2 : (⟨R.val % 4096, by omega⟩ : Fin 4096) = n := Fin.ext (by show R.val % 4096 = n.val; omega)
  have e3 : (⟨R.val / 4096, by omega⟩ : Fin 16) = b' := Fin.ext (by show R.val / 4096 = b'.val; omega)
  show (show EReal from y (ix2 R q)) + (show EReal from md (ix3 ⟨R.val / 4096, by omega⟩ 5 q))
      * ((show EReal from z (ix3 ⟨R.val / 4096, by omega⟩ ⟨R.val % 4096, by omega⟩ q))
        * (show EReal from s (ix3 ⟨R.val / 4096, by omega⟩ ⟨R.val % 4096, by omega⟩ 0)) * (show EReal from g (ix1 q))) = _
  rw [e1, e2, e3]

/-- The logistic-weighted value, as one quotient or as a product with a reciprocal. -/
theorem silu (g : EReal) : Ideal.div g (1 + Ideal.exp (0 - g)) = g * Ideal.div 1 (1 + Ideal.exp (-g)) := by
  rw [zero_sub]
  have hne : (1 : EReal) + Ideal.exp (-g) ≠ 0 := by
    have h0 : (0 : EReal) ≤ Ideal.exp (-g) := by
      induction g using EReal.rec with
      | bot => exact le_top
      | top => exact le_refl _
      | coe r => exact EReal.coe_nonneg.mpr (Real.exp_pos _).le
    exact ne_of_gt (lt_of_lt_of_le zero_lt_one (le_add_of_nonneg_right h0))
  unfold Ideal.div
  rw [if_neg hne, if_neg hne, one_mul]

theorem one_eq : Ideal.ofBits .f32 0x3F800000#32 = (1 : EReal) := Ideal.ofBits_one_f32

/-- The reference's down projection is the kernel's. -/
theorem rows_apply (x : FVec Ideal S32768x2048 .bf16) (wg wu : FVec Ideal S2048x5632 .f32) (wd : FVec Ideal S5632x2048 .f32)
    (b : Fin 8) (n : Fin 4096) (q : Fin 2048) (R : Fin 32768) (hR : R.val = 4096 * b.val + n.val) :
    (show EReal from rows x wg wu wd (ix3 b n q)) = Cert.FfnIdeal.Mine.down x wg wu wd R q := by
  unfold rows
  rw [downp_apply]
  unfold Cert.FfnIdeal.Mine.down
  refine Finset.sum_congr rfl fun u _ => ?_
  rw [gated_apply, proj_apply x wg b n u R hR, proj_apply x wu b n u R hR, one_eq]
  unfold Cert.FfnIdeal.Mine.hid Cert.FfnIdeal.Mine.act
  rw [silu]

/-- The reference's result is the kernel's. -/
theorem result_eq (c : Dev nD) : res_out0 m c
    = Cert.FfnIdeal.Mine.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [res_eq]
  funext i
  obtain ⟨R, q, rfl⟩ : ∃ (R : Fin 32768) (q : Fin 2048), i = ix2 R q := ⟨i 0, i 1, by idx_vars i⟩
  have hR : R.val = 4096 * (⟨R.val / 4096, by omega⟩ : Fin 8).val + (⟨R.val % 4096, by omega⟩ : Fin 4096).val := by
    show R.val = 4096 * (R.val / 4096) + R.val % 4096
    omega
  refine (closed_apply _ _ _ _ _ ⟨R.val / 4096, by omega⟩ ⟨R.val % 4096, by omega⟩ q R hR ⟨R.val / 4096, by omega⟩ rfl).trans ?_
  rw [rrms_apply]
  simp only [fun d => rows_apply (m ((c.tc : Thread nD τ).loc main_arg0)) (m ((c.tc : Thread nD τ).loc main_arg1)) (m ((c.tc : Thread nD τ).loc main_arg2))
        (m ((c.tc : Thread nD τ).loc main_arg3)) ⟨R.val / 4096, by omega⟩ ⟨R.val % 4096, by omega⟩ d R hR]
  rfl

end Cert.FfnRefIdeal.Mine

end
-- ==== Proof.FfnClaims.lean ====
/- The feed-forward's claims. -/
module

public import proofs.«01_k».proof.Proof.FfnRef
public import proofs.«01_k».proof.Defs
public import proofs.«01_k».proof.Proof.Gen.Ffn.Frame
public import proofs.«01_k».proof.Proof.Gen.FfnIdeal.Frame

@[expose] public section

noncomputable section

namespace Cert.Proof

open Idealize.ShloMosaic Idealize.SL.Sem

/-- The reference runs, leaves its arguments as they were and every semaphore at zero. -/
theorem ffn_ref_frame : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward's result is the reference's. -/
theorem ffn_algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    refine (Cert.FfnRefIdeal.Mine.result_eq m' c).trans ?_
    obtain ⟨h0, h1, h2, h3, h4, h5, h6⟩ := hagree c
    rw [h0, h1, h2, h3, h4, h5, h6]
    exact (Cert.FfnIdeal.Mine.final m c).symm

end Cert.Proof

end
-- ==== Proof.Inproj.lean ====
/- The input projection: what a grid point's body leaves in its block and in the scratch of modulated rows, point by point. -/
module

public import proofs.«01_k».proof.Proof.Gen.InprojIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InprojIdeal.Mine

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The modulated norm of row `z`. -/
def modulated (z g scale shift : Fin 2048 → EReal) (q : Fin 2048) : EReal :=
  z q * Ideal.rsqrt (Ideal.div (∑ d, z d * z d) (Ideal.ofBits .f32 0x45000000#32) + Ideal.ofBits .f32 0x358637BD#32) * g q
    * (1 + scale q) + shift q

/-- Row `r` of the modulated rows of a block. -/
def hrow (x0 : Vec Ideal S1024x2048 .f32) (x1 : Vec Ideal S1x6x2048 .f32) (x2 : Vec Ideal S1x2048 .f32) (r : Fin 1024) : Fin 2048 → EReal :=
  modulated (fun d => x0 (ix2 r d)) (fun d => x2 (ix2 0 d)) (fun d => x1 (ix3 0 1 d)) (fun d => x1 (ix3 0 0 d))

set_option maxHeartbeats 2000000 in
/-- The first sweep leaves the modulated rows in the scratch. -/
theorem scr_A (c : Dev nD) (t : Fin cfg0.N) (a0 : t.val % 3 = 0) (a1 : ¬1 ≤ t.val % 3) (r : Fin 1024) (q : Fin 2048) :
    (outsAt0 m c t.val t.isLt).2 (ix2 r q) = hrow (iblk m c 0 t) (iblk m c 1 t) (iblk m c 2 t) r q := by
  rw [outsAt0_A m c t a0 a1]
  dsimp only
  frame_out
  canon_tiles x h
  all_goals
    open_payloads
    pointwise [hrow, modulated]
    have e0 : r = (⟨_, h0 ▸ r.isLt⟩ : Fin 1024) := Fin.ext h0
    have e1 : q = x 1 := Fin.ext h1
    rw [e0, e1]

/-- A later sweep leaves the scratch as it was. -/
theorem scr_B (c : Dev nD) (t : Fin cfg0.N) (a0 : ¬t.val % 3 = 0) (a1 : 1 ≤ t.val % 3) (hp : t.val - 1 < cfg0.N) :
    (outsAt0 m c t.val t.isLt).2 = (outsAt0 m c (t.val - 1) hp).2 := by
  rw [outsAt0_B m c t a0 a1]
  rfl

set_option maxHeartbeats 2000000 in
/-- The first sweep's products. -/
theorem out_A (c : Dev nD) (t : Fin cfg0.N) (a0 : t.val % 3 = 0) (a1 : ¬1 ≤ t.val % 3) (r : Fin 1024) (q : Fin 1536) :
    (outsAt0 m c t.val t.isLt).1 (ix2 r q) = ∑ d : Fin 2048, hrow (iblk m c 0 t) (iblk m c 1 t) (iblk m c 2 t) r d
      * (show EReal from iblk m c 3 t (ix2 d q)) := by
  rw [outsAt0_A m c t a0 a1]
  dsimp only
  frame_out
  canon_tiles x h
  all_goals
    open_payloads
    pointwise [hrow, modulated]
    have e0 : r = (⟨_, h0 ▸ r.isLt⟩ : Fin 1024) := Fin.ext h0
    have e1 : q = x 1 := Fin.ext h1
    rw [e0, e1]

set_option maxHeartbeats 2000000 in
/-- A later sweep's products, from the rows in the scratch. -/
theorem out_B (c : Dev nD) (t : Fin cfg0.N) (a0 : ¬t.val % 3 = 0) (a1 : 1 ≤ t.val % 3) (hp : t.val - 1 < cfg0.N) (r : Fin 1024) (q : Fin 1536) :
    (outsAt0 m c t.val t.isLt).1 (ix2 r q) = ∑ d : Fin 2048, (show EReal from (outsAt0 m c (t.val - 1) hp).2 (ix2 r d))
      * (show EReal from iblk m c 3 t (ix2 d q)) := by
  rw [outsAt0_B m c t a0 a1]
  dsimp only
  frame_out
  rw [Memref.IsWhole.read_unread (m := Memref.whole cc0_scratch0)]
  open_payloads
  pointwise

end Cert.InprojIdeal.Mine

end
-- ==== Proof.InprojValue.lean ====
/- The input projection: the array that the kernel leaves. -/
module

public import proofs.«01_k».proof.Proof.Inproj
public import Idealize.ShloMosaic.Lib.KernelVsHost

@[expose] public section

set_option maxRecDepth 16384

noncomputable section

namespace Cert.InprojIdeal.Mine

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of its array each window holds at a grid point. -/
theorem idx : ∀ t : Fin cfg0.N, win0_0.index t = ![t.val / 3, 0] ∧ win0_1.index t = ![t.val / 12, 0, 0]
    ∧ win0_2.index t = ![0, 0] ∧ win0_3.index t = ![0, t.val % 3] ∧ win0_4.index t = ![t.val / 3, t.val % 3] :=
  (by decide +kernel : ∀ t : Fin grid0.N, _)

/-- The weights as the kernel takes them: 192 columns of zeros beside them. -/
def wide (w : FVec Ideal S2048x4416 .f32) : FVec Ideal S2048x4608 .bf16 :=
  truncf .bf16 (pad S2048x4608 ![0, 0] ![0, 192] ![0, 0] w (sitofp .f32 (constantI S_ 32 0#32)) pads_S2048x4416_S2048x4608_000_01920 h_S_) bitsLt_bf16_f32

theorem wide_in (w : FVec Ideal S2048x4416 .f32) (d : Fin 2048) (Q : Fin 4608) (h : Q.val < 4416) :
    (show EReal from wide w (ix2 d Q)) = (show EReal from w (ix2 d ⟨Q.val, h⟩)) := by
  refine pad_apply_of_inside ![0, 0] ![0, 192] ![0, 0] w (sitofp (F := Ideal) .f32 (constantI S_ 32 0#32)) pads_S2048x4416_S2048x4608_000_01920 h_S_ (ix2 d Q) (ix2 d ⟨Q.val, h⟩) fun a => ?_
  match a with
  | 0 => simp
  | 1 => simp

theorem wide_out (w : FVec Ideal S2048x4416 .f32) (d : Fin 2048) (Q : Fin 4608) (h : ¬Q.val < 4416) :
    (show EReal from wide w (ix2 d Q)) = 0 := by
  refine (pad_apply_of_not_inside ![0, 0] ![0, 192] ![0, 0] w (sitofp (F := Ideal) .f32 (constantI S_ 32 0#32)) pads_S2048x4416_S2048x4608_000_01920 h_S_ (ix2 d Q) 1 ?_).trans ?_
  · simp
    exact fun _ => Nat.le_of_not_lt h
  · show ((0 : ℤ) : ℝ) = (0 : EReal)
    simp

/-- Row `R` of the modulated rows. -/
def hid (x : Vec Ideal S32768x2048 .f32) (md : Vec Ideal S16x6x2048 .f32) (g : Vec Ideal S2048 .f32) (R : Fin 32768) : Fin 2048 → EReal :=
  modulated (fun k => x (ix2 R k)) (fun k => g (ix1 k)) (fun k => md (ix3 ⟨R.val / 4096, by omega⟩ 1 k))
    (fun k => md (ix3 ⟨R.val / 4096, by omega⟩ 0 k))

/-- The array over the arguments: the projection, then columns of zeros. -/
def result (x : Vec Ideal S32768x2048 .f32) (md : Vec Ideal S16x6x2048 .f32) (g : Vec Ideal S2048 .f32) (w : Vec Ideal S2048x4416 .f32) :
    Vec Ideal S32768x4608 .bf16 := fun i =>
  if h : (i 1).val < 4416 then ∑ d : Fin 2048, hid x md g (i 0) d * (show EReal from w (ix2 d ⟨(i 1).val, h⟩)) else (0 : EReal)

variable (c : Dev nD) (t : Fin cfg0.N) (r : Fin 1024) (R : Fin 32768)

theorem rows_eq (hR : R.val = 1024 * (t.val / 3) + r.val) (k : Fin 2048) : (show EReal from iblk m c 0 t (ix2 r k))
    = (show Vec Ideal S32768x2048 .f32 from m ((c.tc : Thread nD τ).loc main_arg0)) (ix2 R k) := by
  blk_point [iblk, V, idx t]

theorem mod_eq (hR : R.val = 1024 * (t.val / 3) + r.val) (s : Fin 6) (k : Fin 2048) : (show EReal from iblk m c 1 t (ix3 0 s k))
    = (show Vec Ideal S16x6x2048 .f32 from m ((c.tc : Thread nD τ).loc main_arg1)) (ix3 ⟨R.val / 4096, by omega⟩ s k) := by
  blk_point [iblk, V, idx t]

theorem gain_eq (k : Fin 2048) : (show EReal from iblk m c 2 t (ix2 0 k))
    = (show Vec Ideal S2048 .f32 from m ((c.tc : Thread nD τ).loc main_arg2)) (ix1 k) := by
  unfold iblk
  entry_read
  have e : (win0_2.blk t).view.emb (ix2 0 k) = ix2 0 k := by blk_ext [idx t]
  show shapeCast S1x2048 _ _ ((win0_2.blk t).view.emb (ix2 0 k)) = _
  rw [e]
  pointwise

theorem weight_eq (k : Fin 2048) (q : Fin 1536) (Q : Fin 4608) (hQ : Q.val = 1536 * (t.val % 3) + q.val) :
    (show EReal from iblk m c 3 t (ix2 k q)) = (show EReal from wide (m ((c.tc : Thread nD τ).loc main_arg3)) (ix2 k Q)) := by
  unfold iblk
  entry_read
  have e : (win0_3.blk t).view.emb (ix2 k q) = ix2 k Q := by blk_ext [idx t]
  show (show EReal from wide (m ((c.tc : Thread nD τ).loc main_arg3)) ((win0_3.blk t).view.emb (ix2 k q))) = _
  rw [e]

/-- A block's modulated row over the arguments. -/
theorem hrow_eq (hR : R.val = 1024 * (t.val / 3) + r.val) : hrow (iblk m c 0 t) (iblk m c 1 t) (iblk m c 2 t) r
    = hid (m ((c.tc : Thread nD τ).loc main_arg0)) (m ((c.tc : Thread nD τ).loc main_arg1)) (m ((c.tc : Thread nD τ).loc main_arg2)) R :=
  congr (congr (congr (congrArg modulated (funext fun k => rows_eq m c t r R hR k)) (funext fun k => gain_eq m c t k))
    (funext fun k => mod_eq m c t r R hR 1 k)) (funext fun k => mod_eq m c t r R hR 0 k)

/-- The scratch holds the modulated rows of its block after every sweep over it. -/
theorem scratch (n b : ℕ) (hn : n < 3) (h : 3 * b + n < cfg0.N) (hR : R.val = 1024 * b + r.val) (q : Fin 2048) :
    (show EReal from (outsAt0 m c (3 * b + n) h).2 (ix2 r q))
      = hid (m ((c.tc : Thread nD τ).loc main_arg0)) (m ((c.tc : Thread nD τ).loc main_arg1)) (m ((c.tc : Thread nD τ).loc main_arg2)) R q := by
  induction n with
  | zero =>
    refine (scr_A m c ⟨3 * b + 0, h⟩ (by show (3 * b + 0) % 3 = 0; omega) (by show ¬1 ≤ (3 * b + 0) % 3; omega) r q).trans ?_
    exact congrFun (hrow_eq m c ⟨3 * b + 0, h⟩ r R (by show R.val = 1024 * ((3 * b + 0) / 3) + r.val; omega)) q
  | succ n ih =>
    have e := scr_B m c ⟨3 * b + (n + 1), h⟩ (by show ¬(3 * b + (n + 1)) % 3 = 0; omega) (by show 1 ≤ (3 * b + (n + 1)) % 3; omega)
      (by show 3 * b + n < cfg0.N; omega)
    exact (congrFun e _).trans (ih (by omega) (by omega))

/-- A block of products over the arguments. -/
theorem out_eq (hR : R.val = 1024 * (t.val / 3) + r.val) (q : Fin 1536) (Q : Fin 4608) (hQ : Q.val = 1536 * (t.val % 3) + q.val) :
    (show EReal from (outsAt0 m c t.val t.isLt).1 (ix2 r q))
      = ∑ d : Fin 2048, hid (m ((c.tc : Thread nD τ).loc main_arg0)) (m ((c.tc : Thread nD τ).loc main_arg1)) (m ((c.tc : Thread nD τ).loc main_arg2)) R d
          * (show EReal from wide (m ((c.tc : Thread nD τ).loc main_arg3)) (ix2 d Q)) := by
  by_cases h0 : t.val % 3 = 0
  · refine (out_A m c t h0 (by omega) r q).trans (Finset.sum_congr rfl fun d _ => ?_)
    exact congrArg₂ (· * ·) (congrFun (hrow_eq m c t r R hR) d) (weight_eq m c t d q Q hQ)
  · have hN : t.val < 96 := lt_of_lt_of_eq t.isLt N_0
    have hp : t.val - 1 < cfg0.N := lt_of_lt_of_eq (b := 96) (by omega) N_0.symm
    refine (out_B m c t h0 (by omega) hp r q).trans (Finset.sum_congr rfl fun d _ => ?_)
    have e : t.val - 1 = 3 * (t.val / 3) + (t.val % 3 - 1) := by omega
    have hs := scratch m c r R (t.val % 3 - 1) (t.val / 3) (by omega) (by rw [← e]; exact hp) hR d
    simp only [← e] at hs
    exact congrArg₂ (· * ·) hs (weight_eq m c t d q Q hQ)

/-- The array the kernel leaves. -/
theorem final : (dats m 0 c).arrAt 4 (cfgs 0).N
    = result (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  blk_simp
  rw [after0_4]
  obtain ⟨r, q, rfl⟩ : ∃ (r : Fin 1024) (q : Fin 1536), y = ix2 r q := ⟨y 0, y 1, by idx_vars y⟩
  obtain ⟨R, Q, hj⟩ : ∃ (R : Fin 32768) (Q : Fin 4608), (win0_4.blk t).view.emb (ix2 r q) = ix2 R Q := by
    generalize (win0_4.blk t).view.emb (ix2 r q) = j
    exact ⟨j 0, j 1, by idx_vars j⟩
  have hR : R.val = 1024 * (t.val / 3) + r.val := by
    have : ((win0_4.blk t).view.emb (ix2 r q) 0).val = R.val := by rw [hj]; rfl
    blk_simp [idx t] at this
    omega
  have hQ : Q.val = 1536 * (t.val % 3) + q.val := by
    have : ((win0_4.blk t).view.emb (ix2 r q) 1).val = Q.val := by rw [hj]; rfl
    blk_simp [idx t] at this
    omega
  refine (out_eq m c t r R hR q Q hQ).trans ?_
  rw [hj]
  unfold result
  by_cases h : Q.val < 4416
  · refine Eq.trans ?_ (dif_pos (c := Q.val < 4416) h).symm
    exact Finset.sum_congr rfl fun d _ => congrArg _ (wide_in _ d Q h)
  · refine Eq.trans ?_ (dif_neg (c := Q.val < 4416) h).symm
    refine Finset.sum_eq_zero fun d _ => ?_
    rw [wide_out _ d Q h, mul_zero]

end Cert.InprojIdeal.Mine

end
-- ==== Proof.InprojRef.lean ====
/- The reference of the input projection, read at an entry, and its agreement with the kernel's array. -/
module

public import proofs.«01_k».proof.Proof.InprojValue
public import proofs.«01_k».proof.Proof.Gen.InprojRefIdeal.Run

@[expose] public section

set_option maxRecDepth 16384

noncomputable section

namespace Cert.InprojRefIdeal.Mine

open Cert.InprojRefIdeal Cert.InprojRefIdeal.Gen Cert.InprojRefIdeal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The rows as a batch of sequences. -/
def seqs (x : FVec Ideal S32768x2048 .f32) : FVec Ideal S8x4096x2048 .f32 := shapeCast _ x shapeCasts_S32768x2048_S8x4096x2048

/-- The norm of every row, times the gain. -/
def normed (z : FVec Ideal S8x4096x2048 .f32) (g : FVec Ideal S2048 .f32) : FVec Ideal S8x4096x2048 .f32 :=
  mulf (mulf z (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf z z) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

/-- The modulation's row of shifts. -/
def shiftRow (md : FVec Ideal S16x6x2048 .f32) : FVec Ideal S8x1x2048 .f32 :=
  shapeCast _ (extractStridedSlice S8x1x1x2048 ![0, 0, 0, 0] (broadcastInDim S8x6x1x2048 ![0, 1, 3] bcast_S8x6x2048_S8x6x1x2048_0_1_3 (extractStridedSlice S8x6x2048 ![0, 0, 0] md slices_S16x6x2048_S8x6x2048_0_0_0)) slices_S8x6x1x2048_S8x1x1x2048_0_0_0_0) shapeCasts_S8x1x1x2048_S8x1x2048

/-- The row of scales. -/
def scaleRow (md : FVec Ideal S16x6x2048 .f32) : FVec Ideal S8x1x2048 .f32 :=
  shapeCast _ (extractStridedSlice S8x1x1x2048 ![0, 1, 0, 0] (broadcastInDim S8x6x1x2048 ![0, 1, 3] bcast_S8x6x2048_S8x6x1x2048_0_1_3 (extractStridedSlice S8x6x2048 ![0, 0, 0] md slices_S16x6x2048_S8x6x2048_0_0_0)) slices_S8x6x1x2048_S8x1x1x2048_0_1_0_0) shapeCasts_S8x1x1x2048_S8x1x2048

/-- A row times one plus its scale, plus its shift. -/
def shifted (z : FVec Ideal S8x4096x2048 .f32) (shift scale : FVec Ideal S8x1x2048 .f32) : FVec Ideal S8x4096x2048 .f32 :=
  addf (mulf z (broadcastInDim S8x4096x2048 ![0, 1, 2] bcast_S8x1x2048_S8x4096x2048_0_1_2 (addf (broadcastInDim S8x1x2048 ![] bcast_S_S8x1x2048 (constant S_ .f32 0x3F800000#32)) scale))) (broadcastInDim S8x4096x2048 ![0, 1, 2] bcast_S8x1x2048_S8x4096x2048_0_1_2 shift)

/-- The projection onto 4416 columns. -/
def proj (h : FVec Ideal S8x4096x2048 .f32) (w : FVec Ideal S2048x4416 .f32) : FVec Ideal S8x4096x4416 .f32 :=
  Host.dotGeneral dot_S8x4096x2048_S2048x4416_S8x4096x4416_2_0_01_1_n_n none h w

/-- Flat rows, then columns of zeros. -/
def wide (p : FVec Ideal S8x4096x4416 .f32) : FVec Ideal S32768x4608 .bf16 :=
  truncf .bf16 (pad S32768x4608 ![0, 0] ![0, 192] ![0, 0] (shapeCast _ p shapeCasts_S8x4096x4416_S32768x4416) (sitofp .f32 (constantI S_ 32 0#32)) pads_S32768x4416_S32768x4608_000_01920 h_S_) bitsLt_bf16_f32

/-- The reference's modulated rows. -/
def hid (x : FVec Ideal S32768x2048 .f32) (md : FVec Ideal S16x6x2048 .f32) (g : FVec Ideal S2048 .f32) : FVec Ideal S8x4096x2048 .f32 :=
  shifted (normed (seqs x) g) (shiftRow md) (scaleRow md)

/-- The reference's array over its arguments. -/
def whole (x : FVec Ideal S32768x2048 .f32) (md : FVec Ideal S16x6x2048 .f32) (g : FVec Ideal S2048 .f32) (w : FVec Ideal S2048x4416 .f32) :
    FVec Ideal S32768x4608 .bf16 := wide (proj (hid x md g) w)

theorem seqs_apply (x : FVec Ideal S32768x2048 .f32) (b : Fin 8) (n : Fin 4096) (q : Fin 2048) (R : Fin 32768) (hR : R.val = 4096 * b.val + n.val) :
    (show EReal from seqs x (ix3 b n q)) = (show EReal from x (ix2 R q)) := by
  pointwise [seqs]
  blk_ext

theorem normed_apply (z : FVec Ideal S8x4096x2048 .f32) (g : FVec Ideal S2048 .f32) (b : Fin 8) (n : Fin 4096) (q : Fin 2048) :
    (show EReal from normed z g (ix3 b n q)) = (show EReal from z (ix3 b n q))
      * Ideal.rsqrt (Ideal.div (∑ d : Fin 2048, (show EReal from z (ix3 b n d)) * z (ix3 b n d)) (Ideal.ofBits .f32 0x45000000#32)
        + Ideal.ofBits .f32 0x358637BD#32) * (show EReal from g (ix1 q)) := by
  pointwise [normed]

theorem shifted_apply (z : FVec Ideal S8x4096x2048 .f32) (shift scale : FVec Ideal S8x1x2048 .f32) (b : Fin 8) (n : Fin 4096) (q : Fin 2048) :
    (show EReal from shifted z shift scale (ix3 b n q)) = (show EReal from z (ix3 b n q)) * (1 + (show EReal from scale (ix3 b 0 q)))
      + (show EReal from shift (ix3 b 0 q)) := by
  refine Eq.trans (b := (show EReal from z (ix3 b n q)) * (Ideal.ofBits .f32 0x3F800000#32 + (show EReal from scale (ix3 b 0 q)))
      + (show EReal from shift (ix3 b 0 q))) ?_ (by rw [Ideal.ofBits_one_f32])
  pointwise [shifted]
theorem shiftRow_apply (md : FVec Ideal S16x6x2048 .f32) (b : Fin 8) (b' : Fin 16) (hb : b'.val = b.val) (q : Fin 2048) :
    (show EReal from shiftRow md (ix3 b 0 q)) = (show EReal from md (ix3 b' 0 q)) := by
  pointwise [shiftRow]
  blk_ext

theorem scaleRow_apply (md : FVec Ideal S16x6x2048 .f32) (b : Fin 8) (b' : Fin 16) (hb : b'.val = b.val) (q : Fin 2048) :
    (show EReal from scaleRow md (ix3 b 0 q)) = (show EReal from md (ix3 b' 1 q)) := by
  pointwise [scaleRow]
  blk_ext

theorem proj_apply (h : FVec Ideal S8x4096x2048 .f32) (w : FVec Ideal S2048x4416 .f32) (b : Fin 8) (n : Fin 4096) (q : Fin 4416) :
    (show EReal from proj h w (ix3 b n q)) = ∑ d : Fin 2048, (show EReal from h (ix3 b n d)) * w (ix2 d q) := by
  pointwise [proj]

theorem wide_in (p : FVec Ideal S8x4096x4416 .f32) (R : Fin 32768) (b : Fin 8) (n : Fin 4096) (hR : R.val = 4096 * b.val + n.val)
    (Q : Fin 4608) (h : Q.val < 4416) : (show EReal from wide p (ix2 R Q)) = (show EReal from p (ix3 b n ⟨Q.val, h⟩)) := by
  refine (pad_apply_of_inside ![0, 0] ![0, 192] ![0, 0] (shapeCast _ p shapeCasts_S8x4096x4416_S32768x4416)
    (sitofp (F := Ideal) .f32 (constantI S_ 32 0#32)) pads_S32768x4416_S32768x4608_000_01920 h_S_ (ix2 R Q) (ix2 R ⟨Q.val, h⟩) fun a => ?_).trans ?_
  · match a with
    | 0 => simp
    | 1 => simp
  · pointwise
    blk_ext

theorem wide_out (p : FVec Ideal S8x4096x4416 .f32) (R : Fin 32768) (Q : Fin 4608) (h : ¬Q.val < 4416) :
    (show EReal from wide p (ix2 R Q)) = 0 := by
  refine (pad_apply_of_not_inside ![0, 0] ![0, 192] ![0, 0] (shapeCast _ p shapeCasts_S8x4096x4416_S32768x4416)
    (sitofp (F := Ideal) .f32 (constantI S_ 32 0#32)) pads_S32768x4416_S32768x4608_000_01920 h_S_ (ix2 R Q) 1 ?_).trans ?_
  · simp
    exact fun _ => Nat.le_of_not_lt h
  · show ((0 : ℤ) : ℝ) = (0 : EReal)
    simp

/-- The reference's modulated rows are the kernel's. -/
theorem hid_apply (x : FVec Ideal S32768x2048 .f32) (md : FVec Ideal S16x6x2048 .f32) (g : FVec Ideal S2048 .f32)
    (b : Fin 8) (n : Fin 4096) (q : Fin 2048) (R : Fin 32768) (hR : R.val = 4096 * b.val + n.val) :
    (show EReal from hid x md g (ix3 b n q)) = Cert.InprojIdeal.Mine.hid x md g R q := by
  unfold hid
  rw [shifted_apply, normed_apply, shiftRow_apply md b ⟨R.val / 4096, by omega⟩ (by show R.val / 4096 = b.val; omega),
    scaleRow_apply md b ⟨R.val / 4096, by omega⟩ (by show R.val / 4096 = b.val; omega)]
  simp only [fun d => seqs_apply x b n d R hR]
  rfl

/-- The reference's array is the kernel's. -/
theorem whole_eq (x : FVec Ideal S32768x2048 .f32) (md : FVec Ideal S16x6x2048 .f32) (g : FVec Ideal S2048 .f32) (w : FVec Ideal S2048x4416 .f32) :
    whole x md g w = Cert.InprojIdeal.Mine.result x md g w := by
  funext i
  obtain ⟨R, Q, rfl⟩ : ∃ (R : Fin 32768) (Q : Fin 4608), i = ix2 R Q := ⟨i 0, i 1, by idx_vars i⟩
  have hR : R.val = 4096 * (⟨R.val / 4096, by omega⟩ : Fin 8).val + (⟨R.val % 4096, by omega⟩ : Fin 4096).val := by
    show R.val = 4096 * (R.val / 4096) + R.val % 4096
    omega
  unfold whole Cert.InprojIdeal.Mine.result
  by_cases h : Q.val < 4416
  · refine Eq.trans ?_ (dif_pos (c := Q.val < 4416) h).symm
    refine (wide_in _ R _ _ hR Q h).trans ?_
    rw [proj_apply]
    exact Finset.sum_congr rfl fun d _ => congrArg (· * _) (hid_apply x md g _ _ d R hR)
  · refine Eq.trans ?_ (dif_neg (c := Q.val < 4416) h).symm
    exact wide_out _ R Q h

end Cert.InprojRefIdeal.Mine

end
-- ==== Proof.InprojClaims.lean ====
/- The input projection's claims. -/
module

public import proofs.«01_k».proof.Proof.InprojRef
public import proofs.«01_k».proof.Defs
public import proofs.«01_k».proof.Proof.Gen.Inproj.Frame
public import proofs.«01_k».proof.Proof.Gen.InprojIdeal.Frame

@[expose] public section

noncomputable section

namespace Cert.Proof

open Idealize.ShloMosaic Idealize.SL.Sem

/-- The reference runs, leaves its arguments as they were and every semaphore at zero. -/
theorem inproj_ref_frame : Cert.quiescent_InprojRefIdeal (hInprojRefIdeal := Cert.InprojRefIdeal.Gen.facts) := fun m ρ _ =>
  (θ_run Cert.InprojRefIdeal.defs _ _).mono (fun r h => ⟨fun c => (h c).2, sem_eq_zero_of_no_sems (by decide) r.2⟩)
    (Cert.InprojRefIdeal.Value.run (F := Ideal) m ρ)

/-- The input projection's result is the reference's. -/
theorem inproj_algebraic : Cert.algebraic_InprojIdeal_InprojRefIdeal (hInprojIdeal := Cert.InprojIdeal.Gen.facts) (hInprojRefIdeal := Cert.InprojRefIdeal.Gen.facts) := by
  pair_intro
  · run_from Cert.InprojIdeal.Value.run_blocks m g
  · run_from Cert.InprojRefIdeal.Value.run m' g'
    refine Eq.trans (b := Cert.InprojRefIdeal.Mine.whole (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)))
      (by unfold InprojRefIdeal.Mine.whole InprojRefIdeal.Mine.wide InprojRefIdeal.Mine.proj InprojRefIdeal.Mine.hid InprojRefIdeal.Mine.shifted InprojRefIdeal.Mine.normed InprojRefIdeal.Mine.seqs InprojRefIdeal.Mine.shiftRow InprojRefIdeal.Mine.scaleRow; rfl) ?_
    refine (Cert.InprojRefIdeal.Mine.whole_eq _ _ _ _).trans ?_
    exact (Cert.InprojIdeal.Mine.final m c).symm

end Cert.Proof

end
-- ==== Proof.Outproj.lean ====
/- The output projection: what a grid point's body leaves in its two blocks, point by point. -/
module

public import proofs.«01_k».proof.Proof.Gen.OutprojIdeal.Value
public import Idealize.ShloMosaic.Lib.Pipeline.ValueKit
public import Idealize.ShloMosaic.Lib.Pointwise
public import Idealize.ShloMosaic.Lib.Claim

@[expose] public section

set_option maxRecDepth 16384

noncomputable section

namespace Cert.OutprojIdeal.Mine

open Cert.OutprojIdeal Cert.OutprojIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Column `k` of the four parts side by side, in row `r`. -/
def mixed {n : ℕ} (a b w d : Vec Ideal ⟨2, ![n, 512]⟩ .bf16) (r : Fin n) (k : Fin 2048) : EReal :=
  if h : k.val < 512 then a (ix2 r ⟨k.val, h⟩)
  else if h : k.val - 512 < 512 then b (ix2 r ⟨k.val - 512, h⟩)
  else if h : k.val - 512 - 512 < 512 then w (ix2 r ⟨k.val - 512 - 512, h⟩)
  else d (ix2 r ⟨k.val - 512 - 512 - 512, by omega⟩)

/-- The reciprocal root mean square of a row. -/
def rrms (z : Fin 2048 → EReal) : EReal :=
  Ideal.rsqrt (Ideal.div (∑ d, z d * z d) (Ideal.ofBits .f32 0x45000000#32) + Ideal.ofBits .f32 0x358637BD#32)

/-- The gated post-norm of row `z` over the residual row `x`. -/
def over (x gate z g : Fin 2048 → EReal) (q : Fin 2048) : EReal := x q + gate q * (z q * rrms z * g q)

/-- The modulated norm of row `z`. -/
def modulated (z g scale shift : Fin 2048 → EReal) (q : Fin 2048) : EReal := z q * rrms z * g q * (1 + scale q) + shift q

/-- The projection of row `r`. -/
def proj {n : ℕ} (a b w d : Vec Ideal ⟨2, ![n, 512]⟩ .bf16) (wo : Fin 2048 → Fin 2048 → EReal) (r : Fin n) (q : Fin 2048) : EReal :=
  ∑ k : Fin 2048, mixed a b w d r k * wo k q

set_option maxHeartbeats 2000000 in
/-- The residual block. -/
theorem out_x (x0 x1 x2 x3 : Vec Ideal S512x512 .bf16) (x4 : Vec Ideal S2048x2048 .bf16) (x5 : Vec Ideal S512x2048 .f32)
    (x6 : Vec Ideal S1x6x2048 .f32) (x7 x8 : Vec Ideal S1x2048 .f32) (r : Fin 512) (q : Fin 2048) :
    out0_9 x0 x1 x2 x3 x4 x5 x6 x7 x8 (ix2 r q) = over (fun d => x5 (ix2 r d)) (fun d => x6 (ix3 0 2 d))
      (proj x0 x1 x2 x3 (fun k d => x4 (ix2 k d)) r) (fun d => x7 (ix2 0 d)) q := by
  unfold_out out0_9
  canon_tiles x h
  all_goals
    open_payloads
    pointwise [over, proj, rrms]
    have e0 : r = (⟨_, h0 ▸ r.isLt⟩ : Fin 512) := Fin.ext h0
    have e1 : q = x 1 := Fin.ext h1
    rw [e0, e1]
    rfl

set_option maxHeartbeats 2000000 in
/-- The block of modulated rows. -/
theorem out_h (x0 x1 x2 x3 : Vec Ideal S512x512 .bf16) (x4 : Vec Ideal S2048x2048 .bf16) (x5 : Vec Ideal S512x2048 .f32)
    (x6 : Vec Ideal S1x6x2048 .f32) (x7 x8 : Vec Ideal S1x2048 .f32) (r : Fin 512) (q : Fin 2048) :
    out0_10 x0 x1 x2 x3 x4 x5 x6 x7 x8 (ix2 r q) = modulated (over (fun d => x5 (ix2 r d)) (fun d => x6 (ix3 0 2 d))
      (proj x0 x1 x2 x3 (fun k d => x4 (ix2 k d)) r) (fun d => x7 (ix2 0 d))) (fun d => x8 (ix2 0 d))
      (fun d => x6 (ix3 0 4 d)) (fun d => x6 (ix3 0 3 d)) q := by
  unfold_out out0_10
  canon_tiles x h
  all_goals
    open_payloads
    pointwise [over, proj, rrms, modulated]
    have e0 : r = (⟨_, h0 ▸ r.isLt⟩ : Fin 512) := Fin.ext h0
    have e1 : q = x 1 := Fin.ext h1
    rw [e0, e1]
    rfl

end Cert.OutprojIdeal.Mine

end
-- ==== Proof.OutprojValue.lean ====
/- The output projection: the two arrays that the kernel leaves. -/
module

public import proofs.«01_k».proof.Proof.Outproj

@[expose] public section

set_option maxRecDepth 16384

noncomputable section

namespace Cert.OutprojIdeal.Mine

open Cert.OutprojIdeal Cert.OutprojIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of its array each window holds at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![t.val, 0]
    ∧ win0_6.index t = ![t.val / 8, 0, 0] ∧ win0_7.index t = ![0, 0] ∧ win0_8.index t = ![0, 0]
    ∧ win0_9.index t = ![t.val, 0] ∧ win0_10.index t = ![t.val, 0] :=
  (by decide +kernel : ∀ t : Fin grid0.N, _)

/-- Row `R` of the residual stream after the mixer. -/
def resX (a b w d : Vec Ideal S32768x512 .bf16) (wo : Vec Ideal S2048x2048 .f32) (x : Vec Ideal S32768x2048 .f32)
    (md : Vec Ideal S16x6x2048 .f32) (g : Vec Ideal S2048 .f32) (R : Fin 32768) : Fin 2048 → EReal :=
  over (fun k => x (ix2 R k)) (fun k => md (ix3 ⟨R.val / 4096, by omega⟩ 2 k))
    (proj a b w d (fun k q => wo (ix2 k q)) R) (fun k => g (ix1 k))

/-- Row `R` of the modulated rows for the feed-forward. -/
def resH (a b w d : Vec Ideal S32768x512 .bf16) (wo : Vec Ideal S2048x2048 .f32) (x : Vec Ideal S32768x2048 .f32)
    (md : Vec Ideal S16x6x2048 .f32) (g g' : Vec Ideal S2048 .f32) (R : Fin 32768) : Fin 2048 → EReal :=
  modulated (resX a b w d wo x md g R) (fun k => g' (ix1 k)) (fun k => md (ix3 ⟨R.val / 4096, by omega⟩ 4 k))
    (fun k => md (ix3 ⟨R.val / 4096, by omega⟩ 3 k))

/-- The first array over the arguments. -/
def resultX (a b w d : Vec Ideal S32768x512 .bf16) (wo : Vec Ideal S2048x2048 .f32) (x : Vec Ideal S32768x2048 .f32)
    (md : Vec Ideal S16x6x2048 .f32) (g : Vec Ideal S2048 .f32) : Vec Ideal S32768x2048 .f32 :=
  fun i => resX a b w d wo x md g (i 0) (i 1)

/-- The second array over the arguments. -/
def resultH (a b w d : Vec Ideal S32768x512 .bf16) (wo : Vec Ideal S2048x2048 .f32) (x : Vec Ideal S32768x2048 .f32)
    (md : Vec Ideal S16x6x2048 .f32) (g g' : Vec Ideal S2048 .f32) : Vec Ideal S32768x2048 .bf16 :=
  fun i => resH a b w d wo x md g g' (i 0) (i 1)

variable (c : Dev nD) (t : Fin cfg0.N) (r : Fin 512) (R : Fin 32768)

theorem part0 (hR : R.val = 512 * t.val + r.val) (k : Fin 512) : (show EReal from iblk m c 0 t (ix2 r k))
    = (show Vec Ideal S32768x512 .bf16 from m ((c.tc : Thread nD τ).loc main_arg0)) (ix2 R k) := by
  blk_point [iblk, V, idx t]
theorem part1 (hR : R.val = 512 * t.val + r.val) (k : Fin 512) : (show EReal from iblk m c 1 t (ix2 r k))
    = (show Vec Ideal S32768x512 .bf16 from m ((c.tc : Thread nD τ).loc main_arg1)) (ix2 R k) := by
  blk_point [iblk, V, idx t]
theorem part2 (hR : R.val = 512 * t.val + r.val) (k : Fin 512) : (show EReal from iblk m c 2 t (ix2 r k))
    = (show Vec Ideal S32768x512 .bf16 from m ((c.tc : Thread nD τ).loc main_arg2)) (ix2 R k) := by
  blk_point [iblk, V, idx t]
theorem part3 (hR : R.val = 512 * t.val + r.val) (k : Fin 512) : (show EReal from iblk m c 3 t (ix2 r k))
    = (show Vec Ideal S32768x512 .bf16 from m ((c.tc : Thread nD τ).loc main_arg3)) (ix2 R k) := by
  blk_point [iblk, V, idx t]

/-- The parts side by side, block against array. -/
theorem mixed_eq (hR : R.val = 512 * t.val + r.val) (k : Fin 2048) :
    mixed (iblk m c 0 t) (iblk m c 1 t) (iblk m c 2 t) (iblk m c 3 t) r k
      = mixed (m ((c.tc : Thread nD τ).loc main_arg0)) (m ((c.tc : Thread nD τ).loc main_arg1)) (m ((c.tc : Thread nD τ).loc main_arg2))
          (m ((c.tc : Thread nD τ).loc main_arg3)) R k := by
  unfold mixed
  split_ifs with h1 h2 h3
  · exact part0 m c t r R hR _
  · exact part1 m c t r R hR _
  · exact part2 m c t r R hR _
  · exact part3 m c t r R hR _

/-- The weights' block is the weights. -/
theorem weight_eq (k q : Fin 2048) : (show EReal from iblk m c 4 t (ix2 k q))
    = (show Vec Ideal S2048x2048 .f32 from m ((c.tc : Thread nD τ).loc main_arg4)) (ix2 k q) := by
  unfold iblk
  entry_read
  have e : (win0_4.blk t).view.emb (ix2 k q) = ix2 k q := by blk_ext [idx t]
  show (show Vec Ideal S2048x2048 .f32 from m ((c.tc : Thread nD τ).loc main_arg4)) ((win0_4.blk t).view.emb (ix2 k q)) = _
  rw [e]

theorem resid_eq (hR : R.val = 512 * t.val + r.val) (k : Fin 2048) : (show EReal from iblk m c 5 t (ix2 r k))
    = (show Vec Ideal S32768x2048 .f32 from m ((c.tc : Thread nD τ).loc main_arg5)) (ix2 R k) := by
  blk_point [iblk, V, idx t]

/-- A row of the modulation, block against array. -/
theorem mod_eq (hR : R.val = 512 * t.val + r.val) (s : Fin 6) (k : Fin 2048) : (show EReal from iblk m c 6 t (ix3 0 s k))
    = (show Vec Ideal S16x6x2048 .f32 from m ((c.tc : Thread nD τ).loc main_arg6)) (ix3 ⟨R.val / 4096, by omega⟩ s k) := by
  blk_point [iblk, V, idx t]

theorem gain7 (k : Fin 2048) : (show EReal from iblk m c 7 t (ix2 0 k))
    = (show Vec Ideal S2048 .f32 from m ((c.tc : Thread nD τ).loc main_arg7)) (ix1 k) := by
  unfold iblk
  entry_read
  have e : (win0_7.blk t).view.emb (ix2 0 k) = ix2 0 k := by blk_ext [idx t]
  show shapeCast S1x2048 _ _ ((win0_7.blk t).view.emb (ix2 0 k)) = _
  rw [e]
  pointwise

theorem gain8 (k : Fin 2048) : (show EReal from iblk m c 8 t (ix2 0 k))
    = (show Vec Ideal S2048 .f32 from m ((c.tc : Thread nD τ).loc main_arg8)) (ix1 k) := by
  unfold iblk
  entry_read
  have e : (win0_8.blk t).view.emb (ix2 0 k) = ix2 0 k := by blk_ext [idx t]
  show shapeCast S1x2048 _ _ ((win0_8.blk t).view.emb (ix2 0 k)) = _
  rw [e]
  pointwise

/-- A row of the residual block over the arrays. -/
theorem row_x (hR : R.val = 512 * t.val + r.val) :
    over (fun d => iblk m c 5 t (ix2 r d)) (fun d => iblk m c 6 t (ix3 0 2 d))
      (proj (iblk m c 0 t) (iblk m c 1 t) (iblk m c 2 t) (iblk m c 3 t) (fun k d => iblk m c 4 t (ix2 k d)) r) (fun d => iblk m c 7 t (ix2 0 d))
      = resX (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) R := by
  unfold resX
  have hp : proj (iblk m c 0 t) (iblk m c 1 t) (iblk m c 2 t) (iblk m c 3 t) (fun k d => iblk m c 4 t (ix2 k d)) r
      = proj (m ((c.tc : Thread nD τ).loc main_arg0)) (m ((c.tc : Thread nD τ).loc main_arg1)) (m ((c.tc : Thread nD τ).loc main_arg2))
          (m ((c.tc : Thread nD τ).loc main_arg3)) (fun k q => (show Vec Ideal S2048x2048 .f32 from m ((c.tc : Thread nD τ).loc main_arg4)) (ix2 k q)) R := by
    funext q
    unfold proj
    exact Finset.sum_congr rfl fun k _ => congrArg₂ (· * ·) (mixed_eq m c t r R hR k) (weight_eq m c t k q)
  rw [hp]
  exact congr (congr (congr (congrArg over (funext fun k => resid_eq m c t r R hR k)) (funext fun k => mod_eq m c t r R hR 2 k)) rfl)
    (funext fun k => gain7 m c t k)

/-- The first array the kernel leaves. -/
theorem finalX : (dats m 0 c).arrAt 9 (cfgs 0).N
    = resultX (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (dats m 0 c).arrAt_eq_of_covers 9 _ (by decide +kernel) fun t hf y => ?_
  blk_simp
  rw [after0_9]
  obtain ⟨r, q, rfl⟩ : ∃ (r : Fin 512) (q : Fin 2048), y = ix2 r q := ⟨y 0, y 1, by idx_vars y⟩
  refine (out_x _ _ _ _ _ _ _ _ _ r q).trans ?_
  obtain ⟨R, Q, hj⟩ : ∃ (R : Fin 32768) (Q : Fin 2048), (win0_9.blk t).view.emb (ix2 r q) = ix2 R Q := by
    generalize (win0_9.blk t).view.emb (ix2 r q) = j
    exact ⟨j 0, j 1, by idx_vars j⟩
  have hR : R.val = 512 * t.val + r.val := by
    have : ((win0_9.blk t).view.emb (ix2 r q) 0).val = R.val := by rw [hj]; rfl
    blk_simp [idx t] at this
    omega
  have hQ : q = Q := by
    have : ((win0_9.blk t).view.emb (ix2 r q) 1).val = Q.val := by rw [hj]; rfl
    blk_simp [idx t] at this
    exact Fin.ext (by omega)
  subst hQ
  rw [hj]
  exact congrFun (row_x m c t r R hR) q

/-- The second array the kernel leaves. -/
theorem finalH : (dats m 0 c).arrAt 10 (cfgs 0).N
    = resultH (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (dats m 0 c).arrAt_eq_of_covers 10 _ (by decide +kernel) fun t hf y => ?_
  blk_simp
  rw [after0_10]
  obtain ⟨r, q, rfl⟩ : ∃ (r : Fin 512) (q : Fin 2048), y = ix2 r q := ⟨y 0, y 1, by idx_vars y⟩
  refine (out_h _ _ _ _ _ _ _ _ _ r q).trans ?_
  obtain ⟨R, Q, hj⟩ : ∃ (R : Fin 32768) (Q : Fin 2048), (win0_10.blk t).view.emb (ix2 r q) = ix2 R Q := by
    generalize (win0_10.blk t).view.emb (ix2 r q) = j
    exact ⟨j 0, j 1, by idx_vars j⟩
  have hR : R.val = 512 * t.val + r.val := by
    have : ((win0_10.blk t).view.emb (ix2 r q) 0).val = R.val := by rw [hj]; rfl
    blk_simp [idx t] at this
    omega
  have hQ : q = Q := by
    have : ((win0_10.blk t).view.emb (ix2 r q) 1).val = Q.val := by rw [hj]; rfl
    blk_simp [idx t] at this
    exact Fin.ext (by omega)
  subst hQ
  rw [hj]
  show _ = resH _ _ _ _ _ _ _ _ _ R q
  unfold resH
  exact congrFun (congr (congr (congr (congrArg modulated (row_x m c t r R hR)) (funext fun k => gain8 m c t k))
    (funext fun k => mod_eq m c t r R hR 4 k)) (funext fun k => mod_eq m c t r R hR 3 k)) q

end Cert.OutprojIdeal.Mine

end
-- ==== Proof.OutprojRef.lean ====
/- The reference of the output projection, read at an entry, and its agreement with the kernel's two arrays. -/
module

public import proofs.«01_k».proof.Proof.OutprojValue
public import proofs.«01_k».proof.Proof.Gen.OutprojRefIdeal.Run

@[expose] public section

set_option maxRecDepth 16384

noncomputable section

namespace Cert.OutprojRefIdeal.Mine

open Cert.OutprojRefIdeal Cert.OutprojRefIdeal.Gen Cert.OutprojRefIdeal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The rows as a batch of sequences. -/
def seqs (x : FVec Ideal S32768x2048 .f32) : FVec Ideal S8x4096x2048 .f32 := shapeCast _ x shapeCasts_S32768x2048_S8x4096x2048

/-- The norm of every row, times the gain. -/
def normed (z : FVec Ideal S8x4096x2048 .f32) (g : FVec Ideal S2048 .f32) : FVec Ideal S8x4096x2048 .f32 :=
  mulf (mulf z (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf z z) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

/-- The modulation's row of gates. -/
def gateRow (md : FVec Ideal S16x6x2048 .f32) : FVec Ideal S8x1x2048 .f32 :=
  shapeCast _ (extractStridedSlice S8x1x1x2048 ![0, 2, 0, 0] (broadcastInDim S8x6x1x2048 ![0, 1, 3] bcast_S8x6x2048_S8x6x1x2048_0_1_3 (extractStridedSlice S8x6x2048 ![0, 0, 0] md slices_S16x6x2048_S8x6x2048_0_0_0)) slices_S8x6x1x2048_S8x1x1x2048_0_2_0_0) shapeCasts_S8x1x1x2048_S8x1x2048

/-- The row of shifts. -/
def shiftRow (md : FVec Ideal S16x6x2048 .f32) : FVec Ideal S8x1x2048 .f32 :=
  shapeCast _ (extractStridedSlice S8x1x1x2048 ![0, 3, 0, 0] (broadcastInDim S8x6x1x2048 ![0, 1, 3] bcast_S8x6x2048_S8x6x1x2048_0_1_3 (extractStridedSlice S8x6x2048 ![0, 0, 0] md slices_S16x6x2048_S8x6x2048_0_0_0)) slices_S8x6x1x2048_S8x1x1x2048_0_3_0_0) shapeCasts_S8x1x1x2048_S8x1x2048

/-- The row of scales. -/
def scaleRow (md : FVec Ideal S16x6x2048 .f32) : FVec Ideal S8x1x2048 .f32 :=
  shapeCast _ (extractStridedSlice S8x1x1x2048 ![0, 4, 0, 0] (broadcastInDim S8x6x1x2048 ![0, 1, 3] bcast_S8x6x2048_S8x6x1x2048_0_1_3 (extractStridedSlice S8x6x2048 ![0, 0, 0] md slices_S16x6x2048_S8x6x2048_0_0_0)) slices_S8x6x1x2048_S8x1x1x2048_0_4_0_0) shapeCasts_S8x1x1x2048_S8x1x2048

/-- A row times one plus its scale, plus its shift. -/
def shifted (z : FVec Ideal S8x4096x2048 .f32) (shift scale : FVec Ideal S8x1x2048 .f32) : FVec Ideal S8x4096x2048 .f32 :=
  addf (mulf z (broadcastInDim S8x4096x2048 ![0, 1, 2] bcast_S8x1x2048_S8x4096x2048_0_1_2 (addf (broadcastInDim S8x1x2048 ![] bcast_S_S8x1x2048 (constant S_ .f32 0x3F800000#32)) scale))) (broadcastInDim S8x4096x2048 ![0, 1, 2] bcast_S8x1x2048_S8x4096x2048_0_1_2 shift)

/-- The four parts side by side against the weights. -/
def proj (a b w d : FVec Ideal S32768x512 .bf16) (wo : FVec Ideal S2048x2048 .f32) : FVec Ideal S8x4096x2048 .f32 :=
  Host.dotGeneral dot_S8x4096x2048_S2048x2048_S8x4096x2048_2_0_01_1_n_n none (shapeCast _ (extf .f32 ((concatenate S32768x2048 1 [⟨S32768x512, (a : (⟨S32768x512, .bf16⟩ : BufTy).Contents (Elt Ideal))⟩, ⟨S32768x512, (b : (⟨S32768x512, .bf16⟩ : BufTy).Contents (Elt Ideal))⟩, ⟨S32768x512, (w : (⟨S32768x512, .bf16⟩ : BufTy).Contents (Elt Ideal))⟩, ⟨S32768x512, (d : (⟨S32768x512, .bf16⟩ : BufTy).Contents (Elt Ideal))⟩] concatenates_S32768x512_S32768x512_S32768x512_S32768x512_S32768x2048_d1 : (⟨S32768x2048, .bf16⟩ : BufTy).Contents (Elt Ideal))) bitsLt_bf16_f32) shapeCasts_S32768x2048_S8x4096x2048) wo

/-- The gated row over the residual. -/
def over (x z : FVec Ideal S8x4096x2048 .f32) (gate : FVec Ideal S8x1x2048 .f32) : FVec Ideal S8x4096x2048 .f32 :=
  addf x (mulf (broadcastInDim S8x4096x2048 ![0, 1, 2] bcast_S8x1x2048_S8x4096x2048_0_1_2 gate) z)

/-- Flat rows. -/
def flat (z : FVec Ideal S8x4096x2048 .f32) : FVec Ideal S32768x2048 .f32 := shapeCast _ z shapeCasts_S8x4096x2048_S32768x2048

/-- The reference's residual stream after the mixer. -/
def resX (a b w d : FVec Ideal S32768x512 .bf16) (wo : FVec Ideal S2048x2048 .f32) (x : FVec Ideal S32768x2048 .f32)
    (md : FVec Ideal S16x6x2048 .f32) (g : FVec Ideal S2048 .f32) : FVec Ideal S8x4096x2048 .f32 :=
  over (seqs x) (normed (proj a b w d wo) g) (gateRow md)

/-- The reference's first array over its arguments. -/
def wholeX (a b w d : FVec Ideal S32768x512 .bf16) (wo : FVec Ideal S2048x2048 .f32) (x : FVec Ideal S32768x2048 .f32)
    (md : FVec Ideal S16x6x2048 .f32) (g : FVec Ideal S2048 .f32) : FVec Ideal S32768x2048 .f32 := flat (resX a b w d wo x md g)

/-- The reference's second array over its arguments. -/
def wholeH (a b w d : FVec Ideal S32768x512 .bf16) (wo : FVec Ideal S2048x2048 .f32) (x : FVec Ideal S32768x2048 .f32)
    (md : FVec Ideal S16x6x2048 .f32) (g g' : FVec Ideal S2048 .f32) : FVec Ideal S32768x2048 .bf16 :=
  truncf .bf16 (flat (shifted (normed (resX a b w d wo x md g) g') (shiftRow md) (scaleRow md))) bitsLt_bf16_f32

theorem seqs_apply (x : FVec Ideal S32768x2048 .f32) (b : Fin 8) (n : Fin 4096) (q : Fin 2048) (R : Fin 32768) (hR : R.val = 4096 * b.val + n.val) :
    (show EReal from seqs x (ix3 b n q)) = (show EReal from x (ix2 R q)) := by
  pointwise [seqs]
  blk_ext

theorem normed_apply (z : FVec Ideal S8x4096x2048 .f32) (g : FVec Ideal S2048 .f32) (b : Fin 8) (n : Fin 4096) (q : Fin 2048) :
    (show EReal from normed z g (ix3 b n q)) = (show EReal from z (ix3 b n q))
      * Ideal.rsqrt (Ideal.div (∑ d : Fin 2048, (show EReal from z (ix3 b n d)) * z (ix3 b n d)) (Ideal.ofBits .f32 0x45000000#32)
        + Ideal.ofBits .f32 0x358637BD#32) * (show EReal from g (ix1 q)) := by
  pointwise [normed]

theorem shifted_apply (z : FVec Ideal S8x4096x2048 .f32) (shift scale : FVec Ideal S8x1x2048 .f32) (b : Fin 8) (n : Fin 4096) (q : Fin 2048) :
    (show EReal from shifted z shift scale (ix3 b n q)) = (show EReal from z (ix3 b n q)) * (1 + (show EReal from scale (ix3 b 0 q)))
      + (show EReal from shift (ix3 b 0 q)) := by
  refine Eq.trans (b := (show EReal from z (ix3 b n q)) * (Ideal.ofBits .f32 0x3F800000#32 + (show EReal from scale (ix3 b 0 q)))
      + (show EReal from shift (ix3 b 0 q))) ?_ (by rw [Ideal.ofBits_one_f32])
  pointwise [shifted]
theorem gateRow_apply (md : FVec Ideal S16x6x2048 .f32) (b : Fin 8) (b' : Fin 16) (hb : b'.val = b.val) (q : Fin 2048) :
    (show EReal from gateRow md (ix3 b 0 q)) = (show EReal from md (ix3 b' 2 q)) := by
  pointwise [gateRow]
  blk_ext

theorem shiftRow_apply (md : FVec Ideal S16x6x2048 .f32) (b : Fin 8) (b' : Fin 16) (hb : b'.val = b.val) (q : Fin 2048) :
    (show EReal from shiftRow md (ix3 b 0 q)) = (show EReal from md (ix3 b' 3 q)) := by
  pointwise [shiftRow]
  blk_ext

theorem scaleRow_apply (md : FVec Ideal S16x6x2048 .f32) (b : Fin 8) (b' : Fin 16) (hb : b'.val = b.val) (q : Fin 2048) :
    (show EReal from scaleRow md (ix3 b 0 q)) = (show EReal from md (ix3 b' 4 q)) := by
  pointwise [scaleRow]
  blk_ext

theorem proj_apply (a b w d : FVec Ideal S32768x512 .bf16) (wo : FVec Ideal S2048x2048 .f32) (s : Fin 8) (n : Fin 4096) (q : Fin 2048)
    (R : Fin 32768) (hR : R.val = 4096 * s.val + n.val) :
    (show EReal from proj a b w d wo (ix3 s n q)) = Cert.OutprojIdeal.Mine.proj a b w d (fun k q => wo (ix2 k q)) R q := by
  have e : (⟨s.val * 4096 + n.val, by omega⟩ : Fin 32768) = R := Fin.ext (by show s.val * 4096 + n.val = R.val; omega)
  pointwise [proj, Cert.OutprojIdeal.Mine.proj]
  simp only [e]
  rfl

theorem over_apply (x z : FVec Ideal S8x4096x2048 .f32) (gate : FVec Ideal S8x1x2048 .f32) (b : Fin 8) (n : Fin 4096) (q : Fin 2048) :
    (show EReal from over x z gate (ix3 b n q)) = (show EReal from x (ix3 b n q)) + (show EReal from gate (ix3 b 0 q)) * (show EReal from z (ix3 b n q)) := by
  pointwise [over]

theorem flat_apply (z : FVec Ideal S8x4096x2048 .f32) (b : Fin 8) (n : Fin 4096) (q : Fin 2048) (R : Fin 32768) (hR : R.val = 4096 * b.val + n.val) :
    (show EReal from flat z (ix2 R q)) = (show EReal from z (ix3 b n q)) := by
  pointwise [flat]
  blk_ext

/-- The reference's residual stream is the kernel's. -/
theorem resX_apply (a b w d : FVec Ideal S32768x512 .bf16) (wo : FVec Ideal S2048x2048 .f32) (x : FVec Ideal S32768x2048 .f32)
    (md : FVec Ideal S16x6x2048 .f32) (g : FVec Ideal S2048 .f32) (s : Fin 8) (n : Fin 4096) (q : Fin 2048) (R : Fin 32768) (hR : R.val = 4096 * s.val + n.val) :
    (show EReal from resX a b w d wo x md g (ix3 s n q)) = Cert.OutprojIdeal.Mine.resX a b w d wo x md g R q := by
  unfold resX
  rw [over_apply, normed_apply, gateRow_apply md s ⟨R.val / 4096, by omega⟩ (by show R.val / 4096 = s.val; omega), seqs_apply x s n q R hR]
  simp only [fun k => proj_apply a b w d wo s n k R hR]
  rfl

theorem wholeX_eq (a b w d : FVec Ideal S32768x512 .bf16) (wo : FVec Ideal S2048x2048 .f32) (x : FVec Ideal S32768x2048 .f32)
    (md : FVec Ideal S16x6x2048 .f32) (g : FVec Ideal S2048 .f32) : wholeX a b w d wo x md g = Cert.OutprojIdeal.Mine.resultX a b w d wo x md g := by
  funext i
  obtain ⟨R, q, rfl⟩ : ∃ (R : Fin 32768) (q : Fin 2048), i = ix2 R q := ⟨i 0, i 1, by idx_vars i⟩
  have hR : R.val = 4096 * (⟨R.val / 4096, by omega⟩ : Fin 8).val + (⟨R.val % 4096, by omega⟩ : Fin 4096).val := by
    show R.val = 4096 * (R.val / 4096) + R.val % 4096
    omega
  exact (flat_apply _ _ _ q R hR).trans (resX_apply a b w d wo x md g _ _ q R hR)

theorem wholeH_eq (a b w d : FVec Ideal S32768x512 .bf16) (wo : FVec Ideal S2048x2048 .f32) (x : FVec Ideal S32768x2048 .f32)
    (md : FVec Ideal S16x6x2048 .f32) (g g' : FVec Ideal S2048 .f32) : wholeH a b w d wo x md g g' = Cert.OutprojIdeal.Mine.resultH a b w d wo x md g g' := by
  funext i
  obtain ⟨R, q, rfl⟩ : ∃ (R : Fin 32768) (q : Fin 2048), i = ix2 R q := ⟨i 0, i 1, by idx_vars i⟩
  have hR : R.val = 4096 * (⟨R.val / 4096, by omega⟩ : Fin 8).val + (⟨R.val % 4096, by omega⟩ : Fin 4096).val := by
    show R.val = 4096 * (R.val / 4096) + R.val % 4096
    omega
  unfold wholeH
  refine (flat_apply (shifted (normed (resX a b w d wo x md g) g') (shiftRow md) (scaleRow md)) _ _ q R hR).trans ?_
  rw [shifted_apply, normed_apply, shiftRow_apply md _ ⟨R.val / 4096, by omega⟩ rfl, scaleRow_apply md _ ⟨R.val / 4096, by omega⟩ rfl]
  simp only [fun k => resX_apply a b w d wo x md g ⟨R.val / 4096, by omega⟩ ⟨R.val % 4096, by omega⟩ k R hR]
  rfl

/-- The reference run's second array is the kernel's second array over the reference's arguments. -/
theorem resultH_eq (c : Dev nD) : res_main_v50 m c = Cert.OutprojIdeal.Mine.resultH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  Eq.trans (b := wholeH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (by unfold res_main_v50 wholeH shifted flat resX over proj normed seqs gateRow shiftRow scaleRow; rfl) (wholeH_eq _ _ _ _ _ _ _ _ _)

end Cert.OutprojRefIdeal.Mine

end
-- ==== Proof.OutprojClaims.lean ====
/- The output projection's claims. -/
module

public import proofs.«01_k».proof.Proof.OutprojRef
public import proofs.«01_k».proof.Defs
public import proofs.«01_k».proof.Proof.Gen.Outproj.Frame
public import proofs.«01_k».proof.Proof.Gen.OutprojIdeal.Frame

@[expose] public section

noncomputable section

namespace Cert.Proof

open Idealize.ShloMosaic Idealize.SL.Sem

/-- The reference runs, leaves its arguments as they were and every semaphore at zero. -/
theorem outproj_ref_frame : Cert.quiescent_OutprojRefIdeal (hOutprojRefIdeal := Cert.OutprojRefIdeal.Gen.facts) := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- The output projection's two results are the reference's. -/
theorem outproj_algebraic : Cert.algebraic_OutprojIdeal_OutprojRefIdeal (hOutprojIdeal := Cert.OutprojIdeal.Gen.facts) (hOutprojRefIdeal := Cert.OutprojRefIdeal.Gen.facts) := by
  pair_intro
  · run_from Cert.OutprojIdeal.Value.run_blocks m g
  · run_from Cert.OutprojRefIdeal.Value.run m' g'
    · refine Eq.trans (b := Cert.OutprojRefIdeal.Mine.wholeX (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)))
        (by unfold OutprojRefIdeal.Mine.wholeX OutprojRefIdeal.Mine.flat OutprojRefIdeal.Mine.resX OutprojRefIdeal.Mine.over OutprojRefIdeal.Mine.proj OutprojRefIdeal.Mine.normed OutprojRefIdeal.Mine.seqs OutprojRefIdeal.Mine.gateRow; rfl) ?_
      refine (Cert.OutprojRefIdeal.Mine.wholeX_eq _ _ _ _ _ _ _ _).trans ?_
      exact (Cert.OutprojIdeal.Mine.finalX m c).symm
    · refine (Cert.OutprojRefIdeal.Mine.resultH_eq m' c).trans ?_
      obtain ⟨h0, h1, h2, h3, h4, h5, h6, h7, h8⟩ := hagree c
      rw [h0, h1, h2, h3, h4, h5, h6, h7, h8]
      exact (Cert.OutprojIdeal.Mine.finalH m c).symm

end Cert.Proof

end
-- ==== Proof.MlaBlock.lean ====
/- The latent attention: what a grid point leaves in its block, entry by entry. -/
module

public import proofs.«01_k».proof.Proof.Gen.MlaIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.AttentionReals
public import proofs.«01_k».proof.Proof.AttentionRows

@[expose] public section

set_option maxRecDepth 16384

noncomputable section

namespace Cert.MlaIdeal.Mine

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The score of query row `r` against key `k` of the context block. -/
def scoreCtx (x1 : Vec Ideal S1x256x256 .bf16) (x0 : Vec Ideal S1x2048x256 .bf16) (r : Fin 2048) (k : Fin 256) : EReal :=
  ∑ e : Fin 256, x1 (ix3 0 k e) * x0 (ix3 0 r e)

/-- The score of query row `r` against key `k` of chunk `n` of the latent keys. -/
def scoreLat (x3 : Vec Ideal S1x4096x256 .bf16) (x0 : Vec Ideal S1x2048x256 .bf16) (r : Fin 2048) (n : ℕ) (k : Fin 512) : EReal :=
  if h : n < 8 then ∑ e : Fin 256, x3 (ix3 0 ⟨512 * n + k.val, by omega⟩ e) * x0 (ix3 0 r e) else 0

/-- Row `d` of chunk `n` of the latent values, keys along the chunk. -/
def valLat (x4 : Vec Ideal S1x8x144x512 .bf16) (d : Fin 144) (n : ℕ) (k : Fin 512) : EReal :=
  if h : n < 8 then x4 (ix4 0 ⟨n, h⟩ d k) else 0

/-- The block's entry as the quotient of two running sums. -/
def entry (x0 : Vec Ideal S1x2048x256 .bf16) (x1 : Vec Ideal S1x256x256 .bf16) (x2 : Vec Ideal S1x1x144x256 .bf16)
    (x3 : Vec Ideal S1x4096x256 .bf16) (x4 : Vec Ideal S1x8x144x512 .bf16) (r : Fin 2048) (d : Fin 128) : EReal :=
  Ideal.div (Online.runSum (scoreCtx x1 x0 r) (scoreLat x3 x0 r) (fun k => x2 (ix4 0 0 ⟨d.val, by omega⟩ k)) (valLat x4 ⟨d.val, by omega⟩) 8)
    (Online.runSum (scoreCtx x1 x0 r) (scoreLat x3 x0 r) (fun k => x2 (ix4 0 0 128 k)) (valLat x4 128) 8)

set_option maxHeartbeats 4000000 in
/-- What a grid point leaves in its block: at query row `r`, column `d`, the quotient of the two running sums. -/
theorem out_A (c : Dev nD) (t : Fin cfg0.N) (r : Fin 2048) (d : Fin 128) :
    outsAt0 m c t (ix2 r d) = entry (iblk m c 0 t) (iblk m c 1 t) (iblk m c 2 t) (iblk m c 3 t) (iblk m c 4 t) r d := by
  unfold outsAt0
  frame_open
  simp (disch := decide) only [↓ View.readCov_skip, ↓ View.readCov_cons_toLoadRect, ↓ View.readCov_fill, ↓ Attention.readCov_rows]
  frame_out
  canon_tiles x h
  all_goals
    open_payloads
    pointwise [entry, Online.runSum, Online.runMax, Online.top, scoreCtx, scoreLat, valLat, Attention.negInf]
    have er : r = (⟨_, h0 ▸ r.isLt⟩ : Fin 2048) := Fin.ext h0
    have ed : d = x 1 := Fin.ext h1
    rw [er, ed]; rfl

end Cert.MlaIdeal.Mine

end
-- ==== Proof.MlaPrep.lean ====
/- The latent attention: what the blocks hold, over the argument arrays. -/
module

public import proofs.«01_k».proof.Proof.Gen.MlaIdeal.Value
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.MlaIdeal.Mine

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of its array each window holds at a grid point. -/
theorem idx : ∀ t : Fin cfg0.N, win0_0.index t = ![t.val / 2 % 4, t.val / 8 * 2 + t.val % 2, 0] ∧ win0_1.index t = ![4 + t.val / 2 % 4, t.val / 8, 0]
    ∧ win0_2.index t = ![6 + t.val / 2 % 4, t.val / 8, 0, 0] ∧ win0_3.index t = ![4 + t.val / 2 % 4, t.val / 8, 0]
    ∧ win0_4.index t = ![6 + t.val / 2 % 4, t.val / 8, 0, 0] ∧ win0_5.index t = ![t.val / 8 * 2 + t.val % 2, t.val / 2 % 4] :=
  (by decide +kernel : ∀ t : Fin grid0.N, _)

/-- The scale over the natural logarithm of two. -/
def rate : EReal := Ideal.div (Ideal.ofBits .f32 0x3D93CD3A#32) (Ideal.log (Ideal.ofBits .f32 0x40000000#32))

/-- The latent queries and keys in 256 columns, the last 64 zero. -/
def latWide (A : FVec Ideal S8x32768x192 .f32) : FVec Ideal S8x32768x256 .f32 :=
  pad S8x32768x256 ![0, 0, 0] ![0, 0, 64] ![0, 0, 0] A (sitofp .f32 (constantI S_ 32 0#32)) pads_S8x32768x192_S8x32768x256_000_000_0640 h_S_

/-- The latent queries and keys as the kernel takes them: the query slots scaled. -/
def lat (A : FVec Ideal S8x32768x256 .f32) : FVec Ideal S8x32768x256 .bf16 :=
  truncf .bf16 (concatenate S8x32768x256 0 [⟨S4x32768x256, mulf (extractStridedSlice S4x32768x256 ![0, 0, 0] A slices_S8x32768x256_S4x32768x256_0_0_0)
      (broadcastInDim S4x32768x256 ![] bcast_S_S4x32768x256 (Host.divf (constant S_ .f32 0x3D93CD3A#32) (Host.log (constant S_ .f32 0x40000000#32))))⟩,
    ⟨S4x32768x256, extractStridedSlice S4x32768x256 ![4, 0, 0] A slices_S8x32768x256_S4x32768x256_4_0_0⟩]
    concatenates_S4x32768x256_S4x32768x256_S8x32768x256_d0) bitsLt_bf16_f32

/-- The context's queries and keys in 256 columns, the last 64 zero. -/
def ctxWide (A : FVec Ideal S8x2048x192 .f32) : FVec Ideal S8x2048x256 .f32 :=
  pad S8x2048x256 ![0, 0, 0] ![0, 0, 64] ![0, 0, 0] A (sitofp .f32 (constantI S_ 32 0#32)) pads_S8x2048x192_S8x2048x256_000_000_0640 h_S_

/-- The context's queries and keys as the kernel takes them: the query slots scaled. -/
def ctx (A : FVec Ideal S8x2048x256 .f32) : FVec Ideal S8x2048x256 .bf16 :=
  truncf .bf16 (concatenate S8x2048x256 0 [⟨S4x2048x256, mulf (extractStridedSlice S4x2048x256 ![0, 0, 0] A slices_S8x2048x256_S4x2048x256_0_0_0)
      (broadcastInDim S4x2048x256 ![] bcast_S_S4x2048x256 (Host.divf (constant S_ .f32 0x3D93CD3A#32) (Host.log (constant S_ .f32 0x40000000#32))))⟩,
    ⟨S4x2048x256, extractStridedSlice S4x2048x256 ![4, 0, 0] A slices_S8x2048x256_S4x2048x256_4_0_0⟩]
    concatenates_S4x2048x256_S4x2048x256_S8x2048x256_d0) bitsLt_bf16_f32

/-- The latent values, transposed chunk by chunk, with rows of ones below. -/
def vlat (V : FVec Ideal S10x32768x128 .f32) : FVec Ideal S10x64x144x512 .bf16 :=
  concatenate S10x64x144x512 2 [⟨S10x64x128x512, transpose S10x64x128x512 [0, 1, 3, 2] (shapeCast S10x64x512x128 (truncf .bf16 V bitsLt_bf16_f32)
      shapeCasts_S10x32768x128_S10x64x512x128) transposes_S10x64x512x128_S10x64x128x512_0_1_3_2⟩,
    ⟨S10x64x16x512, broadcastInDim S10x64x16x512 ![] bcast_S_S10x64x16x512 (constant S_ .bf16 0x3F80#16)⟩]
    concatenates_S10x64x128x512_S10x64x16x512_S10x64x144x512_d2

/-- The context's values likewise. -/
def vctx (V : FVec Ideal S10x2048x128 .f32) : FVec Ideal S10x8x144x256 .bf16 :=
  concatenate S10x8x144x256 2 [⟨S10x8x128x256, transpose S10x8x128x256 [0, 1, 3, 2] (shapeCast S10x8x256x128 (truncf .bf16 V bitsLt_bf16_f32)
      shapeCasts_S10x2048x128_S10x8x256x128) transposes_S10x8x256x128_S10x8x128x256_0_1_3_2⟩,
    ⟨S10x8x16x256, broadcastInDim S10x8x16x256 ![] bcast_S_S10x8x16x256 (constant S_ .bf16 0x3F80#16)⟩]
    concatenates_S10x8x128x256_S10x8x16x256_S10x8x144x256_d2

/-- Column `e` of a row of 192 columns, zero beyond them. -/
def widened {n : ℕ} (A : Vec Ideal ⟨3, ![8, n, 192]⟩ .f32) (h : Fin 8) (R : Fin n) (e : Fin 256) : EReal :=
  if he : e.val < 192 then A (ix3 h R ⟨e.val, he⟩) else 0

theorem latWide_apply (A : FVec Ideal S8x32768x192 .f32) (h : Fin 8) (R : Fin 32768) (e : Fin 256) :
    (show EReal from latWide A (ix3 h R e)) = widened A h R e := by
  unfold widened
  split
  · rename_i he
    refine pad_apply_of_inside ![0, 0, 0] ![0, 0, 64] ![0, 0, 0] A (sitofp (F := Ideal) .f32 (constantI S_ 32 0#32))
      pads_S8x32768x192_S8x32768x256_000_000_0640 h_S_ (ix3 h R e) (ix3 h R ⟨e.val, he⟩) fun a => ?_
    match a with
    | 0 => simp
    | 1 => simp
    | 2 => simp
  · rename_i he
    refine (pad_apply_of_not_inside ![0, 0, 0] ![0, 0, 64] ![0, 0, 0] A (sitofp (F := Ideal) .f32 (constantI S_ 32 0#32))
      pads_S8x32768x192_S8x32768x256_000_000_0640 h_S_ (ix3 h R e) 2 ?_).trans ?_
    · simp
      exact fun _ => Nat.le_of_not_lt he
    · show ((0 : ℤ) : ℝ) = (0 : EReal)
      simp

theorem ctxWide_apply (A : FVec Ideal S8x2048x192 .f32) (h : Fin 8) (R : Fin 2048) (e : Fin 256) :
    (show EReal from ctxWide A (ix3 h R e)) = widened A h R e := by
  unfold widened
  split
  · rename_i he
    refine pad_apply_of_inside ![0, 0, 0] ![0, 0, 64] ![0, 0, 0] A (sitofp (F := Ideal) .f32 (constantI S_ 32 0#32))
      pads_S8x2048x192_S8x2048x256_000_000_0640 h_S_ (ix3 h R e) (ix3 h R ⟨e.val, he⟩) fun a => ?_
    match a with
    | 0 => simp
    | 1 => simp
    | 2 => simp
  · rename_i he
    refine (pad_apply_of_not_inside ![0, 0, 0] ![0, 0, 64] ![0, 0, 0] A (sitofp (F := Ideal) .f32 (constantI S_ 32 0#32))
      pads_S8x2048x192_S8x2048x256_000_000_0640 h_S_ (ix3 h R e) 2 ?_).trans ?_
    · simp
      exact fun _ => Nat.le_of_not_lt he
    · show ((0 : ℤ) : ℝ) = (0 : EReal)
      simp

theorem lat_query (A : FVec Ideal S8x32768x256 .f32) (h : Fin 8) (hh : h.val < 4) (R : Fin 32768) (e : Fin 256) :
    (show EReal from lat A (ix3 h R e)) = (show EReal from A (ix3 h R e)) * rate := by
  pointwise [lat, rate]
  simp only [hh, dite_true]
  try rfl

theorem lat_key (A : FVec Ideal S8x32768x256 .f32) (h : Fin 8) (hh : 4 ≤ h.val) (R : Fin 32768) (e : Fin 256) :
    (show EReal from lat A (ix3 h R e)) = (show EReal from A (ix3 h R e)) := by
  pointwise [lat]
  rw [dif_neg (by omega)]
  blk_ext

theorem ctx_key (A : FVec Ideal S8x2048x256 .f32) (h : Fin 8) (hh : 4 ≤ h.val) (R : Fin 2048) (e : Fin 256) :
    (show EReal from ctx A (ix3 h R e)) = (show EReal from A (ix3 h R e)) := by
  pointwise [ctx]
  rw [dif_neg (by omega)]
  blk_ext

theorem vlat_apply (V : FVec Ideal S10x32768x128 .f32) (h : Fin 10) (n : Fin 64) (d : Fin 144) (k : Fin 512) (R : Fin 32768)
    (hR : R.val = 512 * n.val + k.val) :
    (show EReal from vlat V (ix4 h n d k)) = if hd : d.val < 128 then V (ix3 h R ⟨d.val, hd⟩) else 1 := by
  pointwise [vlat]
  split
  · blk_ext
  · rfl

theorem vctx_apply (V : FVec Ideal S10x2048x128 .f32) (h : Fin 10) (n : Fin 8) (d : Fin 144) (k : Fin 256) (R : Fin 2048)
    (hR : R.val = 256 * n.val + k.val) :
    (show EReal from vctx V (ix4 h n d k)) = if hd : d.val < 128 then V (ix3 h R ⟨d.val, hd⟩) else 1 := by
  pointwise [vctx]
  split
  · blk_ext
  · rfl

theorem block0 (c : Dev nD) (t : Fin cfg0.N) (r : Fin 2048) (e : Fin 256) (h : Fin 8) (hh : h.val = t.val / 2 % 4)
    (R : Fin 32768) (hR : R.val = 2048 * (t.val / 8 * 2 + t.val % 2) + r.val) :
    (show EReal from iblk m c 0 t (ix3 0 r e)) = widened (m ((c.tc : Thread nD τ).loc main_arg0)) h R e * rate := by
  have ht : t.val < 64 := lt_of_lt_of_eq t.isLt N_0
  unfold iblk
  entry_read
  have e1 : (win0_0.blk t).view.emb (ix3 0 r e) = ix3 h R e := by blk_ext [idx t]
  show lat (latWide _) ((win0_0.blk t).view.emb (ix3 0 r e)) = _
  rw [e1]
  exact (lat_query _ h (by omega) R _).trans (congrArg (· * rate) (latWide_apply _ h R e))

theorem block1 (c : Dev nD) (t : Fin cfg0.N) (k : Fin 256) (e : Fin 256) (h : Fin 8) (hh : h.val = 4 + t.val / 2 % 4)
    (R : Fin 2048) (hR : R.val = 256 * (t.val / 8) + k.val) :
    (show EReal from iblk m c 1 t (ix3 0 k e)) = widened (m ((c.tc : Thread nD τ).loc main_arg1)) h R e := by
  have ht : t.val < 64 := lt_of_lt_of_eq t.isLt N_0
  unfold iblk
  entry_read
  have e1 : (win0_1.blk t).view.emb (ix3 0 k e) = ix3 h R e := by blk_ext [idx t]
  show ctx (ctxWide _) ((win0_1.blk t).view.emb (ix3 0 k e)) = _
  rw [e1]
  exact (ctx_key _ h (by omega) R _).trans (ctxWide_apply _ h R e)

theorem block3 (c : Dev nD) (t : Fin cfg0.N) (k : Fin 4096) (e : Fin 256) (h : Fin 8) (hh : h.val = 4 + t.val / 2 % 4)
    (R : Fin 32768) (hR : R.val = 4096 * (t.val / 8) + k.val) :
    (show EReal from iblk m c 3 t (ix3 0 k e)) = widened (m ((c.tc : Thread nD τ).loc main_arg0)) h R e := by
  have ht : t.val < 64 := lt_of_lt_of_eq t.isLt N_0
  unfold iblk
  entry_read
  have e1 : (win0_3.blk t).view.emb (ix3 0 k e) = ix3 h R e := by blk_ext [idx t]
  show lat (latWide _) ((win0_3.blk t).view.emb (ix3 0 k e)) = _
  rw [e1]
  exact (lat_key _ h (by omega) R _).trans (latWide_apply _ h R e)

theorem block2 (c : Dev nD) (t : Fin cfg0.N) (k : Fin 256) (d : Fin 144) (h : Fin 10) (hh : h.val = 6 + t.val / 2 % 4)
    (R : Fin 2048) (hR : R.val = 256 * (t.val / 8) + k.val) :
    (show EReal from iblk m c 2 t (ix4 0 0 d k)) = if hd : d.val < 128 then (show Vec Ideal S10x2048x128 .f32 from m ((c.tc : Thread nD τ).loc main_arg3)) (ix3 h R ⟨d.val, hd⟩) else 1 := by
  have ht : t.val < 64 := lt_of_lt_of_eq t.isLt N_0
  unfold iblk
  entry_read
  have e1 : (win0_2.blk t).view.emb (ix4 0 0 d k) = ix4 h ⟨t.val / 8, by omega⟩ d k := by blk_ext [idx t]
  show vctx _ ((win0_2.blk t).view.emb (ix4 0 0 d k)) = _
  rw [e1]
  exact vctx_apply _ h _ d k R hR

theorem block4 (c : Dev nD) (t : Fin cfg0.N) (n : Fin 8) (k : Fin 512) (d : Fin 144) (h : Fin 10) (hh : h.val = 6 + t.val / 2 % 4)
    (R : Fin 32768) (hR : R.val = 4096 * (t.val / 8) + (512 * n.val + k.val)) :
    (show EReal from iblk m c 4 t (ix4 0 n d k)) = if hd : d.val < 128 then (show Vec Ideal S10x32768x128 .f32 from m ((c.tc : Thread nD τ).loc main_arg2)) (ix3 h R ⟨d.val, hd⟩) else 1 := by
  have ht : t.val < 64 := lt_of_lt_of_eq t.isLt N_0
  unfold iblk
  entry_read
  have e1 : (win0_4.blk t).view.emb (ix4 0 n d k) = ix4 h ⟨8 * (t.val / 8) + n.val, by omega⟩ d k := by blk_ext [idx t]
  show vlat _ ((win0_4.blk t).view.emb (ix4 0 n d k)) = _
  rw [e1]
  exact vlat_apply _ h _ d k R (by show R.val = 512 * (8 * (t.val / 8) + n.val) + k.val; omega)

end Cert.MlaIdeal.Mine

end
-- ==== Proof.MlaCore.lean ====
/- The latent attention: the quotient of running sums is the softmax-weighted mean. -/
module

public import proofs.«01_k».proof.Proof.MlaBlock
public import proofs.«01_k».proof.Proof.MlaPrep

@[expose] public section

set_option maxRecDepth 16384

noncomputable section

namespace Cert.MlaIdeal.Mine

open Cert.MlaIdeal Cert.MlaIdeal.Gen Idealize.ShloMosaic Idealize.ShloMosaic.TcCoe Idealize.SL.Sem

/-- The scale as a real number. -/
def scale : ℝ := 4843165 / 67108864

theorem scale_eq : Ideal.ofBits .f32 0x3D93CD3A#32 = ((scale : ℝ) : EReal) := by
  unfold scale
  simp [Ideal.ofBits, Ideal.ieee]
  rw [← EReal.coe_mul]
  norm_num

theorem rate_eq : rate = ((scale * (Real.log 2)⁻¹ : ℝ) : EReal) := by
  unfold rate
  rw [scale_eq, Attention.rate_real]

/-- One product of real query and key, the scale over log 2 on the query. -/
theorem dot_eq (K Q : Fin 256 → ℝ) :
    (∑ e : Fin 256, (show EReal from ((K e : ℝ) : EReal)) * (((Q e : ℝ) : EReal) * rate))
      = (((∑ e : Fin 256, K e * Q e) * scale * (Real.log 2)⁻¹ : ℝ) : EReal) := by
  rw [rate_eq]
  exact Attention.dot_real scale K Q

/-- The block's entry over real queries `Q` and keys `K`, any values `w` and any real number `M`. -/
theorem entry_eq (x0 : Vec Ideal S1x2048x256 .bf16) (x1 : Vec Ideal S1x256x256 .bf16) (x2 : Vec Ideal S1x1x144x256 .bf16)
    (x3 : Vec Ideal S1x4096x256 .bf16) (x4 : Vec Ideal S1x8x144x512 .bf16) (r : Fin 2048) (d : Fin 128)
    (Q : Fin 256 → ℝ) (K : Fin 4352 → Fin 256 → ℝ) (w : Fin 4352 → EReal) (M : ℝ)
    (h0 : ∀ e, (show EReal from x0 (ix3 0 r e)) = ((Q e : ℝ) : EReal) * rate)
    (h1 : ∀ (k : Fin 256) e, (show EReal from x1 (ix3 0 k e)) = ((K ⟨k.val, by omega⟩ e : ℝ) : EReal))
    (h3 : ∀ (k : Fin 4096) e, (show EReal from x3 (ix3 0 k e)) = ((K ⟨256 + k.val, by omega⟩ e : ℝ) : EReal))
    (h2 : ∀ k : Fin 256, (show EReal from x2 (ix4 0 0 ⟨d.val, by omega⟩ k)) = w ⟨k.val, by omega⟩)
    (h2' : ∀ k : Fin 256, (show EReal from x2 (ix4 0 0 128 k)) = 1)
    (h4 : ∀ (n : Fin 8) (k : Fin 512), (show EReal from x4 (ix4 0 n ⟨d.val, by omega⟩ k)) = w ⟨256 + (n.val * 512 + k.val), by omega⟩)
    (h4' : ∀ (n : Fin 8) (k : Fin 512), (show EReal from x4 (ix4 0 n 128 k)) = 1) :
    entry x0 x1 x2 x3 x4 r d
      = ∑ k : Fin 4352, Ideal.div (Ideal.exp ((((∑ e, K k e * Q e) * scale : ℝ) : EReal) - (M : EReal)))
          (∑ j : Fin 4352, Ideal.exp ((((∑ e, K j e * Q e) * scale : ℝ) : EReal) - (M : EReal))) * w k := by
  unfold entry
  have ones : Online.runSum (scoreCtx x1 x0 r) (scoreLat x3 x0 r) (fun k => x2 (ix4 0 0 128 k)) (valLat x4 128) 8
      = Online.runSum (scoreCtx x1 x0 r) (scoreLat x3 x0 r) (fun _ => 1) (fun _ _ => 1) 8 := by
    refine Online.runSum_congr rfl (fun _ _ => rfl) (funext fun k => h2' k) fun c hc => funext fun k => ?_
    unfold valLat
    rw [dif_pos hc]
    exact h4' ⟨c, hc⟩ k
  rw [ones]
  refine Online.running_softmax (a := 256) (b := 512) (n := 8) (N := 4352) (by norm_num) (by norm_num) (by norm_num)
    (fun k => (∑ e, K k e * Q e) * scale) w M _ _ _ _ ?_ ?_ ?_ ?_
  · intro k h
    unfold scoreCtx
    simp only [h0, h1]
    exact dot_eq _ _
  · intro k h
    exact h2 k
  · intro c hc k h
    unfold scoreLat
    rw [dif_pos hc]
    simp only [h0, h3]
    refine (dot_eq _ _).trans ?_
    have e : (⟨256 + (512 * c + k.val), by omega⟩ : Fin 4352) = ⟨256 + (c * 512 + k.val), h⟩ := Fin.ext (by show 256 + (512 * c + k.val) = 256 + (c * 512 + k.val); ring)
    rw [e]
  · intro c hc k h
    unfold valLat
    rw [dif_pos hc]
    exact h4 ⟨c, hc⟩ k

end Cert.MlaIdeal.Mine

end
-- ==== Proof.MlaRef.lean ====
/- The reference of the latent attention, read at an entry. -/
module

public import proofs.«01_k».proof.Proof.Gen.MlaRefIdeal.Run
public import Idealize.ShloMosaic.Lib.Pipeline.ValueKit
public import Idealize.ShloMosaic.Lib.Pointwise
public import Idealize.ShloMosaic.Lib.Claim
public import proofs.«01_k».proof.Proof.AttentionReals

@[expose] public section

set_option maxRecDepth 16384

noncomputable section

namespace Cert.MlaRefIdeal.Mine

open Cert.MlaRefIdeal Cert.MlaRefIdeal.Gen Cert.MlaRefIdeal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The keys of every batch: the context's, then the latent ones. -/
def keys (C : FVec Ideal S8x2048x192 .f32) (A : FVec Ideal S8x32768x192 .f32) : FVec Ideal S4x8x4352x192 .f32 :=
  concatenate S4x8x4352x192 2 [⟨S4x8x256x192, (shapeCast _ (extractStridedSlice S4x2048x192 ![4, 0, 0] C slices_S8x2048x192_S4x2048x192_4_0_0) shapeCasts_S4x2048x192_S4x8x256x192)⟩, ⟨S4x8x4096x192, (shapeCast _ (extractStridedSlice S4x32768x192 ![4, 0, 0] A slices_S8x32768x192_S4x32768x192_4_0_0) shapeCasts_S4x32768x192_S4x8x4096x192)⟩] concatenates_S4x8x256x192_S4x8x4096x192_S4x8x4352x192_d2

/-- The values of every batch: the context's, then the latent ones. -/
def vals (C : FVec Ideal S10x2048x128 .f32) (A : FVec Ideal S10x32768x128 .f32) : FVec Ideal S4x8x4352x128 .f32 :=
  concatenate S4x8x4352x128 2 [⟨S4x8x256x128, (shapeCast _ (extractStridedSlice S4x2048x128 ![6, 0, 0] C slices_S10x2048x128_S4x2048x128_6_0_0) shapeCasts_S4x2048x128_S4x8x256x128)⟩, ⟨S4x8x4096x128, (shapeCast _ (extractStridedSlice S4x32768x128 ![6, 0, 0] A slices_S10x32768x128_S4x32768x128_6_0_0) shapeCasts_S4x32768x128_S4x8x4096x128)⟩] concatenates_S4x8x256x128_S4x8x4096x128_S4x8x4352x128_d2

/-- The scaled scores. -/
def scores (KK : FVec Ideal S4x8x4352x192 .f32) (A : FVec Ideal S8x32768x192 .f32) : FVec Ideal S4x8x4096x4352 .f32 :=
  mulf (Host.dotGeneral dot_S4x8x4096x192_S4x8x4352x192_S4x8x4096x4352_3_3_2_2_01_01 none (shapeCast _ (extractStridedSlice S4x32768x192 ![0, 0, 0] A slices_S8x32768x192_S4x32768x192_0_0_0) shapeCasts_S4x32768x192_S4x8x4096x192) KK) (broadcastInDim S4x8x4096x4352 ![] bcast_S_S4x8x4096x4352 (constant S_ .f32 0x3D93CD3A#32))

/-- The largest score of every query. -/
def rmax (s : FVec Ideal S4x8x4096x4352 .f32) : FVec Ideal S4x8x4096 .f32 :=
  Host.reduce FloatOps.maximumf s (constant S_ .f32 0xFF800000#32) reducesTo_S4x8x4096x4352_S4x8x4096_d3 h_S_

/-- At least −∞. -/
def capped (w : FVec Ideal S4x8x4096 .f32) : FVec Ideal S4x8x4096 .f32 :=
  maximumf (broadcastInDim S4x8x4096 ![] bcast_S_S4x8x4096 (constant S_ .f32 0xFF800000#32)) w

/-- The largest score of every query, or −∞. -/
def tops (s : FVec Ideal S4x8x4096x4352 .f32) : FVec Ideal S4x8x4096 .f32 := capped (rmax s)

/-- The exponentials of the scores, `w` taken off every query's. -/
def weights (s : FVec Ideal S4x8x4096x4352 .f32) (w : FVec Ideal S4x8x4096 .f32) : FVec Ideal S4x8x4096x4352 .f32 :=
  Host.exp (subf s (broadcastInDim S4x8x4096x4352 ![0, 1, 2, 3] bcast_S4x8x4096x1_S4x8x4096x4352_0_1_2_3 (broadcastInDim S4x8x4096x1 ![0, 1, 2] bcast_S4x8x4096_S4x8x4096x1_0_1_2 w)))

/-- The exponentials, the largest score taken off. -/
def expd (s : FVec Ideal S4x8x4096x4352 .f32) : FVec Ideal S4x8x4096x4352 .f32 := weights s (tops s)

/-- The weights over their sum. -/
def probs (e : FVec Ideal S4x8x4096x4352 .f32) : FVec Ideal S4x8x4096x4352 .f32 :=
  Host.divf e (broadcastInDim S4x8x4096x4352 ![0, 1, 2, 3] bcast_S4x8x4096x1_S4x8x4096x4352_0_1_2_3 (broadcastInDim S4x8x4096x1 ![0, 1, 2] bcast_S4x8x4096_S4x8x4096x1_0_1_2 (Host.reduceAdd e (constant S_ .f32 0x00000000#32) reducesTo_S4x8x4096x4352_S4x8x4096_d3 h_S_)))

/-- The values mixed by the probabilities, heads side by side. -/
def mix (VV : FVec Ideal S4x8x4352x128 .f32) (p : FVec Ideal S4x8x4096x4352 .f32) : FVec Ideal S32768x512 .bf16 :=
  truncf .bf16 (shapeCast _ (transpose S8x4096x4x128 [0, 3, 1, 2] (Host.dotGeneral dot_S4x8x4352x128_S4x8x4096x4352_S8x4x128x4096_2_3_3_2_10_10 none VV p) transposes_S8x4x128x4096_S8x4096x4x128_0_3_1_2) shapeCasts_S8x4096x4x128_S32768x512) bitsLt_bf16_f32

theorem res_eq (c : Dev nD) : res_out0 m c
    = mix (vals (m ((c.tc : Thread nD τ).loc main_arg3)) (m ((c.tc : Thread nD τ).loc main_arg2)))
        (probs (expd (scores (keys (m ((c.tc : Thread nD τ).loc main_arg1)) (m ((c.tc : Thread nD τ).loc main_arg0)))
          (m ((c.tc : Thread nD τ).loc main_arg0))))) := by
  unfold res_out0 res_main_v29 mix vals probs expd weights tops capped rmax scores keys
  rfl

/-- An entry of the result: head `g`, query `n` of batch `b`, column `d`. -/
theorem mix_apply (VV : FVec Ideal S4x8x4352x128 .f32) (p : FVec Ideal S4x8x4096x4352 .f32) (b : Fin 8) (n : Fin 4096) (g : Fin 4)
    (d : Fin 128) (R : Fin 32768) (q : Fin 512) (hR : R.val = 4096 * b.val + n.val) (hq : q.val = 128 * g.val + d.val) :
    (show EReal from mix VV p (ix2 R q)) = ∑ j : Fin 4352, (show EReal from VV (ix4 g b j d)) * p (ix4 g b n j) := by
  pointwise [mix]
  refine Fin.sum_fin_congr fun j => ?_
  congr 1 <;> blk_ext

theorem probs_apply (e : FVec Ideal S4x8x4096x4352 .f32) (g : Fin 4) (b : Fin 8) (n : Fin 4096) (j : Fin 4352) :
    (show EReal from probs e (ix4 g b n j)) = Ideal.div (e (ix4 g b n j)) (∑ k : Fin 4352, (show EReal from e (ix4 g b n k))) := by
  pointwise [probs]

theorem weights_apply (s : FVec Ideal S4x8x4096x4352 .f32) (w : FVec Ideal S4x8x4096 .f32) (g : Fin 4) (b : Fin 8) (n : Fin 4096) (j : Fin 4352) :
    (show EReal from weights s w (ix4 g b n j)) = Ideal.exp ((show EReal from s (ix4 g b n j)) - w (ix3 g b n)) := by
  pointwise [weights]

theorem capped_apply (w : FVec Ideal S4x8x4096 .f32) (i : S4x8x4096.Idx) :
    (show EReal from capped w i) = max (Ideal.ofBits .f32 0xFF800000#32) (show EReal from w i) := rfl

theorem rmax_real (s : FVec Ideal S4x8x4096x4352 .f32) (i : S4x8x4096.Idx) (hs : ∀ j, ∃ y : ℝ, (show EReal from s j) = y)
    (j0 : S4x8x4096x4352.Idx) (hj : (reducesTo_S4x8x4096x4352_S4x8x4096_d3).drop j0 = i) :
    ∃ y : ℝ, (show EReal from rmax s i) = y := by
  unfold rmax
  rw [Host.reduce_eq_fold]
  refine Attention.fold_real _ (fun _ _ => rfl) _ Attention.negInf _ hs _ ⟨j0, ?_⟩
  rw [Finset.mem_filter]
  exact ⟨Finset.mem_univ _, hj⟩

/-- The largest score of a query is a real number where all its scores are. -/
theorem tops_real (s : FVec Ideal S4x8x4096x4352 .f32) (i : S4x8x4096.Idx) (hs : ∀ j, ∃ y : ℝ, (show EReal from s j) = y)
    (j0 : S4x8x4096x4352.Idx) (hj : (reducesTo_S4x8x4096x4352_S4x8x4096_d3).drop j0 = i) :
    ∃ y : ℝ, (show EReal from tops s i) = y := by
  obtain ⟨y, hy⟩ := rmax_real s i hs j0 hj
  unfold tops
  rw [capped_apply, hy, Attention.negInf]
  exact ⟨y, bot_sup_eq _⟩

theorem scores_apply (KK : FVec Ideal S4x8x4352x192 .f32) (A : FVec Ideal S8x32768x192 .f32) (g : Fin 4) (b : Fin 8) (n : Fin 4096) (j : Fin 4352)
    (h : Fin 8) (hh : h.val = g.val) (R : Fin 32768) (hR : R.val = 4096 * b.val + n.val) :
    (show EReal from scores KK A (ix4 g b n j))
      = (∑ e : Fin 192, (show EReal from A (ix3 h R e)) * KK (ix4 g b j e)) * Ideal.ofBits .f32 0x3D93CD3A#32 := by
  pointwise [scores]
  congr 1
  refine Fin.sum_fin_congr fun j => ?_
  congr 1
  blk_ext

theorem keys_apply (C : FVec Ideal S8x2048x192 .f32) (A : FVec Ideal S8x32768x192 .f32) (g : Fin 4) (b : Fin 8) (j : Fin 4352) (e : Fin 192)
    (h : Fin 8) (hh : h.val = 4 + g.val) :
    (show EReal from keys C A (ix4 g b j e)) = if hj : j.val < 256 then C (ix3 h ⟨256 * b.val + j.val, by omega⟩ e)
      else A (ix3 h ⟨4096 * b.val + (j.val - 256), by omega⟩ e) := by
  pointwise [keys]
  split <;> blk_ext

theorem vals_apply (C : FVec Ideal S10x2048x128 .f32) (A : FVec Ideal S10x32768x128 .f32) (g : Fin 4) (b : Fin 8) (j : Fin 4352) (e : Fin 128)
    (h : Fin 10) (hh : h.val = 6 + g.val) :
    (show EReal from vals C A (ix4 g b j e)) = if hj : j.val < 256 then C (ix3 h ⟨256 * b.val + j.val, by omega⟩ e)
      else A (ix3 h ⟨4096 * b.val + (j.val - 256), by omega⟩ e) := by
  pointwise [vals]
  split <;> blk_ext

end Cert.MlaRefIdeal.Mine

end
-- ==== Proof.MlaValue.lean ====
/- The latent attention: the kernel's result is the reference's where the queries and keys are finite. -/
module

public import proofs.«01_k».proof.Proof.MlaCore
public import proofs.«01_k».proof.Proof.MlaRef

@[expose] public section

set_option maxRecDepth 16384

noncomputable section

namespace Cert.MlaIdeal.Mine

open Cert.MlaIdeal Cert.MlaIdeal.Gen Idealize.ShloMosaic Idealize.ShloMosaic.TcCoe Idealize.SL.Sem
open Idealize.ShloMosaic.Pipeline (Dat)
open Cert.MlaRefIdeal.Mine (mix vals probs expd scores keys tops weights)

variable (m : (ℓ : Loc nD τ sig) → Buf (Elt Ideal) ℓ) (ρ : Dev nD → PrngReg)

/-- The reference's result of the four arrays. -/
def attention (A : FVec Ideal S8x32768x192 .f32) (C : FVec Ideal S8x2048x192 .f32) (V : FVec Ideal S10x32768x128 .f32)
    (W : FVec Ideal S10x2048x128 .f32) : FVec Ideal S32768x512 .bf16 :=
  mix (vals W V) (probs (expd (scores (keys C A) A)))

/-- The real part of a key, zero beyond its 192 columns. -/
def key (A : FVec Ideal S8x32768x192 .f32) (C : FVec Ideal S8x2048x192 .f32) (g : Fin 4) (b : Fin 8) (j : Fin 4352) (e : Fin 256) : ℝ :=
  if h : e.val < 192 then EReal.toReal (keys C A (ix4 g b j ⟨e.val, h⟩)) else 0

/-- The real part of a query, zero beyond its 192 columns. -/
def query (A : FVec Ideal S8x32768x192 .f32) (h : Fin 8) (R : Fin 32768) (e : Fin 256) : ℝ :=
  if he : e.val < 192 then EReal.toReal (A (ix3 h R ⟨e.val, he⟩)) else 0

/-- The queries and keys the attention reads are real numbers. -/
def RealHeads (A : FVec Ideal S8x32768x192 .f32) (C : FVec Ideal S8x2048x192 .f32) : Prop :=
  (∀ (h : Fin 8) (R : Fin 32768) (e : Fin 192), ∃ y : ℝ, (show EReal from A (ix3 h R e)) = y)
  ∧ ∀ (h : Fin 8) (R : Fin 2048) (e : Fin 192), 4 ≤ h.val → ∃ y : ℝ, (show EReal from C (ix3 h R e)) = y

theorem coe_toReal (x : EReal) (h : ∃ y : ℝ, x = y) : x = ((EReal.toReal x : ℝ) : EReal) := by
  obtain ⟨y, rfl⟩ := h
  rw [EReal.toReal_coe]

theorem key_eq (A : FVec Ideal S8x32768x192 .f32) (C : FVec Ideal S8x2048x192 .f32) (hf : RealHeads A C) (g : Fin 4) (b : Fin 8)
    (j : Fin 4352) (e : Fin 192) : (show EReal from keys C A (ix4 g b j e)) = ((key A C g b j ⟨e.val, by omega⟩ : ℝ) : EReal) := by
  unfold key
  rw [dif_pos (show e.val < 192 from e.isLt)]
  refine coe_toReal (keys C A (ix4 g b j e)) ?_
  have := Cert.MlaRefIdeal.Mine.keys_apply C A g b j e ⟨4 + g.val, by omega⟩ rfl
  split at this
  · exact (hf.2 ⟨4 + g.val, by omega⟩ _ e (by show 4 ≤ 4 + g.val; omega)).imp fun y hy => this.trans hy
  · exact (hf.1 _ _ e).imp fun y hy => this.trans hy

theorem query_eq (A : FVec Ideal S8x32768x192 .f32) (C : FVec Ideal S8x2048x192 .f32) (hf : RealHeads A C) (h : Fin 8)
    (R : Fin 32768) (e : Fin 192) : (show EReal from A (ix3 h R e)) = ((query A h R ⟨e.val, by omega⟩ : ℝ) : EReal) := by
  unfold query
  rw [dif_pos (show e.val < 192 from e.isLt)]
  exact coe_toReal (A (ix3 h R e)) (hf.1 h R e)

/-- A padded query is its real number. -/
theorem widened_query (A : FVec Ideal S8x32768x192 .f32) (C : FVec Ideal S8x2048x192 .f32) (hf : RealHeads A C) (h : Fin 8)
    (R : Fin 32768) (e : Fin 256) : widened A h R e = ((query A h R e : ℝ) : EReal) := by
  unfold widened
  split
  · rename_i he
    exact query_eq A C hf h R ⟨e.val, he⟩
  · rename_i he
    unfold query
    rw [dif_neg he]
    rfl

/-- A padded key of the context is its real number. -/
theorem widened_ctx (A : FVec Ideal S8x32768x192 .f32) (C : FVec Ideal S8x2048x192 .f32) (hf : RealHeads A C) (g : Fin 4) (b : Fin 8)
    (j : Fin 4352) (hj : j.val < 256) (h : Fin 8) (hh : h.val = 4 + g.val) (R : Fin 2048) (hR : R.val = 256 * b.val + j.val) (e : Fin 256) :
    widened C h R e = ((key A C g b j e : ℝ) : EReal) := by
  unfold widened
  split
  · rename_i he
    rw [← key_eq A C hf g b j ⟨e.val, he⟩]
    refine Eq.trans ?_ (Cert.MlaRefIdeal.Mine.keys_apply C A g b j ⟨e.val, he⟩ h hh).symm
    rw [dif_pos hj]
    have e1 : R = ⟨256 * b.val + j.val, by omega⟩ := Fin.ext hR
    rw [e1]
  · rename_i he
    unfold key
    rw [dif_neg he]
    rfl

/-- A padded latent key is its real number. -/
theorem widened_lat (A : FVec Ideal S8x32768x192 .f32) (C : FVec Ideal S8x2048x192 .f32) (hf : RealHeads A C) (g : Fin 4) (b : Fin 8)
    (j : Fin 4352) (hj : ¬j.val < 256) (h : Fin 8) (hh : h.val = 4 + g.val) (R : Fin 32768) (hR : R.val = 4096 * b.val + (j.val - 256))
    (e : Fin 256) : widened A h R e = ((key A C g b j e : ℝ) : EReal) := by
  unfold widened
  split
  · rename_i he
    rw [← key_eq A C hf g b j ⟨e.val, he⟩]
    refine Eq.trans ?_ (Cert.MlaRefIdeal.Mine.keys_apply C A g b j ⟨e.val, he⟩ h hh).symm
    rw [dif_neg hj]
    have e1 : R = ⟨4096 * b.val + (j.val - 256), by omega⟩ := Fin.ext hR
    rw [e1]
  · rename_i he
    unfold key
    rw [dif_neg he]
    rfl

/-- The padding adds nothing to a product. -/
theorem sum_padded (f : Fin 256 → ℝ) (hf : ∀ e : Fin 256, ¬e.val < 192 → f e = 0) : ∑ e : Fin 256, f e = ∑ e : Fin 192, f ⟨e.val, by omega⟩ := by
  refine (Fin.sum_univ_add (a := 192) (b := 64) f).trans ?_
  have : ∑ i : Fin 64, f (Fin.natAdd 192 i) = 0 := Finset.sum_eq_zero fun i _ => hf _ (by show ¬ 192 + i.val < 192; omega)
  rw [this, add_zero]
  rfl

/-- A score is a real number. -/
theorem score_eq (A : FVec Ideal S8x32768x192 .f32) (C : FVec Ideal S8x2048x192 .f32) (hf : RealHeads A C) (g : Fin 4) (b : Fin 8)
    (n : Fin 4096) (j : Fin 4352) (h : Fin 8) (hh : h.val = g.val) (R : Fin 32768) (hR : R.val = 4096 * b.val + n.val) :
    (show EReal from scores (keys C A) A (ix4 g b n j))
      = (((∑ e, key A C g b j e * query A h R e) * scale : ℝ) : EReal) := by
  rw [Cert.MlaRefIdeal.Mine.scores_apply _ A g b n j h hh R hR, scale_eq, EReal.coe_mul,
    sum_padded _ (fun e he => by unfold key; rw [dif_neg he, zero_mul]), ← Online.coe_sum]
  congr 1
  refine Fin.sum_fin_congr fun e => ?_
  rw [EReal.coe_mul, ← query_eq A C hf h R e, mul_comm]
  exact congrArg (· * _) (key_eq A C hf g b j e)

theorem drop_eq (g : Fin 4) (b : Fin 8) (n : Fin 4096) (j : Fin 4352) :
    (Cert.MlaRefIdeal.Gen.reducesTo_S4x8x4096x4352_S4x8x4096_d3).drop (ix4 g b n j) = ix3 g b n := by
  funext x
  match x with
  | ⟨0, _⟩ => rfl
  | ⟨1, _⟩ => rfl
  | ⟨2, _⟩ => rfl

/-- The largest score of a query is a real number. -/
theorem top_eq (A : FVec Ideal S8x32768x192 .f32) (C : FVec Ideal S8x2048x192 .f32) (hf : RealHeads A C) (g : Fin 4) (b : Fin 8) (n : Fin 4096) :
    ∃ y : ℝ, (show EReal from tops (scores (keys C A) A) (ix3 g b n)) = y := by
  refine Cert.MlaRefIdeal.Mine.tops_real _ _ (fun i => ?_) (ix4 g b n 0) (drop_eq g b n 0)
  obtain ⟨g', b', n', j', rfl⟩ : ∃ (g' : Fin 4) (b' : Fin 8) (n' : Fin 4096) (j' : Fin 4352), i = ix4 g' b' n' j' :=
    ⟨i 0, i 1, i 2, i 3, by idx_vars i⟩
  exact ⟨_, score_eq A C hf g' b' n' j' ⟨g'.val, by omega⟩ rfl ⟨4096 * b'.val + n'.val, by omega⟩ rfl⟩

/-- An entry of the reference's result over real scores, for some real number. -/
theorem attention_apply (A : FVec Ideal S8x32768x192 .f32) (C : FVec Ideal S8x2048x192 .f32) (V : FVec Ideal S10x32768x128 .f32)
    (W : FVec Ideal S10x2048x128 .f32) (hf : RealHeads A C) (g : Fin 4) (b : Fin 8) (n : Fin 4096) (d : Fin 128) (h : Fin 8)
    (hh : h.val = g.val) (R : Fin 32768) (hR : R.val = 4096 * b.val + n.val) (q : Fin 512)
    (hq : q.val = 128 * g.val + d.val) :
    ∃ M : ℝ, (show EReal from attention A C V W (ix2 R q))
      = ∑ k : Fin 4352, Ideal.div (Ideal.exp ((((∑ e, key A C g b k e * query A h R e) * scale : ℝ) : EReal) - (M : EReal)))
          (∑ j : Fin 4352, Ideal.exp ((((∑ e, key A C g b j e * query A h R e) * scale : ℝ) : EReal) - (M : EReal)))
          * (show EReal from vals W V (ix4 g b k d)) := by
  obtain ⟨M, hM⟩ := top_eq A C hf g b n
  refine ⟨M, ?_⟩
  unfold attention
  rw [Cert.MlaRefIdeal.Mine.mix_apply _ _ b n g d R q hR hq]
  have hw : ∀ j : Fin 4352, (show EReal from expd (scores (keys C A) A) (ix4 g b n j))
      = Ideal.exp ((((∑ e, key A C g b j e * query A h R e) * scale : ℝ) : EReal) - (M : EReal)) := by
    intro j
    unfold expd
    refine (Cert.MlaRefIdeal.Mine.weights_apply _ _ g b n j).trans (congrArg Ideal.exp ?_)
    exact congr (congrArg (fun x y : EReal => x - y) (score_eq A C hf g b n j h hh R hR)) hM
  refine Finset.sum_congr rfl fun k _ => ?_
  refine (mul_comm _ _).trans (congrArg (fun x : EReal => x * (show EReal from vals W V (ix4 g b k d))) ?_)
  refine (Cert.MlaRefIdeal.Mine.probs_apply _ g b n k).trans ?_
  exact congr (congrArg Ideal.div (hw k)) (Finset.sum_congr rfl fun j _ => hw j)

/-- The array the kernel leaves. -/
theorem final (c : Dev nD) (hf : RealHeads (m ((c.tc : Thread nD τ).loc main_arg0)) (m ((c.tc : Thread nD τ).loc main_arg1))) :
    (dats m 0 c).arrAt 5 (cfgs 0).N
    = attention (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 5 _ (by decide +kernel) fun t hfl y => ?_
  have ht : t.val < 64 := lt_of_lt_of_eq t.isLt N_0
  blk_simp
  rw [after0_5]
  obtain ⟨r, d, rfl⟩ : ∃ (r : Fin 2048) (d : Fin 128), y = ix2 r d := ⟨y 0, y 1, by idx_vars y⟩
  obtain ⟨R, Q, hj⟩ : ∃ (R : Fin 32768) (Q : Fin 512), (win0_5.blk t).view.emb (ix2 r d) = ix2 R Q := by
    generalize (win0_5.blk t).view.emb (ix2 r d) = j
    exact ⟨j 0, j 1, by idx_vars j⟩
  have hR : R.val = 2048 * (t.val / 8 * 2 + t.val % 2) + r.val := by
    have : ((win0_5.blk t).view.emb (ix2 r d) 0).val = R.val := by rw [hj]; rfl
    blk_simp [idx t] at this
    omega
  have hQ : Q.val = 128 * (t.val / 2 % 4) + d.val := by
    have : ((win0_5.blk t).view.emb (ix2 r d) 1).val = Q.val := by rw [hj]; rfl
    blk_simp [idx t] at this
    omega
  rw [hj]
  obtain ⟨g, hg⟩ : ∃ g : Fin 4, g.val = t.val / 2 % 4 := ⟨⟨t.val / 2 % 4, by omega⟩, rfl⟩
  obtain ⟨b, hb⟩ : ∃ b : Fin 8, b.val = t.val / 8 := ⟨⟨t.val / 8, by omega⟩, rfl⟩
  obtain ⟨n, hn⟩ : ∃ n : Fin 4096, n.val = 2048 * (t.val % 2) + r.val := ⟨⟨2048 * (t.val % 2) + r.val, by omega⟩, rfl⟩
  obtain ⟨h, hh⟩ : ∃ h : Fin 8, h.val = g.val := ⟨⟨g.val, by omega⟩, rfl⟩
  obtain ⟨M, hM⟩ := attention_apply _ _ (m ((c.tc : Thread nD τ).loc main_arg2)) (m ((c.tc : Thread nD τ).loc main_arg3)) hf g b n d h hh R
    (by omega) Q (by omega)
  refine Eq.trans ?_ hM.symm
  refine (out_A m c t r d).trans ?_
  refine entry_eq _ _ _ _ _ r d (query (m ((c.tc : Thread nD τ).loc main_arg0)) h R)
    (fun k e => key (m ((c.tc : Thread nD τ).loc main_arg0)) (m ((c.tc : Thread nD τ).loc main_arg1)) g b k e)
    (fun k => vals (m ((c.tc : Thread nD τ).loc main_arg3)) (m ((c.tc : Thread nD τ).loc main_arg2)) (ix4 g b k d)) M
    ?_ ?_ ?_ ?_ ?_ ?_ ?_
  · intro e
    exact (block0 m c t r e h (by omega) R (by omega)).trans (congrArg (· * rate) (widened_query _ _ hf h R e))
  · intro k e
    refine (block1 m c t k e ⟨4 + g.val, by omega⟩ (by show 4 + g.val = _; omega) ⟨256 * b.val + k.val, by omega⟩ (by show 256 * b.val + k.val = _; omega)).trans ?_
    exact widened_ctx _ _ hf g b _ (by show k.val < 256; omega) _ rfl _ rfl e
  · intro k e
    refine (block3 m c t k e ⟨4 + g.val, by omega⟩ (by show 4 + g.val = _; omega) ⟨4096 * b.val + k.val, by omega⟩ (by show 4096 * b.val + k.val = _; omega)).trans ?_
    exact widened_lat _ _ hf g b _ (by show ¬ 256 + k.val < 256; omega) _ rfl _ (by show 4096 * b.val + k.val = 4096 * b.val + (256 + k.val - 256); omega) e
  · intro k
    refine (block2 m c t k ⟨d.val, by omega⟩ ⟨6 + g.val, by omega⟩ (by show 6 + g.val = _; omega) ⟨256 * b.val + k.val, by omega⟩ (by show 256 * b.val + k.val = _; omega)).trans ?_
    refine Eq.trans ?_ (Cert.MlaRefIdeal.Mine.vals_apply _ _ g b _ d ⟨6 + g.val, by omega⟩ rfl).symm
    rw [dif_pos (by show d.val < 128; omega), dif_pos (by show k.val < 256; omega)]
  · intro k
    refine (block2 m c t k 128 ⟨6 + g.val, by omega⟩ (by show 6 + g.val = _; omega) ⟨256 * b.val + k.val, by omega⟩ (by show 256 * b.val + k.val = _; omega)).trans ?_
    exact dif_neg (by decide)
  · intro n' k
    refine (block4 m c t n' k ⟨d.val, by omega⟩ ⟨6 + g.val, by omega⟩ (by show 6 + g.val = _; omega) ⟨4096 * b.val + (512 * n'.val + k.val), by omega⟩ (by show 4096 * b.val + (512 * n'.val + k.val) = _; omega)).trans ?_
    refine Eq.trans ?_ (Cert.MlaRefIdeal.Mine.vals_apply _ _ g b _ d ⟨6 + g.val, by omega⟩ rfl).symm
    rw [dif_pos (by show d.val < 128; omega), dif_neg (by show ¬ 256 + (n'.val * 512 + k.val) < 256; omega)]
    have e1 : (⟨4096 * b.val + (512 * n'.val + k.val), by omega⟩ : Fin 32768) = ⟨4096 * b.val + (256 + (n'.val * 512 + k.val) - 256), by omega⟩ :=
      Fin.ext (by show 4096 * b.val + (512 * n'.val + k.val) = 4096 * b.val + (256 + (n'.val * 512 + k.val) - 256); omega)
    rw [e1]
  · intro n' k
    refine (block4 m c t n' k 128 ⟨6 + g.val, by omega⟩ (by show 6 + g.val = _; omega) ⟨4096 * b.val + (512 * n'.val + k.val), by omega⟩ (by show 4096 * b.val + (512 * n'.val + k.val) = _; omega)).trans ?_
    exact dif_neg (by decide)

end Cert.MlaIdeal.Mine

end
-- ==== Proof.MlaClaims.lean ====
/- The latent attention's claims. -/
module

public import proofs.«01_k».proof.Proof.MlaValue
public import proofs.«01_k».proof.Defs
public import proofs.«01_k».proof.Proof.Gen.Mla.Frame
public import proofs.«01_k».proof.Proof.Gen.MlaIdeal.Frame
public import proofs.«01_k».proof.Proof.Gen.Pre_finite_mla
public import Idealize.ShloMosaic.Lib.ReduceAll

@[expose] public section

set_option maxRecDepth 16384

noncomputable section

namespace Cert.Proof

open Idealize.ShloMosaic Idealize.SL.Sem

/-- The predicate says the queries and keys are real numbers. -/
theorem real_mla (A : FVec Ideal Cert.Pre_finite_mla.S8x32768x192 .f32) (C : FVec Ideal Cert.Pre_finite_mla.S8x2048x192 .f32)
    (V : FVec Ideal Cert.Pre_finite_mla.S10x32768x128 .f32) (W : FVec Ideal Cert.Pre_finite_mla.S10x2048x128 .f32)
    (h : Cert.Pre_finite_mla.fn (F := Ideal) A C V W = fun _ => 1#1) : Cert.MlaIdeal.Mine.RealHeads A C := by
  have e := congrFun h (Shape.Idx.first Cert.Pre_finite_mla.Gen.h_S_)
  unfold Cert.Pre_finite_mla.fn at e
  dsimp only at e
  obtain ⟨e1, e2⟩ := IntOp.andi_eq_one.1 e
  have : Subsingleton Cert.Pre_finite_mla.S_.Idx := ⟨fun a b => funext fun x => x.elim0⟩
  refine ⟨fun s R d => ?_, fun s R d h4 => ?_⟩
  · exact Attention.real_of_lt _ (Host.reduce_andi_all _ _ _ _ _ e1 (ix3 s R d))
  · have := Host.reduce_andi_all _ _ _ _ _ e2 (ix3 ⟨s.val - 4, by omega⟩ R d)
    obtain ⟨y, hy⟩ := Attention.real_of_lt _ this
    refine ⟨y, Eq.trans ?_ hy⟩
    pointwise
    blk_ext

/-- The reference runs, leaves its arguments as they were and every semaphore at zero. -/
theorem mla_ref_frame : Cert.quiescent_MlaRefIdeal (hMlaRefIdeal := Cert.MlaRefIdeal.Gen.facts) := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The attention's result is the reference's where the queries and keys are finite. -/
theorem mla_algebraic : Cert.algebraic_MlaIdeal_MlaRefIdeal_pre_finite_mla (hMlaIdeal := Cert.MlaIdeal.Gen.facts)
    (hMlaRefIdeal := Cert.MlaRefIdeal.Gen.facts) (hPre_finite_mla := Cert.Pre_finite_mla.Gen.facts) := by
  pair_intro
  · run_from Cert.MlaIdeal.Value.run_blocks m g
  · run_from Cert.MlaRefIdeal.Value.run m' g'
    refine (Cert.MlaRefIdeal.Mine.res_eq m' c).trans ?_
    obtain ⟨h0, h1, h2, h3⟩ := hagree c
    rw [h0, h1, h2, h3]
    exact (Cert.MlaIdeal.Mine.final m c (real_mla _ _ _ _ (hpre c))).symm

end Cert.Proof

end
-- ==== Proof.DiffForms.lean ====
/- The differential attention: the forms of its factor and its norm, and the difference of two means. -/
module

public import proofs.«01_k».proof.Proof.AttentionReals

@[expose] public section

set_option maxRecDepth 16384

noncomputable section

namespace Cert.Differential

open Idealize.ShloMosaic Idealize.ShloMosaic.TcCoe

/-- The factor on the second attention, of four vectors of 64. -/
def factor (a b c d : Fin 64 → EReal) : EReal :=
  Ideal.exp (∑ e, a e * b e) - Ideal.exp (∑ e, c e * d e) + Ideal.ofBits .f32 0x3EB60549#32

/-- The norm of a row of 128, times the gain and one constant. -/
def normed (z g : Fin 128 → EReal) (d : Fin 128) : EReal :=
  z d * Ideal.rsqrt (Ideal.div (∑ e, z e * z e) (Ideal.ofBits .f32 0x43000000#32) + Ideal.ofBits .f32 0x358637BD#32) * g d
    * Ideal.ofBits .f32 0x3F24FD5C#32

/-- Real vectors have a real product. -/
theorem product_real (a b : Fin 64 → EReal) (ha : ∀ e, ∃ y : ℝ, a e = y) (hb : ∀ e, ∃ y : ℝ, b e = y) :
    ∃ y : ℝ, ∑ e, a e * b e = y := by
  choose u hu using ha
  choose v hv using hb
  refine ⟨∑ e, u e * v e, ?_⟩
  rw [← Online.coe_sum]
  exact Finset.sum_congr rfl fun e _ => by rw [hu, hv, EReal.coe_mul]

theorem start_eq : Ideal.ofBits .f32 0x3EB60549#32 = ((11928905 / 33554432 : ℝ) : EReal) := by
  simp [Ideal.ofBits, Ideal.ieee]
  rw [← EReal.coe_mul]
  norm_num

/-- The factor of real vectors is a real number. -/
theorem factor_real (a b c d : Fin 64 → EReal) (ha : ∀ e, ∃ y : ℝ, a e = y) (hb : ∀ e, ∃ y : ℝ, b e = y)
    (hc : ∀ e, ∃ y : ℝ, c e = y) (hd : ∀ e, ∃ y : ℝ, d e = y) : ∃ y : ℝ, factor a b c d = y := by
  obtain ⟨u, hu⟩ := product_real a b ha hb
  obtain ⟨v, hv⟩ := product_real c d hc hd
  refine ⟨Real.exp u - Real.exp v + 11928905 / 33554432, ?_⟩
  unfold factor
  rw [hu, hv, start_eq, Ideal.exp_coe, Ideal.exp_coe, EReal.coe_add, EReal.coe_sub]

/-- The softmax of real scores at `k`, a real number taken off every one. -/
def share {N : ℕ} (x : Fin N → ℝ) (M : ℝ) (k : Fin N) : EReal :=
  Ideal.div (Ideal.exp (((x k : ℝ) : EReal) - (M : EReal))) (∑ j, Ideal.exp (((x j : ℝ) : EReal) - (M : EReal)))

/-- The softmax of real scores is real. -/
theorem share_real {N : ℕ} (x : Fin N → ℝ) (M : ℝ) (k : Fin N) : ∃ y : ℝ, share x M k = y := by
  have h : (∑ j, Ideal.exp (((x j : ℝ) : EReal) - (M : EReal))) = ((∑ j, Real.exp (x j - M) : ℝ) : EReal) := by
    rw [← Online.coe_sum]
    exact Finset.sum_congr rfl fun j _ => by rw [← EReal.coe_sub, Ideal.exp_coe]
  have hp : 0 < ∑ j, Real.exp (x j - M) := Finset.sum_pos (fun j _ => Real.exp_pos _) ⟨k, Finset.mem_univ k⟩
  unfold share
  refine ⟨Real.exp (x k - M) * (1 / ∑ j, Real.exp (x j - M)), ?_⟩
  rw [h, Ideal.div_coe hp.ne', ← EReal.coe_sub, Ideal.exp_coe, EReal.coe_mul]

/-- A difference of two real means is the mean under the difference of the weights. -/
theorem mean_sub {N : ℕ} (p q w : Fin N → EReal) (l : EReal) (hp : ∀ k, ∃ y : ℝ, p k = y) (hq : ∀ k, ∃ y : ℝ, q k = y)
    (hw : ∀ k, ∃ y : ℝ, w k = y) (hl : ∃ y : ℝ, l = y) :
    (∑ k, p k * w k) - l * (∑ k, q k * w k) = ∑ k, w k * (p k - l * q k) := by
  choose P hP using hp
  choose Q hQ using hq
  choose W hW using hw
  obtain ⟨L, rfl⟩ := hl
  simp only [hP, hQ, hW, ← EReal.coe_mul, ← EReal.coe_sub, Online.coe_sum]
  congr 1
  rw [Finset.mul_sum, ← Finset.sum_sub_distrib]
  exact Finset.sum_congr rfl fun k _ => by ring

/-- Half of the columns of a product of 128: the first where `a` is 0, else the second. -/
theorem sum_half (a : Fin 2) (K q : Fin 128 → ℝ) :
    ∑ e : Fin 128, K e * (if (a.val = 0 ↔ e.val < 64) then q e else 0)
      = ∑ e : Fin 64, q ⟨64 * a.val + e.val, by omega⟩ * K ⟨64 * a.val + e.val, by omega⟩ := by
  refine (Fin.sum_univ_add (a := 64) (b := 64) (fun e : Fin 128 => K e * (if (a.val = 0 ↔ e.val < 64) then q e else 0))).trans ?_
  obtain h | h : a.val = 0 ∨ a.val = 1 := by omega
  · rw [Finset.sum_congr rfl fun e _ => (show _ = q ⟨64 * a.val + e.val, by omega⟩ * K ⟨64 * a.val + e.val, by omega⟩ from ?_)]
    · rw [Finset.sum_eq_zero (s := Finset.univ) (f := fun e : Fin 64 => K (Fin.natAdd 64 e) * _) fun e _ => ?_, add_zero]
      rw [if_neg (by simp [h]), mul_zero]
    · have ee : (⟨64 * a.val + e.val, by omega⟩ : Fin 128) = Fin.castAdd 64 e := Fin.ext (by simp [h])
      rw [ee, if_pos (by simp [h]), mul_comm]
  · rw [Finset.sum_eq_zero (s := Finset.univ) (f := fun e : Fin 64 => K (Fin.castAdd 64 e) * _) fun e _ => ?_, zero_add]
    · refine Finset.sum_congr rfl fun e _ => ?_
      have ee : (⟨64 * a.val + e.val, by omega⟩ : Fin 128) = Fin.natAdd 64 e := Fin.ext (by simp [h]; omega)
      rw [ee, if_pos (by simp [h]), mul_comm]
    · rw [if_neg (by simp [h]), mul_zero]

end Cert.Differential

end
-- ==== Proof.DiffBlock.lean ====
/- The differential attention: what a grid point leaves in its block, entry by entry. -/
module

public import proofs.«01_k».proof.Proof.Gen.DiffIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.AttentionReals
public import proofs.«01_k».proof.Proof.AttentionRows
public import proofs.«01_k».proof.Proof.DiffForms
public import proofs.«01_k».proof.Proof.GqaBlock

@[expose] public section

set_option maxRecDepth 16384

noncomputable section

namespace Cert.DiffIdeal.Mine

open Cert.DiffIdeal Cert.DiffIdeal.Gen Idealize.ShloMosaic Idealize.ShloMosaic.TcCoe Idealize.SL.Sem
open Idealize.ShloMosaic.Pipeline (Dat)
open Cert.GqaIdeal.Mine (entry scoreCtx scoreLat valLat)
open Cert.Differential (factor normed)

variable (m : (ℓ : Loc nD τ sig) → Buf (Elt Ideal) ℓ) (ρ : Dev nD → PrngReg)

/-- The first attention less the second, times `l`. -/
def gap (x0 : Vec Ideal S2x1024x128 .bf16) (x1 : Vec Ideal S1x256x128 .bf16) (x2 : Vec Ideal S1x1x144x256 .bf16)
    (x3 : Vec Ideal S1x4096x128 .bf16) (x4 : Vec Ideal S1x8x144x512 .bf16) (l : EReal) (r : Fin 1024) (d : Fin 128) : EReal :=
  entry x0 x1 x2 x3 x4 0 r d - l * entry x0 x1 x2 x3 x4 1 r d

/-- A tile's result of the two attentions, queries along the second axis: their difference, normed. -/
def epilogue (l : FVec Ideal S1x1 .f32) (p q : FVec Ideal S128x256 .f32) (g : FVec Ideal S1x128 .f32) : FVec Ideal S256x128 .bf16 :=
  have z : FVec Ideal S256x128 .f32 := transpose S256x128 [1, 0] (subf p (mulf (broadcastTo S128x256 l broadcasts_S1x1_S128x256) q)) transposes_S128x256_p1_0_S256x128
  truncf .bf16 (mulf (mulf (mulf z (broadcastTo S256x128 (rsqrt (addf (divf (shapeCast S256x1
      (multiReduction .add [1] S256 (mulf z z) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)) (broadcast S256x128 (Scalar.ofBits .f32 0x3F24FD5C#32))) bitsLt_bf16_f32

/-- One attention of its sums and its weights' sum. -/
def quotient (p : FVec Ideal S128x256 .f32) (w : FVec Ideal S1x256 .f32) : FVec Ideal S128x256 .f32 :=
  divf p (broadcastTo S128x256 w broadcasts_S1x256_S128x256)

/-- The first tile's payload. -/
theorem tile0 (l p w q v g) : k0_pay442 (F := Ideal) l p w q v g
    = epilogue l (quotient p (shapeCast S1x256 w shapeCasts_S1x1x256_S1x256))
        (quotient (shapeCast S128x256 q shapeCasts_S1x128x256_S128x256) (shapeCast S1x256 v shapeCasts_S1x1x256_S1x256)) g := rfl

/-- The second tile's payload. -/
theorem tile1 (l p w q v g) : k0_pay445 (F := Ideal) l p w q v g
    = epilogue l (quotient p w)
        (quotient (shapeCast S128x256 q shapeCasts_S1x128x256_S128x256) (shapeCast S1x256 v shapeCasts_S1x1x256_S1x256)) g := rfl

/-- The third tile's payload. -/
theorem tile2 (l p q v g) : k0_pay447 (F := Ideal) l p q v g
    = epilogue l p (quotient (shapeCast S128x256 q shapeCasts_S1x128x256_S128x256) (shapeCast S1x256 v shapeCasts_S1x1x256_S1x256)) g := rfl

/-- The last tile's payload. -/
theorem tile3 (l p q v g) : k0_pay1 (F := Ideal) l p q v g
    = epilogue l p (quotient q (shapeCast S1x256 v shapeCasts_S1x1x256_S1x256)) g := rfl

theorem epilogue_apply (l : FVec Ideal S1x1 .f32) (p q : FVec Ideal S128x256 .f32) (g : FVec Ideal S1x128 .f32) (x : S256x128.Idx) :
    (show EReal from epilogue l p q g x) = normed (fun e => (show EReal from p (ix2 e (x 0))) - (show EReal from l (ix2 0 0)) * (show EReal from q (ix2 e (x 0))))
      (fun e => g (ix2 0 e)) (x 1) := by
  pointwise [epilogue, normed]

theorem factor_apply (a b c d : Vec Ideal S1x64 .f32) : (show EReal from k0_pay440 (F := Ideal) a b c d (ix2 0 0))
    = factor (fun e => a (ix2 0 e)) (fun e => b (ix2 0 e)) (fun e => c (ix2 0 e)) (fun e => d (ix2 0 e)) := by
  pointwise [k0_pay440, factor]
  simp only [Fin.sum_univ_one]

set_option maxHeartbeats 8000000 in
/-- What a grid point leaves in its block. -/
theorem out_A (c : Dev nD) (t : Fin cfg0.N) (r : Fin 1024) (d : Fin 128) :
    outsAt0 m c t (ix2 r d) = normed (gap (iblk m c 0 t) (iblk m c 1 t) (iblk m c 2 t) (iblk m c 3 t) (iblk m c 4 t)
      (factor (fun e => iblk m c 5 t (ix2 0 e)) (fun e => iblk m c 6 t (ix2 0 e)) (fun e => iblk m c 7 t (ix2 0 e)) (fun e => iblk m c 8 t (ix2 0 e))) r)
      (fun e => iblk m c 9 t (ix2 0 e)) d := by
  unfold outsAt0
  frame_open
  simp (disch := decide) only [↓ View.readCov_skip, ↓ View.readCov_cons_toLoadRect, ↓ View.readCov_fill, ↓ Attention.readCov_rows]
  frame_out
  canon_tiles x h
  all_goals
    have er : r = (⟨_, h0 ▸ r.isLt⟩ : Fin 1024) := Fin.ext h0
    have ed : d = x 1 := Fin.ext h1
    first | rw [tile0] | rw [tile1] | rw [tile2] | rw [tile3]
    refine (epilogue_apply _ _ _ _ x).trans (congr (congr (congrArg normed (funext fun e => ?_)) rfl) ed.symm)
    rw [factor_apply]
    refine congr (congrArg (fun u v : EReal => u - v) ?_) (congrArg (fun v : EReal => factor _ _ _ _ * v) ?_)
    all_goals
      rw [er]
      try unfold quotient
      open_payloads
      pointwise [entry, Online.runSum, Online.runMax, Online.top, scoreCtx, scoreLat, valLat, Attention.negInf]
      rfl

end Cert.DiffIdeal.Mine

end
-- ==== Proof.DiffPrep.lean ====
/- The differential attention: what the blocks hold, over the argument arrays. -/
module

public import proofs.«01_k».proof.Proof.Gen.DiffIdeal.Value
public import Idealize.ShloMosaic.Lib.Pipeline.ValueKit
public import Idealize.ShloMosaic.Lib.Pointwise
public import Idealize.ShloMosaic.Lib.Claim
public import proofs.«01_k».proof.Proof.GqaPrep

@[expose] public section

set_option maxRecDepth 16384

noncomputable section

namespace Cert.DiffIdeal.Mine

open Cert.DiffIdeal Cert.DiffIdeal.Gen Idealize.ShloMosaic Idealize.ShloMosaic.TcCoe Idealize.SL.Sem
open Idealize.ShloMosaic.Pipeline (Dat)
open Cert.GqaIdeal.Mine (vlat vctx vlat_apply vctx_apply)

variable (m : (ℓ : Loc nD τ sig) → Buf (Elt Ideal) ℓ) (ρ : Dev nD → PrngReg)

/-- Which block of its array each of the attention's windows holds at a grid point. -/
theorem idx : ∀ t : Fin cfg0.N, win0_0.index t = ![3 + t.val / 4 % 4, t.val / 16 * 4 + t.val % 4, 0] ∧ win0_1.index t = ![14 + t.val / 4 % 4, t.val / 16, 0]
    ∧ win0_2.index t = ![2 + t.val / 4 % 4, t.val / 16, 0, 0] ∧ win0_3.index t = ![14 + t.val / 4 % 4, t.val / 16, 0]
    ∧ win0_4.index t = ![2 + t.val / 4 % 4, t.val / 16, 0, 0] ∧ win0_10.index t = ![t.val / 16 * 4 + t.val % 4, t.val / 4 % 4] :=
  (by decide +kernel : ∀ t : Fin grid0.N, _)

/-- The windows on the vectors hold all of them. -/
theorem idx_vec : ∀ t : Fin cfg0.N, win0_5.index t = ![0, 0] ∧ win0_6.index t = ![0, 0] ∧ win0_7.index t = ![0, 0] ∧ win0_8.index t = ![0, 0]
    ∧ win0_9.index t = ![0, 0] :=
  (by decide +kernel : ∀ t : Fin grid0.N, _)

/-- The scale over the natural logarithm of two. -/
def rate : EReal := Ideal.div (Ideal.ofBits .f32 0x3E000000#32) (Ideal.log (Ideal.ofBits .f32 0x40000000#32))

/-- The query slots scaled, two to a head. -/
def spread (A : FVec Ideal S26x32768x128 .f32) : FVec Ideal S4x2x32768x128 .f32 :=
  shapeCast S4x2x32768x128 (mulf (extractStridedSlice S8x32768x128 ![6, 0, 0] A slices_S26x32768x128_S8x32768x128_6_0_0)
    (broadcastInDim S8x32768x128 ![] bcast_S_S8x32768x128 (Host.divf (constant S_ .f32 0x3E000000#32) (Host.log (constant S_ .f32 0x40000000#32)))))
    shapeCasts_S8x32768x128_S4x2x32768x128

/-- The first of the two keeps its first half, the second its second. -/
def masked (Z : FVec Ideal S4x2x32768x128 .f32) : FVec Ideal S4x2x32768x128 .f32 :=
  concatenate S4x2x32768x128 1 [
    ⟨S4x1x32768x128, concatenate S4x1x32768x128 3 [⟨S4x1x32768x64, extractStridedSlice S4x1x32768x64 ![0, 0, 0, 0] Z slices_S4x2x32768x128_S4x1x32768x64_0_0_0_0⟩,
      ⟨S4x1x32768x64, broadcastInDim S4x1x32768x64 ![] bcast_S_S4x1x32768x64 (constant S_ .f32 0x00000000#32)⟩] concatenates_S4x1x32768x64_S4x1x32768x64_S4x1x32768x128_d3⟩,
    ⟨S4x1x32768x128, concatenate S4x1x32768x128 3 [⟨S4x1x32768x64, broadcastInDim S4x1x32768x64 ![] bcast_S_S4x1x32768x64 (constant S_ .f32 0x00000000#32)⟩,
      ⟨S4x1x32768x64, extractStridedSlice S4x1x32768x64 ![0, 1, 0, 64] Z slices_S4x2x32768x128_S4x1x32768x64_0_1_0_64⟩] concatenates_S4x1x32768x64_S4x1x32768x64_S4x1x32768x128_d3⟩]
    concatenates_S4x1x32768x128_S4x1x32768x128_S4x2x32768x128_d1

/-- The latent queries and keys as the kernel takes them. -/
def lat (A : FVec Ideal S26x32768x128 .f32) : FVec Ideal S26x32768x128 .bf16 :=
  truncf .bf16 (concatenate S26x32768x128 0 [⟨S14x32768x128, concatenate S14x32768x128 0 [
      ⟨S6x32768x128, extractStridedSlice S6x32768x128 ![0, 0, 0] A slices_S26x32768x128_S6x32768x128_0_0_0⟩,
      ⟨S8x32768x128, shapeCast S8x32768x128 (masked (spread A)) shapeCasts_S4x2x32768x128_S8x32768x128⟩]
      concatenates_S6x32768x128_S8x32768x128_S14x32768x128_d0⟩,
    ⟨S12x32768x128, extractStridedSlice S12x32768x128 ![14, 0, 0] A slices_S26x32768x128_S12x32768x128_14_0_0⟩]
    concatenates_S14x32768x128_S12x32768x128_S26x32768x128_d0) bitsLt_bf16_f32

/-- The context's queries and keys. -/
def ctx (A : FVec Ideal S26x2048x128 .f32) : FVec Ideal S26x2048x128 .bf16 := truncf .bf16 A bitsLt_bf16_f32

theorem spread_apply (A : FVec Ideal S26x32768x128 .f32) (g : Fin 4) (a : Fin 2) (R : Fin 32768) (e : Fin 128) (h : Fin 26)
    (hh : h.val = 6 + 2 * g.val + a.val) :
    (show EReal from spread A (ix4 g a R e)) = (show EReal from A (ix3 h R e)) * rate := by
  pointwise [spread, rate]
  have e1 : (⟨6 + (g.val * 2 + a.val), by omega⟩ : Fin 26) = h := Fin.ext (by show 6 + (g.val * 2 + a.val) = h.val; omega)
  rw [e1]

theorem masked_apply (Z : FVec Ideal S4x2x32768x128 .f32) (g : Fin 4) (a : Fin 2) (R : Fin 32768) (e : Fin 128) :
    (show EReal from masked Z (ix4 g a R e)) = if (a.val = 0 ↔ e.val < 64) then (show EReal from Z (ix4 g a R e)) else 0 := by
  pointwise [masked]
  split
  · rename_i ha
    split
    · rename_i he
      rw [if_pos ⟨fun _ => he, fun _ => by omega⟩]
    · rename_i he
      rw [if_neg fun i => he (i.1 (by omega))]
  · rename_i ha
    split
    · rename_i he
      rw [if_neg fun i => ha (by have := i.2 he; omega)]
    · rename_i he
      refine Eq.trans ?_ (if_pos ⟨fun i => absurd i (by omega), fun i => absurd i he⟩).symm
      blk_ext

theorem lat_query (A : FVec Ideal S26x32768x128 .f32) (h : Fin 26) (g : Fin 4) (a : Fin 2) (hh : h.val = 6 + 2 * g.val + a.val) (R : Fin 32768) (e : Fin 128) :
    (show EReal from lat A (ix3 h R e)) = (if (a.val = 0 ↔ e.val < 64) then (show EReal from A (ix3 h R e)) else 0) * rate := by
  have hm : (show EReal from lat A (ix3 h R e)) = masked (spread A) (ix4 g a R e) := by
    pointwise [lat]
    rw [dif_pos (by omega), dif_neg (by omega)]
    blk_ext
  rw [hm]
  refine (masked_apply _ g a R e).trans ?_
  split
  · exact spread_apply A g a R e h hh
  · rw [zero_mul]

theorem lat_key (A : FVec Ideal S26x32768x128 .f32) (h : Fin 26) (hh : 14 ≤ h.val) (R : Fin 32768) (e : Fin 128) :
    (show EReal from lat A (ix3 h R e)) = (show EReal from A (ix3 h R e)) := by
  pointwise [lat]
  rw [dif_neg (by omega)]
  blk_ext

set_option maxHeartbeats 4000000 in
set_option maxRecDepth 65536 in
theorem block0 (c : Dev nD) (t : Fin cfg0.N) (a : Fin 2) (r : Fin 1024) (e : Fin 128) (h : Fin 26) (hh : h.val = 6 + 2 * (t.val / 4 % 4) + a.val)
    (R : Fin 32768) (hR : R.val = 1024 * (t.val / 16 * 4 + t.val % 4) + r.val) :
    (show EReal from iblk m c 0 t (ix3 a r e)) = (if (a.val = 0 ↔ e.val < 64) then
      (show EReal from (show Vec Ideal S26x32768x128 .f32 from m ((c.tc : Thread nD τ).loc main_arg0)) (ix3 h R e)) else 0) * rate := by
  have ht : t.val < 128 := lt_of_lt_of_eq t.isLt N_0
  unfold iblk
  entry_read
  have e : (win0_0.blk t).view.emb (ix3 a r e) = ix3 h R e := by blk_ext [idx t]
  show lat _ ((win0_0.blk t).view.emb (ix3 a r _)) = _
  rw [e]
  exact lat_query _ h ⟨t.val / 4 % 4, by omega⟩ a hh R _

theorem block1 (c : Dev nD) (t : Fin cfg0.N) (k : Fin 256) (e : Fin 128) (h : Fin 26) (hh : h.val = 14 + t.val / 4 % 4)
    (R : Fin 2048) (hR : R.val = 256 * (t.val / 16) + k.val) :
    (show EReal from iblk m c 1 t (ix3 0 k e)) = (show Vec Ideal S26x2048x128 .f32 from m ((c.tc : Thread nD τ).loc main_arg1)) (ix3 h R e) := by
  have ht : t.val < 128 := lt_of_lt_of_eq t.isLt N_0
  unfold iblk
  entry_read
  have e1 : (win0_1.blk t).view.emb (ix3 0 k e) = ix3 h R e := by blk_ext [idx t]
  show ctx _ ((win0_1.blk t).view.emb (ix3 0 k e)) = _
  rw [e1]
  rfl

set_option maxHeartbeats 4000000 in
set_option maxRecDepth 65536 in
theorem block3 (c : Dev nD) (t : Fin cfg0.N) (k : Fin 4096) (e : Fin 128) (h : Fin 26) (hh : h.val = 14 + t.val / 4 % 4)
    (R : Fin 32768) (hR : R.val = 4096 * (t.val / 16) + k.val) :
    (show EReal from iblk m c 3 t (ix3 0 k e)) = (show Vec Ideal S26x32768x128 .f32 from m ((c.tc : Thread nD τ).loc main_arg0)) (ix3 h R e) := by
  have ht : t.val < 128 := lt_of_lt_of_eq t.isLt N_0
  unfold iblk
  entry_read
  have e1 : (win0_3.blk t).view.emb (ix3 0 k e) = ix3 h R e := by blk_ext [idx t]
  show lat _ ((win0_3.blk t).view.emb (ix3 0 k e)) = _
  rw [e1]
  exact lat_key _ h (by omega) R _

theorem block2 (c : Dev nD) (t : Fin cfg0.N) (k : Fin 256) (d : Fin 144) (h : Fin 10) (hh : h.val = 2 + t.val / 4 % 4)
    (R : Fin 2048) (hR : R.val = 256 * (t.val / 16) + k.val) :
    (show EReal from iblk m c 2 t (ix4 0 0 d k)) = if hd : d.val < 128 then (show Vec Ideal S10x2048x128 .f32 from m ((c.tc : Thread nD τ).loc main_arg3)) (ix3 h R ⟨d.val, hd⟩) else 1 := by
  have ht : t.val < 128 := lt_of_lt_of_eq t.isLt N_0
  unfold iblk
  entry_read
  have e1 : (win0_2.blk t).view.emb (ix4 0 0 d k) = ix4 h ⟨t.val / 16, by omega⟩ d k := by blk_ext [idx t]
  show vctx _ ((win0_2.blk t).view.emb (ix4 0 0 d k)) = _
  rw [e1]
  exact vctx_apply _ h _ d k R hR

theorem block4 (c : Dev nD) (t : Fin cfg0.N) (n : Fin 8) (k : Fin 512) (d : Fin 144) (h : Fin 10) (hh : h.val = 2 + t.val / 4 % 4)
    (R : Fin 32768) (hR : R.val = 4096 * (t.val / 16) + (512 * n.val + k.val)) :
    (show EReal from iblk m c 4 t (ix4 0 n d k)) = if hd : d.val < 128 then (show Vec Ideal S10x32768x128 .f32 from m ((c.tc : Thread nD τ).loc main_arg2)) (ix3 h R ⟨d.val, hd⟩) else 1 := by
  have ht : t.val < 128 := lt_of_lt_of_eq t.isLt N_0
  unfold iblk
  entry_read
  have e1 : (win0_4.blk t).view.emb (ix4 0 n d k) = ix4 h ⟨8 * (t.val / 16) + n.val, by omega⟩ d k := by blk_ext [idx t]
  show vlat _ ((win0_4.blk t).view.emb (ix4 0 n d k)) = _
  rw [e1]
  exact vlat_apply _ h _ d k R (by show R.val = 512 * (8 * (t.val / 16) + n.val) + k.val; omega)

theorem vector5 (c : Dev nD) (t : Fin cfg0.N) (k : Fin 64) : (show EReal from iblk m c 5 t (ix2 0 k))
    = (show Vec Ideal S64 .f32 from m ((c.tc : Thread nD τ).loc main_arg4)) (ix1 k) := by
  unfold iblk
  entry_read
  have e : (win0_5.blk t).view.emb (ix2 0 k) = ix2 0 k := by blk_ext [idx_vec t]
  show shapeCast S1x64 _ _ ((win0_5.blk t).view.emb (ix2 0 k)) = _
  rw [e]
  pointwise

theorem vector6 (c : Dev nD) (t : Fin cfg0.N) (k : Fin 64) : (show EReal from iblk m c 6 t (ix2 0 k))
    = (show Vec Ideal S64 .f32 from m ((c.tc : Thread nD τ).loc main_arg5)) (ix1 k) := by
  unfold iblk
  entry_read
  have e : (win0_6.blk t).view.emb (ix2 0 k) = ix2 0 k := by blk_ext [idx_vec t]
  show shapeCast S1x64 _ _ ((win0_6.blk t).view.emb (ix2 0 k)) = _
  rw [e]
  pointwise

theorem vector7 (c : Dev nD) (t : Fin cfg0.N) (k : Fin 64) : (show EReal from iblk m c 7 t (ix2 0 k))
    = (show Vec Ideal S64 .f32 from m ((c.tc : Thread nD τ).loc main_arg6)) (ix1 k) := by
  unfold iblk
  entry_read
  have e : (win0_7.blk t).view.emb (ix2 0 k) = ix2 0 k := by blk_ext [idx_vec t]
  show shapeCast S1x64 _ _ ((win0_7.blk t).view.emb (ix2 0 k)) = _
  rw [e]
  pointwise

theorem vector8 (c : Dev nD) (t : Fin cfg0.N) (k : Fin 64) : (show EReal from iblk m c 8 t (ix2 0 k))
    = (show Vec Ideal S64 .f32 from m ((c.tc : Thread nD τ).loc main_arg7)) (ix1 k) := by
  unfold iblk
  entry_read
  have e : (win0_8.blk t).view.emb (ix2 0 k) = ix2 0 k := by blk_ext [idx_vec t]
  show shapeCast S1x64 _ _ ((win0_8.blk t).view.emb (ix2 0 k)) = _
  rw [e]
  pointwise

theorem vector9 (c : Dev nD) (t : Fin cfg0.N) (k : Fin 128) : (show EReal from iblk m c 9 t (ix2 0 k))
    = (show Vec Ideal S128 .f32 from m ((c.tc : Thread nD τ).loc main_arg8)) (ix1 k) := by
  unfold iblk
  entry_read
  have e : (win0_9.blk t).view.emb (ix2 0 k) = ix2 0 k := by blk_ext [idx_vec t]
  show shapeCast S1x128 _ _ ((win0_9.blk t).view.emb (ix2 0 k)) = _
  rw [e]
  pointwise

end Cert.DiffIdeal.Mine

end
-- ==== Proof.DiffRef.lean ====
/- The reference of the differential attention, read at an entry. -/
module

public import proofs.«01_k».proof.Proof.Gen.DiffRefIdeal.Run
public import Idealize.ShloMosaic.Lib.Pipeline.ValueKit
public import Idealize.ShloMosaic.Lib.Pointwise
public import Idealize.ShloMosaic.Lib.Claim
public import proofs.«01_k».proof.Proof.DiffForms
public import proofs.«01_k».proof.Proof.MlaRef

@[expose] public section

set_option maxRecDepth 16384

noncomputable section

namespace Cert.DiffRefIdeal.Mine

open Cert.DiffRefIdeal Cert.DiffRefIdeal.Gen Cert.DiffRefIdeal.Value Idealize.ShloMosaic Idealize.ShloMosaic.TcCoe Idealize.SL.Sem Idealize.ShloMosaic.StableHlo
open Cert.MlaRefIdeal.Mine (rmax capped tops weights expd probs)

variable (m : (ℓ : Loc nD τ sig) → Buf (Elt Ideal) ℓ) (ρ : Dev nD → PrngReg)

/-- The keys of every batch: the context's, then the latent ones. -/
def keys (C : FVec Ideal S26x2048x128 .f32) (A : FVec Ideal S26x32768x128 .f32) : FVec Ideal S4x8x4352x128 .f32 :=
  concatenate S4x8x4352x128 2 [⟨S4x8x256x128, (shapeCast _ (extractStridedSlice S4x2048x128 ![14, 0, 0] C slices_S26x2048x128_S4x2048x128_14_0_0) shapeCasts_S4x2048x128_S4x8x256x128)⟩, ⟨S4x8x4096x128, (shapeCast _ (extractStridedSlice S4x32768x128 ![14, 0, 0] A slices_S26x32768x128_S4x32768x128_14_0_0) shapeCasts_S4x32768x128_S4x8x4096x128)⟩] concatenates_S4x8x256x128_S4x8x4096x128_S4x8x4352x128_d2

/-- The values of every batch: the context's, then the latent ones. -/
def vals (C : FVec Ideal S10x2048x128 .f32) (A : FVec Ideal S10x32768x128 .f32) : FVec Ideal S4x8x4352x128 .f32 :=
  concatenate S4x8x4352x128 2 [⟨S4x8x256x128, (shapeCast _ (extractStridedSlice S4x2048x128 ![2, 0, 0] C slices_S10x2048x128_S4x2048x128_2_0_0) shapeCasts_S4x2048x128_S4x8x256x128)⟩, ⟨S4x8x4096x128, (shapeCast _ (extractStridedSlice S4x32768x128 ![2, 0, 0] A slices_S10x32768x128_S4x32768x128_2_0_0) shapeCasts_S4x32768x128_S4x8x4096x128)⟩] concatenates_S4x8x256x128_S4x8x4096x128_S4x8x4352x128_d2

/-- The query slots, two to a head. -/
def queries (A : FVec Ideal S26x32768x128 .f32) : FVec Ideal S4x2x8x4096x128 .f32 :=
  shapeCast _ (extractStridedSlice S8x32768x128 ![6, 0, 0] A slices_S26x32768x128_S8x32768x128_6_0_0) shapeCasts_S8x32768x128_S4x2x8x4096x128

/-- The scaled products of queries and keys of 64 columns. -/
def scaled (Q : FVec Ideal S4x8x4096x64 .f32) (K : FVec Ideal S4x8x4352x64 .f32) : FVec Ideal S4x8x4096x4352 .f32 :=
  mulf (Host.dotGeneral dot_S4x8x4096x64_S4x8x4352x64_S4x8x4096x4352_3_3_2_2_01_01 none Q K) (broadcastInDim S4x8x4096x4352 ![] bcast_S_S4x8x4096x4352 (constant S_ .f32 0x3E000000#32))

/-- The first queries' first columns. -/
def query1 (A : FVec Ideal S26x32768x128 .f32) : FVec Ideal S4x8x4096x64 .f32 :=
  shapeCast _ (extractStridedSlice S4x1x8x4096x64 ![0, 0, 0, 0, 0] (queries A) slices_S4x2x8x4096x128_S4x1x8x4096x64_0_0_0_0_0) shapeCasts_S4x1x8x4096x64_S4x8x4096x64

/-- The second queries' last columns. -/
def query2 (A : FVec Ideal S26x32768x128 .f32) : FVec Ideal S4x8x4096x64 .f32 :=
  shapeCast _ (extractStridedSlice S4x1x8x4096x64 ![0, 1, 0, 0, 64] (queries A) slices_S4x2x8x4096x128_S4x1x8x4096x64_0_1_0_0_64) shapeCasts_S4x1x8x4096x64_S4x8x4096x64

/-- The keys' first columns. -/
def key1 (K : FVec Ideal S4x8x4352x128 .f32) : FVec Ideal S4x8x4352x64 .f32 :=
  extractStridedSlice S4x8x4352x64 ![0, 0, 0, 0] K slices_S4x8x4352x128_S4x8x4352x64_0_0_0_0

/-- The keys' last columns. -/
def key2 (K : FVec Ideal S4x8x4352x128 .f32) : FVec Ideal S4x8x4352x64 .f32 :=
  extractStridedSlice S4x8x4352x64 ![0, 0, 0, 64] K slices_S4x8x4352x128_S4x8x4352x64_0_0_0_64

/-- The scaled scores of the first or the second queries. -/
def scores (a : Fin 2) (K : FVec Ideal S4x8x4352x128 .f32) (A : FVec Ideal S26x32768x128 .f32) : FVec Ideal S4x8x4096x4352 .f32 :=
  if a.val = 0 then scaled (query1 A) (key1 K) else scaled (query2 A) (key2 K)

/-- The factor on the second attention. -/
def lam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3EB60549#32)

/-- The first probabilities less the second, times the factor. -/
def less (p q : FVec Ideal S4x8x4096x4352 .f32) (l : FVec Ideal S_ .f32) : FVec Ideal S4x8x4096x4352 .f32 :=
  subf p (mulf (broadcastInDim S4x8x4096x4352 ![] bcast_S_S4x8x4096x4352 l) q)

/-- The values mixed. -/
def mix (VV : FVec Ideal S4x8x4352x128 .f32) (p : FVec Ideal S4x8x4096x4352 .f32) : FVec Ideal S8x4096x4x128 .f32 :=
  transpose S8x4096x4x128 [0, 3, 1, 2] (Host.dotGeneral dot_S4x8x4352x128_S4x8x4096x4352_S8x4x128x4096_2_3_3_2_10_10 none VV p) transposes_S8x4x128x4096_S8x4096x4x128_0_3_1_2

/-- The norm of every head's row, times the gain and one constant. -/
def normed (z : FVec Ideal S8x4096x4x128 .f32) (g : FVec Ideal S128 .f32) : FVec Ideal S8x4096x4x128 .f32 :=
  mulf (mulf (mulf z (broadcastInDim S8x4096x4x128 ![0, 1, 2, 3] bcast_S8x4096x4x1_S8x4096x4x128_0_1_2_3
      (Host.rsqrt (addf (Host.divf (broadcastInDim S8x4096x4x1 ![0, 1, 2] bcast_S8x4096x4_S8x4096x4x1_0_1_2
        (Host.reduceAdd (mulf z z) (constant S_ .f32 0x00000000#32) reducesTo_S8x4096x4x128_S8x4096x4_d3 h_S_))
        (broadcastInDim S8x4096x4x1 ![] bcast_S_S8x4096x4x1 (constant S_ .f32 0x43000000#32)))
        (broadcastInDim S8x4096x4x1 ![] bcast_S_S8x4096x4x1 (constant S_ .f32 0x358637BD#32))))))
    (broadcastInDim S8x4096x4x128 ![0, 1, 2, 3] bcast_S1x1x1x128_S8x4096x4x128_0_1_2_3 (broadcastInDim S1x1x1x128 ![3] bcast_S128_S1x1x1x128_3 g)))
    (broadcastInDim S8x4096x4x128 ![] bcast_S_S8x4096x4x128 (constant S_ .f32 0x3F24FD5C#32))

/-- Heads side by side, rows of all batches. -/
def flat (z : FVec Ideal S8x4096x4x128 .f32) : FVec Ideal S32768x512 .bf16 :=
  truncf .bf16 (shapeCast _ z shapeCasts_S8x4096x4x128_S32768x512) bitsLt_bf16_f32

/-- The reference's result of its nine arguments. -/
def attention (A : FVec Ideal S26x32768x128 .f32) (C : FVec Ideal S26x2048x128 .f32) (V : FVec Ideal S10x32768x128 .f32)
    (W : FVec Ideal S10x2048x128 .f32) (a b c d : FVec Ideal S64 .f32) (g : FVec Ideal S128 .f32) : FVec Ideal S32768x512 .bf16 :=
  flat (normed (mix (vals W V) (less (probs (expd (scores 0 (keys C A) A))) (probs (expd (scores 1 (keys C A) A))) (lam a b c d))) g)

theorem res_eq (c : Dev nD) : res_out0 m c
    = attention (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  have h0 : ∀ K A, scores 0 K A = scaled (query1 A) (key1 K) := fun K A => if_pos rfl
  have h1 : ∀ K A, scores 1 K A = scaled (query2 A) (key2 K) := fun K A => if_neg (by decide)
  unfold attention
  rw [h0, h1]
  unfold res_out0 res_main_v75 flat normed mix vals less lam probs expd weights tops capped rmax scaled query1 query2 key1 key2 queries keys
  rfl

theorem flat_apply (z : FVec Ideal S8x4096x4x128 .f32) (b : Fin 8) (n : Fin 4096) (g : Fin 4) (d : Fin 128) (R : Fin 32768) (q : Fin 512)
    (hR : R.val = 4096 * b.val + n.val) (hq : q.val = 128 * g.val + d.val) :
    (show EReal from flat z (ix2 R q)) = (show EReal from z (ix4 b n g d)) := by
  pointwise [flat]
  blk_ext

theorem normed_apply (z : FVec Ideal S8x4096x4x128 .f32) (w : FVec Ideal S128 .f32) (b : Fin 8) (n : Fin 4096) (g : Fin 4) (d : Fin 128) :
    (show EReal from normed z w (ix4 b n g d)) = Differential.normed (fun e => z (ix4 b n g e)) (fun e => w (ix1 e)) d := by
  pointwise [normed, Differential.normed]

theorem mix_apply (VV : FVec Ideal S4x8x4352x128 .f32) (p : FVec Ideal S4x8x4096x4352 .f32) (b : Fin 8) (n : Fin 4096) (g : Fin 4) (d : Fin 128) :
    (show EReal from mix VV p (ix4 b n g d)) = ∑ j : Fin 4352, (show EReal from VV (ix4 g b j d)) * p (ix4 g b n j) := by
  pointwise [mix]

theorem less_apply (p q : FVec Ideal S4x8x4096x4352 .f32) (l : FVec Ideal S_ .f32) (i : S4x8x4096x4352.Idx) (k : S_.Idx) :
    (show EReal from less p q l i) = (show EReal from p i) - (show EReal from l k) * (show EReal from q i) := by
  have hk : ∀ k' : S_.Idx, k' = k := fun k' => funext fun x => x.elim0
  pointwise [less]
  rw [hk ix0]

theorem lam_apply (a b c d : FVec Ideal S64 .f32) (k : S_.Idx) :
    (show EReal from lam a b c d k) = Differential.factor (fun e => a (ix1 e)) (fun e => b (ix1 e)) (fun e => c (ix1 e)) (fun e => d (ix1 e)) := by
  pointwise [lam, Differential.factor]

theorem scaled_apply (Q : FVec Ideal S4x8x4096x64 .f32) (K : FVec Ideal S4x8x4352x64 .f32) (g : Fin 4) (b : Fin 8) (n : Fin 4096) (j : Fin 4352) :
    (show EReal from scaled Q K (ix4 g b n j))
      = (∑ e : Fin 64, (show EReal from Q (ix4 g b n e)) * K (ix4 g b j e)) * Ideal.ofBits .f32 0x3E000000#32 := by
  pointwise [scaled]

theorem query1_apply (A : FVec Ideal S26x32768x128 .f32) (g : Fin 4) (b : Fin 8) (n : Fin 4096) (e : Fin 64) (h : Fin 26) (R : Fin 32768) (e' : Fin 128)
    (hh : h.val = 6 + 2 * g.val) (hR : R.val = 4096 * b.val + n.val) (he : e'.val = e.val) :
    (show EReal from query1 A (ix4 g b n e)) = A (ix3 h R e') := by
  pointwise [query1, queries]
  blk_ext

theorem query2_apply (A : FVec Ideal S26x32768x128 .f32) (g : Fin 4) (b : Fin 8) (n : Fin 4096) (e : Fin 64) (h : Fin 26) (R : Fin 32768) (e' : Fin 128)
    (hh : h.val = 7 + 2 * g.val) (hR : R.val = 4096 * b.val + n.val) (he : e'.val = 64 + e.val) :
    (show EReal from query2 A (ix4 g b n e)) = A (ix3 h R e') := by
  pointwise [query2, queries]
  blk_ext

theorem key1_apply (K : FVec Ideal S4x8x4352x128 .f32) (g : Fin 4) (b : Fin 8) (j : Fin 4352) (e : Fin 64) (e' : Fin 128) (he : e'.val = e.val) :
    (show EReal from key1 K (ix4 g b j e)) = K (ix4 g b j e') := by
  pointwise [key1]
  blk_ext

theorem key2_apply (K : FVec Ideal S4x8x4352x128 .f32) (g : Fin 4) (b : Fin 8) (j : Fin 4352) (e : Fin 64) (e' : Fin 128) (he : e'.val = 64 + e.val) :
    (show EReal from key2 K (ix4 g b j e)) = K (ix4 g b j e') := by
  pointwise [key2]
  blk_ext

/-- A score: of the first queries over the first 64 columns, of the second over the last. -/
theorem scores_apply (a : Fin 2) (K : FVec Ideal S4x8x4352x128 .f32) (A : FVec Ideal S26x32768x128 .f32) (g : Fin 4) (b : Fin 8) (n : Fin 4096) (j : Fin 4352)
    (h : Fin 26) (hh : h.val = 6 + 2 * g.val + a.val) (R : Fin 32768) (hR : R.val = 4096 * b.val + n.val) :
    (show EReal from scores a K A (ix4 g b n j))
      = (∑ e : Fin 64, (show EReal from A (ix3 h R ⟨64 * a.val + e.val, by omega⟩)) * K (ix4 g b j ⟨64 * a.val + e.val, by omega⟩))
        * Ideal.ofBits .f32 0x3E000000#32 := by
  unfold scores
  split
  · rename_i ha
    refine (scaled_apply _ _ g b n j).trans (congrArg (· * _) (Finset.sum_congr rfl fun e _ => congrArg₂ (· * ·) ?_ ?_))
    · exact query1_apply A g b n e h R _ (by omega) hR (by show 64 * a.val + e.val = e.val; omega)
    · exact key1_apply K g b j e _ (by show 64 * a.val + e.val = e.val; omega)
  · rename_i ha
    refine (scaled_apply _ _ g b n j).trans (congrArg (· * _) (Finset.sum_congr rfl fun e _ => congrArg₂ (· * ·) ?_ ?_))
    · exact query2_apply A g b n e h R _ (by omega) hR (by show 64 * a.val + e.val = 64 + e.val; omega)
    · exact key2_apply K g b j e _ (by show 64 * a.val + e.val = 64 + e.val; omega)

theorem keys_apply (C : FVec Ideal S26x2048x128 .f32) (A : FVec Ideal S26x32768x128 .f32) (g : Fin 4) (b : Fin 8) (j : Fin 4352) (e : Fin 128)
    (h : Fin 26) (hh : h.val = 14 + g.val) :
    (show EReal from keys C A (ix4 g b j e)) = if hj : j.val < 256 then C (ix3 h ⟨256 * b.val + j.val, by omega⟩ e)
      else A (ix3 h ⟨4096 * b.val + (j.val - 256), by omega⟩ e) := by
  pointwise [keys]
  split <;> blk_ext

theorem vals_apply (C : FVec Ideal S10x2048x128 .f32) (A : FVec Ideal S10x32768x128 .f32) (g : Fin 4) (b : Fin 8) (j : Fin 4352) (e : Fin 128)
    (h : Fin 10) (hh : h.val = 2 + g.val) :
    (show EReal from vals C A (ix4 g b j e)) = if hj : j.val < 256 then C (ix3 h ⟨256 * b.val + j.val, by omega⟩ e)
      else A (ix3 h ⟨4096 * b.val + (j.val - 256), by omega⟩ e) := by
  pointwise [vals]
  split <;> blk_ext

end Cert.DiffRefIdeal.Mine

end
-- ==== Proof.DiffValue.lean ====
/- The differential attention: the kernel's result is the reference's where what it reads is finite. -/
module

public import proofs.«01_k».proof.Proof.GqaCore
public import proofs.«01_k».proof.Proof.MlaValue
public import proofs.«01_k».proof.Proof.DiffBlock
public import proofs.«01_k».proof.Proof.DiffPrep
public import proofs.«01_k».proof.Proof.DiffRef

@[expose] public section

set_option maxRecDepth 16384

noncomputable section

namespace Cert.DiffIdeal.Mine

open Cert.DiffIdeal Cert.DiffIdeal.Gen Idealize.ShloMosaic Idealize.ShloMosaic.TcCoe Idealize.SL.Sem
open Idealize.ShloMosaic.Pipeline (Dat)
open Cert.GqaIdeal.Mine (entry entry_scaled)
open Cert.MlaIdeal.Mine (coe_toReal drop_eq)
open Cert.MlaRefIdeal.Mine (probs expd tops)
open Cert.DiffRefIdeal.Mine (attention mix vals scores keys less lam flat)
open Cert.Differential (factor normed share)

variable (m : (ℓ : Loc nD τ sig) → Buf (Elt Ideal) ℓ) (ρ : Dev nD → PrngReg)

/-- The scale as a real number. -/
def scale : ℝ := 1 / 8

theorem scale_eq : Ideal.ofBits .f32 0x3E000000#32 = ((scale : ℝ) : EReal) := by
  unfold scale
  simp [Ideal.ofBits, Ideal.ieee]
  rw [← EReal.coe_mul]
  norm_num

theorem rate_eq : rate = ((scale * (Real.log 2)⁻¹ : ℝ) : EReal) := by
  unfold rate
  rw [scale_eq, Attention.rate_real]

/-- The queries' halves, keys and values the attention reads are real numbers. -/
def RealArrays (A : FVec Ideal S26x32768x128 .f32) (C : FVec Ideal S26x2048x128 .f32) (V : FVec Ideal S10x32768x128 .f32)
    (W : FVec Ideal S10x2048x128 .f32) : Prop :=
  (∀ (h : Fin 26) (R : Fin 32768) (e : Fin 128), 6 ≤ h.val → h.val < 18 →
      (h.val < 14 → (h.val % 2 = 0 ↔ e.val < 64)) → ∃ y : ℝ, (show EReal from A (ix3 h R e)) = y)
  ∧ (∀ (h : Fin 26) (R : Fin 2048) (e : Fin 128), 14 ≤ h.val → h.val < 18 → ∃ y : ℝ, (show EReal from C (ix3 h R e)) = y)
  ∧ (∀ (h : Fin 10) (R : Fin 32768) (e : Fin 128), 2 ≤ h.val → h.val < 6 → ∃ y : ℝ, (show EReal from V (ix3 h R e)) = y)
  ∧ ∀ (h : Fin 10) (R : Fin 2048) (e : Fin 128), 2 ≤ h.val → h.val < 6 → ∃ y : ℝ, (show EReal from W (ix3 h R e)) = y

/-- A vector of real numbers. -/
def RealVector (a : FVec Ideal S64 .f32) : Prop := ∀ e : Fin 64, ∃ y : ℝ, (show EReal from a (ix1 e)) = y

/-- The real part of a key. -/
def key (A : FVec Ideal S26x32768x128 .f32) (C : FVec Ideal S26x2048x128 .f32) (g : Fin 4) (b : Fin 8) (j : Fin 4352) (e : Fin 128) : ℝ :=
  EReal.toReal (keys C A (ix4 g b j e))

/-- The real part of a query, zero outside its half of the columns. -/
def query (A : FVec Ideal S26x32768x128 .f32) (a : Fin 2) (h : Fin 26) (R : Fin 32768) (e : Fin 128) : ℝ :=
  if (a.val = 0 ↔ e.val < 64) then EReal.toReal (A (ix3 h R e)) else 0

/-- The score of a query and a key. -/
def score (A : FVec Ideal S26x32768x128 .f32) (C : FVec Ideal S26x2048x128 .f32) (a : Fin 2) (g : Fin 4) (b : Fin 8) (h : Fin 26) (R : Fin 32768)
    (j : Fin 4352) : ℝ :=
  (∑ e, key A C g b j e * query A a h R e) * scale

variable {A : FVec Ideal S26x32768x128 .f32} {C : FVec Ideal S26x2048x128 .f32} {V : FVec Ideal S10x32768x128 .f32} {W : FVec Ideal S10x2048x128 .f32}

theorem key_eq (hf : RealArrays A C V W) (g : Fin 4) (b : Fin 8) (j : Fin 4352) (e : Fin 128) :
    (show EReal from keys C A (ix4 g b j e)) = ((key A C g b j e : ℝ) : EReal) := by
  refine coe_toReal (keys C A (ix4 g b j e)) ?_
  have := Cert.DiffRefIdeal.Mine.keys_apply C A g b j e ⟨14 + g.val, by omega⟩ rfl
  split at this
  · exact (hf.2.1 ⟨14 + g.val, by omega⟩ _ e (by show 14 ≤ 14 + g.val; omega) (by show 14 + g.val < 18; omega)).imp fun y hy => this.trans hy
  · exact (hf.1 ⟨14 + g.val, by omega⟩ _ e (by show 6 ≤ 14 + g.val; omega) (by show 14 + g.val < 18; omega)
      (fun hl => absurd hl (by show ¬ 14 + g.val < 14; omega))).imp fun y hy => this.trans hy

theorem vals_real (hf : RealArrays A C V W) (g : Fin 4) (b : Fin 8) (j : Fin 4352) (e : Fin 128) :
    ∃ y : ℝ, (show EReal from vals W V (ix4 g b j e)) = y := by
  have := Cert.DiffRefIdeal.Mine.vals_apply W V g b j e ⟨2 + g.val, by omega⟩ rfl
  split at this
  · exact (hf.2.2.2 ⟨2 + g.val, by omega⟩ _ e (by show 2 ≤ 2 + g.val; omega) (by show 2 + g.val < 6; omega)).imp fun y hy => this.trans hy
  · exact (hf.2.2.1 ⟨2 + g.val, by omega⟩ _ e (by show 2 ≤ 2 + g.val; omega) (by show 2 + g.val < 6; omega)).imp fun y hy => this.trans hy

theorem query_eq (hf : RealArrays A C V W) (h : Fin 26) (h6 : 6 ≤ h.val) (h18 : h.val < 18) (R : Fin 32768) (e : Fin 128)
    (he : h.val < 14 → (h.val % 2 = 0 ↔ e.val < 64)) :
    (show EReal from A (ix3 h R e)) = ((EReal.toReal (A (ix3 h R e)) : ℝ) : EReal) :=
  coe_toReal (A (ix3 h R e)) (hf.1 h R e h6 h18 he)

/-- A score of the reference is the real score. -/
theorem score_eq (hf : RealArrays A C V W) (a : Fin 2) (g : Fin 4) (b : Fin 8) (n : Fin 4096) (j : Fin 4352) (h : Fin 26)
    (hh : h.val = 6 + 2 * g.val + a.val) (R : Fin 32768) (hR : R.val = 4096 * b.val + n.val) :
    (show EReal from scores a (keys C A) A (ix4 g b n j)) = ((score A C a g b h R j : ℝ) : EReal) := by
  have ha := a.isLt
  have hg := g.isLt
  refine (Cert.DiffRefIdeal.Mine.scores_apply a _ A g b n j h hh R hR).trans ?_
  unfold score query
  rw [Differential.sum_half a (key A C g b j) (fun e => EReal.toReal (A (ix3 h R e))), scale_eq, EReal.coe_mul, ← Online.coe_sum]
  refine congrArg (fun x : EReal => x * ((scale : ℝ) : EReal)) (Finset.sum_congr rfl fun e _ => ?_)
  rw [EReal.coe_mul]
  refine congr (congrArg (fun x y : EReal => x * y) (query_eq hf h (by omega) (by omega) R _ fun _ => ?_)) (key_eq hf g b j _)
  have he := e.isLt
  show h.val % 2 = 0 ↔ 64 * a.val + e.val < 64
  omega

/-- The reference's probabilities are the shares of the real scores, for some real number. -/
theorem probs_eq (hf : RealArrays A C V W) (a : Fin 2) (g : Fin 4) (b : Fin 8) (n : Fin 4096) (h : Fin 26)
    (hh : h.val = 6 + 2 * g.val + a.val) (R : Fin 32768) (hR : R.val = 4096 * b.val + n.val) :
    ∃ M : ℝ, ∀ k : Fin 4352, (show EReal from probs (expd (scores a (keys C A) A)) (ix4 g b n k)) = share (score A C a g b h R) M k := by
  obtain ⟨M, hM⟩ : ∃ y : ℝ, (show EReal from tops (scores a (keys C A) A) (ix3 g b n)) = y := by
    refine Cert.MlaRefIdeal.Mine.tops_real _ _ (fun i => ?_) (ix4 g b n 0) (drop_eq g b n 0)
    obtain ⟨g', b', n', j', rfl⟩ : ∃ (g' : Fin 4) (b' : Fin 8) (n' : Fin 4096) (j' : Fin 4352), i = ix4 g' b' n' j' :=
      ⟨i 0, i 1, i 2, i 3, by idx_vars i⟩
    exact ⟨_, score_eq hf a g' b' n' j' ⟨6 + 2 * g'.val + a.val, by omega⟩ rfl ⟨4096 * b'.val + n'.val, by omega⟩ rfl⟩
  refine ⟨M, fun k => ?_⟩
  have hw : ∀ j : Fin 4352, (show EReal from expd (scores a (keys C A) A) (ix4 g b n j)) = Ideal.exp (((score A C a g b h R j : ℝ) : EReal) - (M : EReal)) := by
    intro j
    unfold expd
    refine (Cert.MlaRefIdeal.Mine.weights_apply _ _ g b n j).trans (congrArg Ideal.exp ?_)
    exact congr (congrArg (fun x y : EReal => x - y) (score_eq hf a g b n j h hh R hR)) hM
  refine (Cert.MlaRefIdeal.Mine.probs_apply _ g b n k).trans ?_
  exact congr (congrArg Ideal.div (hw k)) (Finset.sum_congr rfl fun j _ => hw j)

/-- One of the kernel's attentions is the mean of the values under the shares. -/
theorem entry_at (c : Dev nD) (t : Fin cfg0.N)
    (hf : RealArrays (m ((c.tc : Thread nD τ).loc main_arg0)) (m ((c.tc : Thread nD τ).loc main_arg1)) (m ((c.tc : Thread nD τ).loc main_arg2))
      (m ((c.tc : Thread nD τ).loc main_arg3)))
    (a : Fin 2) (r : Fin 1024) (d : Fin 128) (g : Fin 4) (hg : g.val = t.val / 4 % 4) (b : Fin 8) (hb : b.val = t.val / 16) (h : Fin 26)
    (hh : h.val = 6 + 2 * g.val + a.val) (R : Fin 32768) (hR : R.val = 1024 * (t.val / 16 * 4 + t.val % 4) + r.val) (M : ℝ) :
    entry (iblk m c 0 t) (iblk m c 1 t) (iblk m c 2 t) (iblk m c 3 t) (iblk m c 4 t) a r d
      = ∑ k : Fin 4352, share (score (m ((c.tc : Thread nD τ).loc main_arg0)) (m ((c.tc : Thread nD τ).loc main_arg1)) a g b h R) M k
        * (show EReal from vals (m ((c.tc : Thread nD τ).loc main_arg3)) (m ((c.tc : Thread nD τ).loc main_arg2)) (ix4 g b k d)) := by
  have ha := a.isLt
  refine entry_scaled scale _ _ _ _ _ a r d (query (m ((c.tc : Thread nD τ).loc main_arg0)) a h R)
    (fun k e => key (m ((c.tc : Thread nD τ).loc main_arg0)) (m ((c.tc : Thread nD τ).loc main_arg1)) g b k e)
    (fun k => vals (m ((c.tc : Thread nD τ).loc main_arg3)) (m ((c.tc : Thread nD τ).loc main_arg2)) (ix4 g b k d)) M
    ?_ ?_ ?_ ?_ ?_ ?_ ?_
  · intro e
    refine (block0 m c t a r e h (by omega) R hR).trans ?_
    rw [rate_eq]
    refine congrArg (fun x : EReal => x * ((scale * (Real.log 2)⁻¹ : ℝ) : EReal)) ?_
    unfold query
    split
    · rename_i hq
      exact query_eq hf h (by omega) (by omega) R e fun _ => by omega
    · rfl
  · intro k e
    refine (block1 m c t k e ⟨14 + g.val, by omega⟩ (by show 14 + g.val = _; omega) ⟨256 * b.val + k.val, by omega⟩ (by show 256 * b.val + k.val = _; omega)).trans ?_
    rw [← key_eq hf, Cert.DiffRefIdeal.Mine.keys_apply _ _ g b _ e ⟨14 + g.val, by omega⟩ rfl, dif_pos (by show k.val < 256; omega)]
  · intro k e
    refine (block3 m c t k e ⟨14 + g.val, by omega⟩ (by show 14 + g.val = _; omega) ⟨4096 * b.val + k.val, by omega⟩ (by show 4096 * b.val + k.val = _; omega)).trans ?_
    rw [← key_eq hf, Cert.DiffRefIdeal.Mine.keys_apply _ _ g b _ e ⟨14 + g.val, by omega⟩ rfl, dif_neg (by show ¬ 256 + k.val < 256; omega)]
    have e1 : (⟨4096 * b.val + k.val, by omega⟩ : Fin 32768) = ⟨4096 * b.val + (256 + k.val - 256), by omega⟩ := Fin.ext (by show 4096 * b.val + k.val = 4096 * b.val + (256 + k.val - 256); omega)
    rw [e1]
  · intro k
    refine (block2 m c t k ⟨d.val, by omega⟩ ⟨2 + g.val, by omega⟩ (by show 2 + g.val = _; omega) ⟨256 * b.val + k.val, by omega⟩ (by show 256 * b.val + k.val = _; omega)).trans ?_
    refine Eq.trans ?_ (Cert.DiffRefIdeal.Mine.vals_apply _ _ g b _ d ⟨2 + g.val, by omega⟩ rfl).symm
    rw [dif_pos (by show d.val < 128; omega), dif_pos (by show k.val < 256; omega)]
  · intro k
    refine (block2 m c t k 128 ⟨2 + g.val, by omega⟩ (by show 2 + g.val = _; omega) ⟨256 * b.val + k.val, by omega⟩ (by show 256 * b.val + k.val = _; omega)).trans ?_
    exact dif_neg (by decide)
  · intro n' k
    refine (block4 m c t n' k ⟨d.val, by omega⟩ ⟨2 + g.val, by omega⟩ (by show 2 + g.val = _; omega) ⟨4096 * b.val + (512 * n'.val + k.val), by omega⟩ (by show 4096 * b.val + (512 * n'.val + k.val) = _; omega)).trans ?_
    refine Eq.trans ?_ (Cert.DiffRefIdeal.Mine.vals_apply _ _ g b _ d ⟨2 + g.val, by omega⟩ rfl).symm
    rw [dif_pos (by show d.val < 128; omega), dif_neg (by show ¬ 256 + (n'.val * 512 + k.val) < 256; omega)]
    have e1 : (⟨4096 * b.val + (512 * n'.val + k.val), by omega⟩ : Fin 32768) = ⟨4096 * b.val + (256 + (n'.val * 512 + k.val) - 256), by omega⟩ :=
      Fin.ext (by show 4096 * b.val + (512 * n'.val + k.val) = 4096 * b.val + (256 + (n'.val * 512 + k.val) - 256); omega)
    rw [e1]
  · intro n' k
    refine (block4 m c t n' k 128 ⟨2 + g.val, by omega⟩ (by show 2 + g.val = _; omega) ⟨4096 * b.val + (512 * n'.val + k.val), by omega⟩ (by show 4096 * b.val + (512 * n'.val + k.val) = _; omega)).trans ?_
    exact dif_neg (by decide)

/-- The array the kernel leaves. -/
theorem final (c : Dev nD)
    (hf : RealArrays (m ((c.tc : Thread nD τ).loc main_arg0)) (m ((c.tc : Thread nD τ).loc main_arg1)) (m ((c.tc : Thread nD τ).loc main_arg2))
      (m ((c.tc : Thread nD τ).loc main_arg3)))
    (h4 : RealVector (m ((c.tc : Thread nD τ).loc main_arg4))) (h5 : RealVector (m ((c.tc : Thread nD τ).loc main_arg5)))
    (h6 : RealVector (m ((c.tc : Thread nD τ).loc main_arg6))) (h7 : RealVector (m ((c.tc : Thread nD τ).loc main_arg7))) :
    (dats m 0 c).arrAt 10 (cfgs 0).N
    = attention (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (dats m 0 c).arrAt_eq_of_covers 10 _ (by decide +kernel) fun t hfl y => ?_
  have ht : t.val < 128 := lt_of_lt_of_eq t.isLt N_0
  blk_simp
  rw [after0_10]
  obtain ⟨r, d, rfl⟩ : ∃ (r : Fin 1024) (d : Fin 128), y = ix2 r d := ⟨y 0, y 1, by idx_vars y⟩
  obtain ⟨R, Q, hj⟩ : ∃ (R : Fin 32768) (Q : Fin 512), (win0_10.blk t).view.emb (ix2 r d) = ix2 R Q := by
    generalize (win0_10.blk t).view.emb (ix2 r d) = j
    exact ⟨j 0, j 1, by idx_vars j⟩
  have hR : R.val = 1024 * (t.val / 16 * 4 + t.val % 4) + r.val := by
    have : ((win0_10.blk t).view.emb (ix2 r d) 0).val = R.val := by rw [hj]; rfl
    blk_simp [idx t] at this
    omega
  have hQ : Q.val = 128 * (t.val / 4 % 4) + d.val := by
    have : ((win0_10.blk t).view.emb (ix2 r d) 1).val = Q.val := by rw [hj]; rfl
    blk_simp [idx t] at this
    omega
  rw [hj]
  obtain ⟨g, hg⟩ : ∃ g : Fin 4, g.val = t.val / 4 % 4 := ⟨⟨t.val / 4 % 4, by omega⟩, rfl⟩
  obtain ⟨b, hb⟩ : ∃ b : Fin 8, b.val = t.val / 16 := ⟨⟨t.val / 16, by omega⟩, rfl⟩
  obtain ⟨n, hn⟩ : ∃ n : Fin 4096, n.val = 1024 * (t.val % 4) + r.val := ⟨⟨1024 * (t.val % 4) + r.val, by omega⟩, rfl⟩
  unfold attention
  refine Eq.trans ?_ (Cert.DiffRefIdeal.Mine.flat_apply _ b n g d R Q (by omega) (by omega)).symm
  refine Eq.trans ?_ (Cert.DiffRefIdeal.Mine.normed_apply _ _ b n g d).symm
  refine (out_A m c t r d).trans (congr (congr (congrArg normed (funext fun e => ?_)) (funext fun e => vector9 m c t e)) rfl)
  refine Eq.trans ?_ (Cert.DiffRefIdeal.Mine.mix_apply _ _ b n g e).symm
  obtain ⟨h0, hh0⟩ : ∃ h : Fin 26, h.val = 6 + 2 * g.val + (0 : Fin 2).val := ⟨⟨6 + 2 * g.val, by omega⟩, rfl⟩
  obtain ⟨h1, hh1⟩ : ∃ h : Fin 26, h.val = 6 + 2 * g.val + (1 : Fin 2).val := ⟨⟨6 + 2 * g.val + 1, by omega⟩, rfl⟩
  obtain ⟨M, hM⟩ := probs_eq hf 0 g b n h0 hh0 R (by omega)
  obtain ⟨M', hM'⟩ := probs_eq hf 1 g b n h1 hh1 R (by omega)
  unfold gap
  rw [entry_at m c t hf 0 r e g hg b hb h0 hh0 R hR M, entry_at m c t hf 1 r e g hg b hb h1 hh1 R hR M']
  simp only [vector5, vector6, vector7, vector8]
  refine (Differential.mean_sub _ _ _ _ (fun k => Differential.share_real _ M k) (fun k => Differential.share_real _ M' k)
    (fun k => vals_real hf g b k e) (Differential.factor_real _ _ _ _ h4 h5 h6 h7)).trans (Finset.sum_congr rfl fun k _ => ?_)
  refine congrArg (fun x : EReal => (show EReal from vals (m ((c.tc : Thread nD τ).loc main_arg3)) (m ((c.tc : Thread nD τ).loc main_arg2)) (ix4 g b k e)) * x) ?_
  refine Eq.trans ?_ (Cert.DiffRefIdeal.Mine.less_apply _ _ _ _ ix0).symm
  exact congr (congrArg (fun x y : EReal => x - y) (hM k).symm)
    (congr (congrArg (fun x y : EReal => x * y) (Cert.DiffRefIdeal.Mine.lam_apply _ _ _ _ ix0).symm) (hM' k).symm)

end Cert.DiffIdeal.Mine

end
-- ==== Proof.DiffClaims.lean ====
/- The differential attention's claims. -/
module

public import proofs.«01_k».proof.Proof.DiffValue
public import proofs.«01_k».proof.Defs
public import proofs.«01_k».proof.Proof.Gen.Diff.Frame
public import proofs.«01_k».proof.Proof.Gen.DiffIdeal.Frame
public import proofs.«01_k».proof.Proof.Gen.Pre_finite_diff
public import Idealize.ShloMosaic.Lib.ReduceAll

@[expose] public section

set_option maxRecDepth 16384

noncomputable section

namespace Cert.Proof

open Idealize.ShloMosaic Idealize.SL.Sem

/-- The predicate says the queries' halves, keys, values and the four vectors are real numbers. -/
theorem real_diff (A : FVec Ideal Cert.Pre_finite_diff.S26x32768x128 .f32) (C : FVec Ideal Cert.Pre_finite_diff.S26x2048x128 .f32)
    (V : FVec Ideal Cert.Pre_finite_diff.S10x32768x128 .f32) (W : FVec Ideal Cert.Pre_finite_diff.S10x2048x128 .f32)
    (a b c d : FVec Ideal Cert.Pre_finite_diff.S64 .f32) (g : FVec Ideal Cert.Pre_finite_diff.S128 .f32)
    (h : Cert.Pre_finite_diff.fn (F := Ideal) A C V W a b c d g = fun _ => 1#1) :
    Cert.DiffIdeal.Mine.RealArrays A C V W ∧ Cert.DiffIdeal.Mine.RealVector a ∧ Cert.DiffIdeal.Mine.RealVector b
    ∧ Cert.DiffIdeal.Mine.RealVector c ∧ Cert.DiffIdeal.Mine.RealVector d := by
  have e := congrFun h (Shape.Idx.first Cert.Pre_finite_diff.Gen.h_S_)
  unfold Cert.Pre_finite_diff.fn Cert.Pre_finite_diff.fn_part1 Cert.Pre_finite_diff.fn_part2 Cert.Pre_finite_diff.fn_part3 at e
  dsimp only at e
  obtain ⟨eh, ev⟩ := IntOp.andi_eq_one.1 e
  obtain ⟨eh, ex⟩ := IntOp.andi_eq_one.1 eh
  obtain ⟨eq, ek⟩ := IntOp.andi_eq_one.1 eh
  obtain ⟨e0, e1⟩ := IntOp.andi_eq_one.1 eq
  obtain ⟨ek, e2⟩ := IntOp.andi_eq_one.1 ek
  obtain ⟨e3, e4⟩ := IntOp.andi_eq_one.1 ex
  obtain ⟨ev, ew⟩ := IntOp.andi_eq_one.1 ev
  obtain ⟨e5, e6⟩ := IntOp.andi_eq_one.1 ev
  obtain ⟨e7, e8⟩ := IntOp.andi_eq_one.1 ew
  have : Subsingleton Cert.Pre_finite_diff.S_.Idx := ⟨fun a b => funext fun x => x.elim0⟩
  refine ⟨⟨fun s R d h6 h18 hq => ?_, fun s R d h14 h18 => ?_, fun s R d h2 h6 => ?_, fun s R d h2 h6 => ?_⟩,
    fun i => Attention.real_of_lt _ (Host.reduce_andi_all _ _ _ _ _ e5 (ix1 i)),
    fun i => Attention.real_of_lt _ (Host.reduce_andi_all _ _ _ _ _ e6 (ix1 i)),
    fun i => Attention.real_of_lt _ (Host.reduce_andi_all _ _ _ _ _ e7 (ix1 i)),
    fun i => Attention.real_of_lt _ (Host.reduce_andi_all _ _ _ _ _ e8 (ix1 i))⟩
  · by_cases h14 : s.val < 14
    · by_cases he : d.val < 64
      · obtain ⟨y, hy⟩ := Attention.real_of_lt _ (Host.reduce_andi_all _ _ _ _ _ e0 (ix4 ⟨(s.val - 6) / 2, by omega⟩ 0 R ⟨d.val, he⟩))
        refine ⟨y, Eq.trans ?_ hy⟩
        pointwise
        blk_ext
      · obtain ⟨y, hy⟩ := Attention.real_of_lt _ (Host.reduce_andi_all _ _ _ _ _ e1 (ix4 ⟨(s.val - 6) / 2, by omega⟩ 0 R ⟨d.val - 64, by omega⟩))
        refine ⟨y, Eq.trans ?_ hy⟩
        pointwise
        blk_ext
    · obtain ⟨y, hy⟩ := Attention.real_of_lt _ (Host.reduce_andi_all _ _ _ _ _ ek (ix3 ⟨s.val - 14, by omega⟩ R d))
      refine ⟨y, Eq.trans ?_ hy⟩
      pointwise
      blk_ext
  · obtain ⟨y, hy⟩ := Attention.real_of_lt _ (Host.reduce_andi_all _ _ _ _ _ e2 (ix3 ⟨s.val - 14, by omega⟩ R d))
    refine ⟨y, Eq.trans ?_ hy⟩
    pointwise
    blk_ext
  · obtain ⟨y, hy⟩ := Attention.real_of_lt _ (Host.reduce_andi_all _ _ _ _ _ e3 (ix3 ⟨s.val - 2, by omega⟩ R d))
    refine ⟨y, Eq.trans ?_ hy⟩
    pointwise
    blk_ext
  · obtain ⟨y, hy⟩ := Attention.real_of_lt _ (Host.reduce_andi_all _ _ _ _ _ e4 (ix3 ⟨s.val - 2, by omega⟩ R d))
    refine ⟨y, Eq.trans ?_ hy⟩
    pointwise
    blk_ext

/-- The reference runs, leaves its arguments as they were and every semaphore at zero. -/
theorem diff_ref_frame : Cert.quiescent_DiffRefIdeal (hDiffRefIdeal := Cert.DiffRefIdeal.Gen.facts) := fun m ρ _ =>
  (θ_run Cert.DiffRefIdeal.defs _ _).mono (fun r h => ⟨fun c => (h c).2, sem_eq_zero_of_no_sems (by decide) r.2⟩)
    (Cert.DiffRefIdeal.Value.run (F := Ideal) m ρ)

/-- The attention's result is the reference's where the queries' halves, keys, values and the four vectors are finite. -/
theorem diff_algebraic : Cert.algebraic_DiffIdeal_DiffRefIdeal_pre_finite_diff (hDiffIdeal := Cert.DiffIdeal.Gen.facts)
    (hDiffRefIdeal := Cert.DiffRefIdeal.Gen.facts) (hPre_finite_diff := Cert.Pre_finite_diff.Gen.facts) := by
  pair_intro
  · run_from Cert.DiffIdeal.Value.run_blocks m g
  · run_from Cert.DiffRefIdeal.Value.run m' g'
    refine (Cert.DiffRefIdeal.Mine.res_eq m' c).trans ?_
    obtain ⟨h0, h1, h2, h3, h4, h5, h6, h7, h8⟩ := hagree c
    rw [h0, h1, h2, h3, h4, h5, h6, h7, h8]
    obtain ⟨hf, ha, hb, hc, hd⟩ := real_diff _ _ _ _ _ _ _ _ _ (hpre c)
    exact (Cert.DiffIdeal.Mine.final m c hf ha hb hc hd).symm

end Cert.Proof

end
-- ==== Proof.lean ====
/- The certificate: every claim from its module. -/
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite_heads
public import proofs.«01_k».proof.Proof.Gen.GqaIdeal.Value
public import proofs.«01_k».proof.Proof.Gen.GqaRefIdeal.Run
public import proofs.«01_k».proof.Proof.Gen.FfnIdeal.Value
public import proofs.«01_k».proof.Proof.Gen.FfnRefIdeal.Run
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.Outproj.Frame
public import proofs.«01_k».proof.Proof.Gen.OutprojIdeal.Frame
public import proofs.«01_k».proof.Proof.Gen.OutprojIdeal.Value
public import proofs.«01_k».proof.Proof.Gen.OutprojRefIdeal.Run
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Gen.Pre_finite_mla
public import proofs.«01_k».proof.Proof.Gen.Diff.Frame
public import proofs.«01_k».proof.Proof.Gen.DiffIdeal.Frame
public import proofs.«01_k».proof.Proof.Gen.DiffIdeal.Value
public import proofs.«01_k».proof.Proof.Gen.DiffRefIdeal.Run
public import proofs.«01_k».proof.Proof.Gen.Pre_finite_diff
public import Idealize.ShloMosaic.Adequacy
public import Idealize.ShloMosaic.Init
public import proofs.«01_k».proof.Proof.GqaClaims
public import proofs.«01_k».proof.Proof.FfnClaims
public import proofs.«01_k».proof.Proof.InprojClaims
public import proofs.«01_k».proof.Proof.OutprojClaims
public import proofs.«01_k».proof.Proof.MlaClaims
public import proofs.«01_k».proof.Proof.DiffClaims

@[expose] public section

noncomputable section

namespace Cert.Proof

open Idealize.ShloMosaic Idealize.SL.Sem

/-- Every claim of the certificate. -/
theorem claim : Cert.Claim :=
  ⟨Cert.Gqa.Gen.facts, Cert.GqaIdeal.Gen.facts, Cert.GqaRefIdeal.Gen.facts, Cert.Ffn.Gen.facts, Cert.FfnIdeal.Gen.facts,
    Cert.FfnRefIdeal.Gen.facts, Cert.Inproj.Gen.facts, Cert.InprojIdeal.Gen.facts, Cert.InprojRefIdeal.Gen.facts,
    Cert.Outproj.Gen.facts, Cert.OutprojIdeal.Gen.facts, Cert.OutprojRefIdeal.Gen.facts,
    Cert.Mla.Gen.facts, Cert.MlaIdeal.Gen.facts, Cert.MlaRefIdeal.Gen.facts,
    Cert.Diff.Gen.facts, Cert.DiffIdeal.Gen.facts, Cert.DiffRefIdeal.Gen.facts,
    Cert.Pre_finite_heads.Gen.facts, Cert.Pre_finite_mla.Gen.facts, Cert.Pre_finite_diff.Gen.facts,
    fun m ρ _ => Cert.Gqa.Gen.frame m ρ,
    fun m ρ _ => Cert.GqaIdeal.Gen.frame m ρ,
    fun m ρ _ => Cert.GqaIdeal.Gen.frame m ρ,
    gqa_ref_frame,
    fun m ρ _ => gqa_ref_frame m ρ trivial,
    fun m ρ _ => Cert.Ffn.Gen.frame m ρ,
    fun m ρ _ => Cert.FfnIdeal.Gen.frame m ρ,
    ffn_ref_frame,
    fun m ρ _ => Cert.Inproj.Gen.frame m ρ,
    fun m ρ _ => Cert.InprojIdeal.Gen.frame m ρ,
    inproj_ref_frame,
    fun m ρ _ => Cert.Outproj.Gen.frame m ρ,
    fun m ρ _ => Cert.OutprojIdeal.Gen.frame m ρ,
    outproj_ref_frame,
    fun m ρ _ => Cert.Mla.Gen.frame m ρ,
    fun m ρ _ => Cert.MlaIdeal.Gen.frame m ρ,
    fun m ρ _ => Cert.MlaIdeal.Gen.frame m ρ,
    mla_ref_frame,
    fun m ρ _ => mla_ref_frame m ρ trivial,
    fun m ρ _ => Cert.Diff.Gen.frame m ρ,
    fun m ρ _ => Cert.DiffIdeal.Gen.frame m ρ,
    fun m ρ _ => Cert.DiffIdeal.Gen.frame m ρ,
    diff_ref_frame,
    fun m ρ _ => diff_ref_frame m ρ trivial,
    trivial,
    gqa_algebraic,
    trivial,
    ffn_algebraic,
    trivial,
    inproj_algebraic,
    trivial,
    outproj_algebraic,
    trivial,
    mla_algebraic,
    trivial,
    diff_algebraic⟩

end Cert.Proof

end
